-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_z [hPre_finite_z : Cert.Pre_finite_z.Facts] (m : (ℓ : Loc Cert.KernelIdeal.nD Cert.KernelIdeal.τ Cert.KernelIdeal.sig) → Buf (Elt Ideal) ℓ) : Prop :=
  ∀ c : Dev Cert.KernelIdeal.nD,
    (Cert.Pre_finite_z.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_z [hPre_finite_z : Cert.Pre_finite_z.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_z.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_z [hKernelIdeal : Cert.KernelIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_z m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_z [hReferenceIdeal : Cert.ReferenceIdeal.Facts] [hPre_finite_z : Cert.Pre_finite_z.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_z m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_z [hKernelIdeal : Cert.KernelIdeal.Facts] [hReferenceIdeal : Cert.ReferenceIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_z m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_z : Cert.Pre_finite_z.Facts),
    quiescent_Kernel (hKernel := hKernel)
    ∧ quiescent_KernelIdeal (hKernelIdeal := hKernelIdeal)
    ∧ quiescent_KernelIdeal_pre_finite_z (hKernelIdeal := hKernelIdeal) (hPre_finite_z := hPre_finite_z)
    ∧ quiescent_ReferenceIdeal (hReferenceIdeal := hReferenceIdeal)
    ∧ quiescent_ReferenceIdeal_pre_finite_z (hReferenceIdeal := hReferenceIdeal) (hPre_finite_z := hPre_finite_z)
    ∧ preserves_Kernel_KernelIdeal
    ∧ algebraic_KernelIdeal_ReferenceIdeal_pre_finite_z (hKernelIdeal := hKernelIdeal) (hReferenceIdeal := hReferenceIdeal) (hPre_finite_z := hPre_finite_z)
-- ==== Pre_finite_z.lean ====
abbrev S8x64x32x32 : Shape := ⟨4, ![8, 64, 32, 32]⟩
abbrev S256x1024 : Shape := ⟨2, ![256, 1024]⟩
abbrev S1024 : Shape := ⟨1, ![1024]⟩
abbrev S_ : Shape := ⟨0, ![]⟩

class Facts : Prop where
  bcast_S_S8x64x32x32 : S_.BroadcastsInDim S8x64x32x32 (![] : Fin 0 → Fin S8x64x32x32.rank)

variable [Facts]

def fn {F : FTy → Type} [FloatOps F] (main_arg0 : FVec F S8x64x32x32 .f32) (main_arg1 : FVec F S256x1024 .f32) (main_arg2 : FVec F S1024 .f32) : IVec S8x64x32x32 1 :=
  let main_v0 : FVec F S8x64x32x32 .f32 := Host.absf main_arg0
  let main_cst : FVec F S_ .f32 := constant S_ .f32 0x7F800000#32
  let main_v1 : FVec F S8x64x32x32 .f32 := broadcastInDim S8x64x32x32 ![] bcast_S_S8x64x32x32 main_cst
  let main_v2 : IVec S8x64x32x32 1 := cmpf .olt main_v0 main_v1
  main_v2
-- ==== Kernel.lean ====
abbrev S8x64x32x32 : Shape := ⟨4, ![8, 64, 32, 32]⟩
abbrev S256x1024 : Shape := ⟨2, ![256, 1024]⟩
abbrev S1024 : Shape := ⟨1, ![1024]⟩
abbrev S8x64x16x2x16x2 : Shape := ⟨6, ![8, 64, 16, 2, 16, 2]⟩
abbrev S8x16x16x64x2x2 : Shape := ⟨6, ![8, 16, 16, 64, 2, 2]⟩
abbrev S2048x256 : Shape := ⟨2, ![2048, 256]⟩
abbrev S_ : Shape := ⟨0, ![]⟩
abbrev S1x1024 : Shape := ⟨2, ![1, 1024]⟩
abbrev S1024x1024 : Shape := ⟨2, ![1024, 1024]⟩
abbrev S2048x1024 : Shape := ⟨2, ![2048, 1024]⟩
abbrev S2048x1x1 : Shape := ⟨3, ![2048, 1, 1]⟩
abbrev S2048 : Shape := ⟨1, ![2048]⟩
abbrev S2048x1 : Shape := ⟨2, ![2048, 1]⟩
abbrev S2048x2 : Shape := ⟨2, ![2048, 2]⟩
abbrev S1 : Shape := ⟨1, ![1]⟩
abbrev S1x1x1 : Shape := ⟨3, ![1, 1, 1]⟩
abbrev S2048x1x1024 : Shape := ⟨3, ![2048, 1, 1024]⟩
abbrev S2048x1x2 : Shape := ⟨3, ![2048, 1, 2]⟩
abbrev S2048x2x2 : Shape := ⟨3, ![2048, 2, 2]⟩
abbrev S2048x2x1 : Shape := ⟨3, ![2048, 2, 1]⟩
abbrev S2048x2x1024 : Shape := ⟨3, ![2048, 2, 1024]⟩
abbrev S2048x2x3 : Shape := ⟨3, ![2048, 2, 3]⟩
abbrev S2048x1x3 : Shape := ⟨3, ![2048, 1, 3]⟩
abbrev S2048x3x3 : Shape := ⟨3, ![2048, 3, 3]⟩
abbrev S2048x3 : Shape := ⟨2, ![2048, 3]⟩
abbrev S2048x3x1 : Shape := ⟨3, ![2048, 3, 1]⟩
abbrev S2048x3x1024 : Shape := ⟨3, ![2048, 3, 1024]⟩
abbrev S2048x3x2 : Shape := ⟨3, ![2048, 3, 2]⟩
abbrev S2048x3x4 : Shape := ⟨3, ![2048, 3, 4]⟩
abbrev S2048x1x4 : Shape := ⟨3, ![2048, 1, 4]⟩
abbrev S2048x4x4 : Shape := ⟨3, ![2048, 4, 4]⟩
abbrev S2048x4 : Shape := ⟨2, ![2048, 4]⟩
abbrev S2048x4x1 : Shape := ⟨3, ![2048, 4, 1]⟩
abbrev S2048x4x1024 : Shape := ⟨3, ![2048, 4, 1024]⟩
abbrev S2048x4x2 : Shape := ⟨3, ![2048, 4, 2]⟩
abbrev S2048x4x5 : Shape := ⟨3, ![2048, 4, 5]⟩
abbrev S2048x1x5 : Shape := ⟨3, ![2048, 1, 5]⟩
abbrev S2048x5x5 : Shape := ⟨3, ![2048, 5, 5]⟩
abbrev S2048x5 : Shape := ⟨2, ![2048, 5]⟩
abbrev S2048x5x1 : Shape := ⟨3, ![2048, 5, 1]⟩
abbrev S5x2048 : Shape := ⟨2, ![5, 2048]⟩
abbrev S5x2048x1 : Shape := ⟨3, ![5, 2048, 1]⟩
abbrev S1x1x1024 : Shape := ⟨3, ![1, 1, 1024]⟩
abbrev S5x2048x1024 : Shape := ⟨3, ![5, 2048, 1024]⟩
abbrev S1x1 : Shape := ⟨2, ![1, 1]⟩
abbrev S5x512x1024 : Shape := ⟨3, ![5, 512, 1024]⟩
abbrev S512x5 : Shape := ⟨2, ![512, 5]⟩
abbrev S512x256 : Shape := ⟨2, ![512, 256]⟩
abbrev S1x512x1024 : Shape := ⟨3, ![1, 512, 1024]⟩
abbrev S512x1024 : Shape := ⟨2, ![512, 1024]⟩
abbrev S512x1 : Shape := ⟨2, ![512, 1]⟩
abbrev S1x512x256 : Shape := ⟨3, ![1, 512, 256]⟩

abbrev nBuf : Space → Nat
  | .hbm => 987
  | .vmem => 14
  | .smem => 0
  | _ => 0

abbrev hbmTy0_0 (i : Nat) : BufTy := match i % 128 with
  | 0 => ⟨S8x64x32x32, .f32⟩
  | 1 => ⟨S256x1024, .f32⟩
  | 2 => ⟨S1024, .f32⟩
  | 3 => ⟨S8x64x16x2x16x2, .f32⟩
  | 4 => ⟨S8x16x16x64x2x2, .f32⟩
  | 5 => ⟨S2048x256, .f32⟩
  | 6 => ⟨S256x1024, .f32⟩
  | 7 => ⟨S_, .f32⟩
  | 8 => ⟨S1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S256x1024, .f32⟩
  | 15 => ⟨S256x1024, .f32⟩
  | 16 => ⟨S1024x1024, .f32⟩
  | 17 => ⟨S2048x1024, .f32⟩
  | 18 => ⟨S_, .f32⟩
  | 19 => ⟨S_, .f32⟩
  | 20 => ⟨S_, .f32⟩
  | 21 => ⟨S_, .f32⟩
  | 22 => ⟨S1024, .f32⟩
  | 23 => ⟨S1024, .f32⟩
  | 24 => ⟨S_, .f32⟩
  | 25 => ⟨S1024, .f32⟩
  | 26 => ⟨S1024, .f32⟩
  | 27 => ⟨S_, .f32⟩
  | 28 => ⟨S1024, .f32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S_, .f32⟩
  | 37 => ⟨S2048x1x1, .f32⟩
  | 38 => ⟨S_, .i1⟩
  | 39 => ⟨S2048x1024, .i1⟩
  | 40 => ⟨S2048, .i32⟩
  | 41 => ⟨S2048x1024, .f32⟩
  | 42 => ⟨S2048x1024, .f32⟩
  | 43 => ⟨S2048x1024, .f32⟩
  | 44 => ⟨S1x1024, .f32⟩
  | 45 => ⟨S2048x1024, .f32⟩
  | 46 => ⟨S2048x1024, .f32⟩
  | 47 => ⟨S2048x1024, .i32⟩
  | 48 => ⟨S_, .f32⟩
  | 49 => ⟨S_, .i32⟩
  | 50 => ⟨S2048, .f32⟩
  | 51 => ⟨S2048, .i32⟩
  | 52 => ⟨S_, .i32⟩
  | 53 => ⟨S2048, .i32⟩
  | 54 => ⟨S2048, .i1⟩
  | 55 => ⟨S_, .i32⟩
  | 56 => ⟨S2048, .i32⟩
  | 57 => ⟨S2048, .i32⟩
  | 58 => ⟨S2048, .i32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S2048x1, .i32⟩
  | 68 => ⟨S2048x2, .i32⟩
  | 69 => ⟨S_, .i1⟩
  | 70 => ⟨S2048, .i1⟩
  | 71 => ⟨S2048x1024, .i1⟩
  | 72 => ⟨S2048x1, .i32⟩
  | 73 => ⟨S_, .i32⟩
  | 74 => ⟨S2048x1, .i32⟩
  | 75 => ⟨S2048x1, .i1⟩
  | 76 => ⟨S_, .i32⟩
  | 77 => ⟨S2048x1, .i32⟩
  | 78 => ⟨S2048x1, .i32⟩
  | 79 => ⟨S2048x1, .i32⟩
  | 80 => ⟨S2048x1x1, .i32⟩
  | 81 => ⟨S1, .i32⟩
  | 82 => ⟨S_, .i32⟩
  | 83 => ⟨S2048x1x1, .i32⟩
  | 84 => ⟨S2048x1x1, .i1⟩
  | 85 => ⟨S1x1x1, .i32⟩
  | 86 => ⟨S2048x1x1, .i32⟩
  | 87 => ⟨S2048x1x1, .i1⟩
  | 88 => ⟨S2048x1x1, .i1⟩
  | 89 => ⟨S_, .i1⟩
  | 90 => ⟨S2048x1, .i1⟩
  | 91 => ⟨S2048x1, .f32⟩
  | 92 => ⟨S_, .f32⟩
  | 93 => ⟨S2048x1, .f32⟩
  | 94 => ⟨S2048x1, .f32⟩
  | 95 => ⟨S2048x1x1, .f32⟩
  | 96 => ⟨S2048x1, .f32⟩
  | 97 => ⟨S2048x1, .f32⟩
  | 98 => ⟨S2048x1, .f32⟩
  | 99 => ⟨S2048x1x1, .f32⟩
  | 100 => ⟨S2048x1x1, .f32⟩
  | 101 => ⟨S2048x1, .f32⟩
  | 102 => ⟨S2048x1, .f32⟩
  | 103 => ⟨S2048x1, .f32⟩
  | 104 => ⟨S2048x1x1, .f32⟩
  | 105 => ⟨S2048x1, .f32⟩
  | 106 => ⟨S_, .i32⟩
  | 107 => ⟨S2048x1, .i32⟩
  | 108 => ⟨S2048x1, .i1⟩
  | 109 => ⟨S_, .i32⟩
  | 110 => ⟨S2048x1, .i32⟩
  | 111 => ⟨S2048x1, .i32⟩
  | 112 => ⟨S2048x1, .i32⟩
  | 113 => ⟨S2048x1x1, .i32⟩
  | 114 => ⟨S2048x1x1024, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S1x1024, .f32⟩
  | 121 => ⟨S2048x1024, .f32⟩
  | 122 => ⟨S2048x1024, .f32⟩
  | 123 => ⟨S2048x1024, .i32⟩
  | 124 => ⟨S_, .f32⟩
  | 125 => ⟨S_, .i32⟩
  | 126 => ⟨S2048, .f32⟩
  | 127 => ⟨S2048, .i32⟩
  | _ => ⟨S8x64x32x32, .f32⟩

abbrev hbmTy0_1 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S2048, .i32⟩
  | 14 => ⟨S2048x1, .i32⟩
  | 15 => ⟨S2048x1, .i32⟩
  | 16 => ⟨S2048x2, .i32⟩
  | 17 => ⟨S_, .i1⟩
  | 18 => ⟨S2048, .i1⟩
  | 19 => ⟨S2048x1024, .i1⟩
  | 20 => ⟨S2048x1, .i32⟩
  | 21 => ⟨S_, .i32⟩
  | 22 => ⟨S2048x1, .i32⟩
  | 23 => ⟨S2048x1, .i1⟩
  | 24 => ⟨S_, .i32⟩
  | 25 => ⟨S2048x1, .i32⟩
  | 26 => ⟨S2048x1, .i32⟩
  | 27 => ⟨S2048x1, .i32⟩
  | 28 => ⟨S_, .i32⟩
  | 29 => ⟨S2048x1, .i32⟩
  | 30 => ⟨S2048x1, .i1⟩
  | 31 => ⟨S_, .i32⟩
  | 32 => ⟨S2048x1, .i32⟩
  | 33 => ⟨S2048x1, .i32⟩
  | 34 => ⟨S2048x1, .i32⟩
  | 35 => ⟨S2048x1x1, .i32⟩
  | 36 => ⟨S2048x1x1, .i32⟩
  | 37 => ⟨S2048x1x2, .i32⟩
  | 38 => ⟨S2048x1, .f32⟩
  | 39 => ⟨S2048x1x1, .f32⟩
  | 40 => ⟨S2048x1, .f32⟩
  | 41 => ⟨S2048x1, .f32⟩
  | 42 => ⟨S2048x1, .f32⟩
  | 43 => ⟨S2048x1x1, .f32⟩
  | 44 => ⟨S2048x1x1, .f32⟩
  | 45 => ⟨S2048x1x1, .f32⟩
  | 46 => ⟨S_, .f32⟩
  | 47 => ⟨S2048x1, .f32⟩
  | 48 => ⟨S2048x1x1, .f32⟩
  | 49 => ⟨S_, .f32⟩
  | 50 => ⟨S2048x1x1, .f32⟩
  | 51 => ⟨S2048x1x1, .f32⟩
  | 52 => ⟨S_, .f32⟩
  | 53 => ⟨S2048x1x1, .f32⟩
  | 54 => ⟨S2048x1x1, .f32⟩
  | 55 => ⟨S2048x1x1, .f32⟩
  | 56 => ⟨S_, .f32⟩
  | 57 => ⟨S2048x1x1, .f32⟩
  | 58 => ⟨S2048x1x2, .f32⟩
  | 59 => ⟨S2048x1x2, .f32⟩
  | 60 => ⟨S2048x2x2, .f32⟩
  | 61 => ⟨S2048x1, .i32⟩
  | 62 => ⟨S2048x2, .i32⟩
  | 63 => ⟨S_, .i32⟩
  | 64 => ⟨S2048x2, .i32⟩
  | 65 => ⟨S2048x2, .i1⟩
  | 66 => ⟨S_, .i32⟩
  | 67 => ⟨S2048x2, .i32⟩
  | 68 => ⟨S2048x2, .i32⟩
  | 69 => ⟨S2048x2, .i32⟩
  | 70 => ⟨S2048x2x1, .i32⟩
  | 71 => ⟨S1, .i32⟩
  | 72 => ⟨S_, .i32⟩
  | 73 => ⟨S2048x2x1, .i32⟩
  | 74 => ⟨S2048x2x1, .i1⟩
  | 75 => ⟨S1x1x1, .i32⟩
  | 76 => ⟨S2048x2x1, .i32⟩
  | 77 => ⟨S2048x2x1, .i1⟩
  | 78 => ⟨S2048x2x1, .i1⟩
  | 79 => ⟨S_, .i1⟩
  | 80 => ⟨S2048x2, .i1⟩
  | 81 => ⟨S2048x2, .f32⟩
  | 82 => ⟨S_, .f32⟩
  | 83 => ⟨S2048x2, .f32⟩
  | 84 => ⟨S2048x2, .f32⟩
  | 85 => ⟨S2048x2x1, .f32⟩
  | 86 => ⟨S2048x1x1, .f32⟩
  | 87 => ⟨S2048x1, .f32⟩
  | 88 => ⟨S2048x1x1, .f32⟩
  | 89 => ⟨S2048x1, .f32⟩
  | 90 => ⟨S2048x1, .f32⟩
  | 91 => ⟨S2048x1x1, .f32⟩
  | 92 => ⟨S2048x1, .f32⟩
  | 93 => ⟨S2048x1x1, .f32⟩
  | 94 => ⟨S2048x1, .f32⟩
  | 95 => ⟨S2048x1, .f32⟩
  | 96 => ⟨S2048x1, .f32⟩
  | 97 => ⟨S2048x1x1, .f32⟩
  | 98 => ⟨S2048x1, .f32⟩
  | 99 => ⟨S2048x1, .f32⟩
  | 100 => ⟨S2048x1x1, .f32⟩
  | 101 => ⟨S2048x1x1, .f32⟩
  | 102 => ⟨S2048x2x1, .f32⟩
  | 103 => ⟨S2048x2x2, .f32⟩
  | 104 => ⟨S2048x1x1, .f32⟩
  | 105 => ⟨S2048x1, .f32⟩
  | 106 => ⟨S2048x1x1, .f32⟩
  | 107 => ⟨S2048x1, .f32⟩
  | 108 => ⟨S2048x1, .f32⟩
  | 109 => ⟨S2048x1x1, .f32⟩
  | 110 => ⟨S2048x1, .f32⟩
  | 111 => ⟨S2048x1x1, .f32⟩
  | 112 => ⟨S2048x1, .f32⟩
  | 113 => ⟨S2048x1, .f32⟩
  | 114 => ⟨S2048x1, .f32⟩
  | 115 => ⟨S2048x1x1, .f32⟩
  | 116 => ⟨S2048x1, .f32⟩
  | 117 => ⟨S2048x1, .f32⟩
  | 118 => ⟨S2048x1x1, .f32⟩
  | 119 => ⟨S2048x1x1, .f32⟩
  | 120 => ⟨S2048x2x1, .f32⟩
  | 121 => ⟨S2048x2, .f32⟩
  | 122 => ⟨S_, .i32⟩
  | 123 => ⟨S2048x2, .i32⟩
  | 124 => ⟨S2048x2, .i1⟩
  | 125 => ⟨S_, .i32⟩
  | 126 => ⟨S2048x2, .i32⟩
  | 127 => ⟨S2048x2, .i32⟩
  | _ => ⟨S8x64x32x32, .f32⟩

abbrev hbmTy0_2 (i : Nat) : BufTy := match i % 128 with
  | 0 => ⟨S2048x2, .i32⟩
  | 1 => ⟨S2048x2x1, .i32⟩
  | 2 => ⟨S2048x2x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S1x1024, .f32⟩
  | 9 => ⟨S2048x1024, .f32⟩
  | 10 => ⟨S2048x1024, .f32⟩
  | 11 => ⟨S2048x1024, .i32⟩
  | 12 => ⟨S_, .f32⟩
  | 13 => ⟨S_, .i32⟩
  | 14 => ⟨S2048, .f32⟩
  | 15 => ⟨S2048, .i32⟩
  | 16 => ⟨S_, .i32⟩
  | 17 => ⟨S2048, .i32⟩
  | 18 => ⟨S2048, .i1⟩
  | 19 => ⟨S_, .i32⟩
  | 20 => ⟨S2048, .i32⟩
  | 21 => ⟨S2048, .i32⟩
  | 22 => ⟨S2048, .i32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S2048, .i32⟩
  | 30 => ⟨S2048x1, .i32⟩
  | 31 => ⟨S2048x1, .i32⟩
  | 32 => ⟨S2048x2, .i32⟩
  | 33 => ⟨S_, .i1⟩
  | 34 => ⟨S2048, .i1⟩
  | 35 => ⟨S2048x1024, .i1⟩
  | 36 => ⟨S2048x1, .i32⟩
  | 37 => ⟨S_, .i32⟩
  | 38 => ⟨S2048x2, .i32⟩
  | 39 => ⟨S2048x2, .i1⟩
  | 40 => ⟨S_, .i32⟩
  | 41 => ⟨S2048x2, .i32⟩
  | 42 => ⟨S2048x2, .i32⟩
  | 43 => ⟨S2048x2, .i32⟩
  | 44 => ⟨S_, .i32⟩
  | 45 => ⟨S2048x1, .i32⟩
  | 46 => ⟨S2048x1, .i1⟩
  | 47 => ⟨S_, .i32⟩
  | 48 => ⟨S2048x1, .i32⟩
  | 49 => ⟨S2048x1, .i32⟩
  | 50 => ⟨S2048x1, .i32⟩
  | 51 => ⟨S2048x2, .i32⟩
  | 52 => ⟨S2048x2x1, .i32⟩
  | 53 => ⟨S2048x2x1, .i32⟩
  | 54 => ⟨S2048x2x2, .i32⟩
  | 55 => ⟨S2048x2, .f32⟩
  | 56 => ⟨S2048x2x1, .f32⟩
  | 57 => ⟨S2048x1x1, .f32⟩
  | 58 => ⟨S2048x1, .f32⟩
  | 59 => ⟨S2048x1x1, .f32⟩
  | 60 => ⟨S2048x1, .f32⟩
  | 61 => ⟨S2048x1, .f32⟩
  | 62 => ⟨S2048x1x1, .f32⟩
  | 63 => ⟨S2048x1, .f32⟩
  | 64 => ⟨S2048x1x1, .f32⟩
  | 65 => ⟨S2048x1, .f32⟩
  | 66 => ⟨S2048x1, .f32⟩
  | 67 => ⟨S2048x1, .f32⟩
  | 68 => ⟨S2048x1x1, .f32⟩
  | 69 => ⟨S2048x1, .f32⟩
  | 70 => ⟨S2048x1, .f32⟩
  | 71 => ⟨S2048x1x1, .f32⟩
  | 72 => ⟨S2048x1x1, .f32⟩
  | 73 => ⟨S2048x2x1, .f32⟩
  | 74 => ⟨S2048x1x2, .f32⟩
  | 75 => ⟨S2048x1x2, .f32⟩
  | 76 => ⟨S_, .f32⟩
  | 77 => ⟨S2048x1, .f32⟩
  | 78 => ⟨S2048x1x1, .f32⟩
  | 79 => ⟨S_, .f32⟩
  | 80 => ⟨S2048x1x1, .f32⟩
  | 81 => ⟨S2048x1x1, .f32⟩
  | 82 => ⟨S_, .f32⟩
  | 83 => ⟨S2048x1x1, .f32⟩
  | 84 => ⟨S2048x1x1, .f32⟩
  | 85 => ⟨S2048x1x1, .f32⟩
  | 86 => ⟨S_, .f32⟩
  | 87 => ⟨S2048x2x1, .f32⟩
  | 88 => ⟨S2048x2x3, .f32⟩
  | 89 => ⟨S2048x1x3, .f32⟩
  | 90 => ⟨S2048x3x3, .f32⟩
  | 91 => ⟨S2048x1, .i32⟩
  | 92 => ⟨S2048x3, .i32⟩
  | 93 => ⟨S_, .i32⟩
  | 94 => ⟨S2048x3, .i32⟩
  | 95 => ⟨S2048x3, .i1⟩
  | 96 => ⟨S_, .i32⟩
  | 97 => ⟨S2048x3, .i32⟩
  | 98 => ⟨S2048x3, .i32⟩
  | 99 => ⟨S2048x3, .i32⟩
  | 100 => ⟨S2048x3x1, .i32⟩
  | 101 => ⟨S1, .i32⟩
  | 102 => ⟨S_, .i32⟩
  | 103 => ⟨S2048x3x1, .i32⟩
  | 104 => ⟨S2048x3x1, .i1⟩
  | 105 => ⟨S1x1x1, .i32⟩
  | 106 => ⟨S2048x3x1, .i32⟩
  | 107 => ⟨S2048x3x1, .i1⟩
  | 108 => ⟨S2048x3x1, .i1⟩
  | 109 => ⟨S_, .i1⟩
  | 110 => ⟨S2048x3, .i1⟩
  | 111 => ⟨S2048x3, .f32⟩
  | 112 => ⟨S_, .f32⟩
  | 113 => ⟨S2048x3, .f32⟩
  | 114 => ⟨S2048x3, .f32⟩
  | 115 => ⟨S2048x3x1, .f32⟩
  | 116 => ⟨S2048x1x1, .f32⟩
  | 117 => ⟨S2048x1, .f32⟩
  | 118 => ⟨S2048x1x1, .f32⟩
  | 119 => ⟨S2048x1, .f32⟩
  | 120 => ⟨S2048x1, .f32⟩
  | 121 => ⟨S2048x1x1, .f32⟩
  | 122 => ⟨S2048x1, .f32⟩
  | 123 => ⟨S2048x1x1, .f32⟩
  | 124 => ⟨S2048x1, .f32⟩
  | 125 => ⟨S2048x1, .f32⟩
  | 126 => ⟨S2048x1, .f32⟩
  | 127 => ⟨S2048x1x1, .f32⟩
  | _ => ⟨S8x64x32x32, .f32⟩

abbrev hbmTy0_3 (i : Nat) : BufTy := match i % 128 with
  | 0 => ⟨S2048x1, .f32⟩
  | 1 => ⟨S2048x1, .f32⟩
  | 2 => ⟨S2048x1x1, .f32⟩
  | 3 => ⟨S2048x1, .f32⟩
  | 4 => ⟨S2048x1x1, .f32⟩
  | 5 => ⟨S2048x1, .f32⟩
  | 6 => ⟨S2048x1, .f32⟩
  | 7 => ⟨S2048x1, .f32⟩
  | 8 => ⟨S2048x1x1, .f32⟩
  | 9 => ⟨S2048x1, .f32⟩
  | 10 => ⟨S2048x1, .f32⟩
  | 11 => ⟨S2048x1, .f32⟩
  | 12 => ⟨S2048x1x1, .f32⟩
  | 13 => ⟨S2048x1, .f32⟩
  | 14 => ⟨S2048x1, .f32⟩
  | 15 => ⟨S2048x1x1, .f32⟩
  | 16 => ⟨S2048x1x1, .f32⟩
  | 17 => ⟨S2048x1x1, .f32⟩
  | 18 => ⟨S2048x3x1, .f32⟩
  | 19 => ⟨S2048x3x3, .f32⟩
  | 20 => ⟨S2048x1x1, .f32⟩
  | 21 => ⟨S2048x1, .f32⟩
  | 22 => ⟨S2048x1x1, .f32⟩
  | 23 => ⟨S2048x1, .f32⟩
  | 24 => ⟨S2048x1, .f32⟩
  | 25 => ⟨S2048x1x1, .f32⟩
  | 26 => ⟨S2048x1, .f32⟩
  | 27 => ⟨S2048x1x1, .f32⟩
  | 28 => ⟨S2048x1, .f32⟩
  | 29 => ⟨S2048x1, .f32⟩
  | 30 => ⟨S2048x1, .f32⟩
  | 31 => ⟨S2048x1x1, .f32⟩
  | 32 => ⟨S2048x1, .f32⟩
  | 33 => ⟨S2048x1, .f32⟩
  | 34 => ⟨S2048x1x1, .f32⟩
  | 35 => ⟨S2048x1, .f32⟩
  | 36 => ⟨S2048x1x1, .f32⟩
  | 37 => ⟨S2048x1, .f32⟩
  | 38 => ⟨S2048x1, .f32⟩
  | 39 => ⟨S2048x1, .f32⟩
  | 40 => ⟨S2048x1x1, .f32⟩
  | 41 => ⟨S2048x1, .f32⟩
  | 42 => ⟨S2048x1, .f32⟩
  | 43 => ⟨S2048x1, .f32⟩
  | 44 => ⟨S2048x1x1, .f32⟩
  | 45 => ⟨S2048x1, .f32⟩
  | 46 => ⟨S2048x1, .f32⟩
  | 47 => ⟨S2048x1x1, .f32⟩
  | 48 => ⟨S2048x1x1, .f32⟩
  | 49 => ⟨S2048x1x1, .f32⟩
  | 50 => ⟨S2048x3x1, .f32⟩
  | 51 => ⟨S2048x3, .f32⟩
  | 52 => ⟨S_, .i32⟩
  | 53 => ⟨S2048x3, .i32⟩
  | 54 => ⟨S2048x3, .i1⟩
  | 55 => ⟨S_, .i32⟩
  | 56 => ⟨S2048x3, .i32⟩
  | 57 => ⟨S2048x3, .i32⟩
  | 58 => ⟨S2048x3, .i32⟩
  | 59 => ⟨S2048x3x1, .i32⟩
  | 60 => ⟨S2048x3x1024, .f32⟩
  | 61 => ⟨S2048x1024, .f32⟩
  | 62 => ⟨S2048x1024, .f32⟩
  | 63 => ⟨S2048x1024, .f32⟩
  | 64 => ⟨S2048x1024, .f32⟩
  | 65 => ⟨S2048x1024, .f32⟩
  | 66 => ⟨S1x1024, .f32⟩
  | 67 => ⟨S2048x1024, .f32⟩
  | 68 => ⟨S2048x1024, .f32⟩
  | 69 => ⟨S2048x1024, .i32⟩
  | 70 => ⟨S_, .f32⟩
  | 71 => ⟨S_, .i32⟩
  | 72 => ⟨S2048, .f32⟩
  | 73 => ⟨S2048, .i32⟩
  | 74 => ⟨S_, .i32⟩
  | 75 => ⟨S2048, .i32⟩
  | 76 => ⟨S2048, .i1⟩
  | 77 => ⟨S_, .i32⟩
  | 78 => ⟨S2048, .i32⟩
  | 79 => ⟨S2048, .i32⟩
  | 80 => ⟨S2048, .i32⟩
  | 81 => ⟨S_, .i32⟩
  | 82 => ⟨S2048, .i32⟩
  | 83 => ⟨S2048, .i1⟩
  | 84 => ⟨S_, .i32⟩
  | 85 => ⟨S2048, .i32⟩
  | 86 => ⟨S2048, .i32⟩
  | 87 => ⟨S2048, .i32⟩
  | 88 => ⟨S2048x1, .i32⟩
  | 89 => ⟨S2048x1, .i32⟩
  | 90 => ⟨S2048x2, .i32⟩
  | 91 => ⟨S_, .i1⟩
  | 92 => ⟨S2048, .i1⟩
  | 93 => ⟨S2048x1024, .i1⟩
  | 94 => ⟨S2048x1, .i32⟩
  | 95 => ⟨S_, .i32⟩
  | 96 => ⟨S2048x3, .i32⟩
  | 97 => ⟨S2048x3, .i1⟩
  | 98 => ⟨S_, .i32⟩
  | 99 => ⟨S2048x3, .i32⟩
  | 100 => ⟨S2048x3, .i32⟩
  | 101 => ⟨S2048x3, .i32⟩
  | 102 => ⟨S_, .i32⟩
  | 103 => ⟨S2048x1, .i32⟩
  | 104 => ⟨S2048x1, .i1⟩
  | 105 => ⟨S_, .i32⟩
  | 106 => ⟨S2048x1, .i32⟩
  | 107 => ⟨S2048x1, .i32⟩
  | 108 => ⟨S2048x1, .i32⟩
  | 109 => ⟨S2048x3, .i32⟩
  | 110 => ⟨S2048x3x1, .i32⟩
  | 111 => ⟨S2048x3x1, .i32⟩
  | 112 => ⟨S2048x3x2, .i32⟩
  | 113 => ⟨S2048x3, .f32⟩
  | 114 => ⟨S2048x3x1, .f32⟩
  | 115 => ⟨S2048x1x1, .f32⟩
  | 116 => ⟨S2048x1, .f32⟩
  | 117 => ⟨S2048x1x1, .f32⟩
  | 118 => ⟨S2048x1, .f32⟩
  | 119 => ⟨S2048x1, .f32⟩
  | 120 => ⟨S2048x1x1, .f32⟩
  | 121 => ⟨S2048x1, .f32⟩
  | 122 => ⟨S2048x1x1, .f32⟩
  | 123 => ⟨S2048x1, .f32⟩
  | 124 => ⟨S2048x1, .f32⟩
  | 125 => ⟨S2048x1, .f32⟩
  | 126 => ⟨S2048x1x1, .f32⟩
  | 127 => ⟨S2048x1, .f32⟩
  | _ => ⟨S8x64x32x32, .f32⟩

abbrev hbmTy0_4 (i : Nat) : BufTy := match i % 128 with
  | 0 => ⟨S2048x1, .f32⟩
  | 1 => ⟨S2048x1x1, .f32⟩
  | 2 => ⟨S2048x1, .f32⟩
  | 3 => ⟨S2048x1x1, .f32⟩
  | 4 => ⟨S2048x1, .f32⟩
  | 5 => ⟨S2048x1, .f32⟩
  | 6 => ⟨S2048x1, .f32⟩
  | 7 => ⟨S2048x1x1, .f32⟩
  | 8 => ⟨S2048x1, .f32⟩
  | 9 => ⟨S2048x1, .f32⟩
  | 10 => ⟨S2048x1, .f32⟩
  | 11 => ⟨S2048x1x1, .f32⟩
  | 12 => ⟨S2048x1, .f32⟩
  | 13 => ⟨S2048x1, .f32⟩
  | 14 => ⟨S2048x1x1, .f32⟩
  | 15 => ⟨S2048x1x1, .f32⟩
  | 16 => ⟨S2048x1x1, .f32⟩
  | 17 => ⟨S2048x3x1, .f32⟩
  | 18 => ⟨S2048x1x3, .f32⟩
  | 19 => ⟨S2048x1x3, .f32⟩
  | 20 => ⟨S_, .f32⟩
  | 21 => ⟨S2048x1, .f32⟩
  | 22 => ⟨S2048x1x1, .f32⟩
  | 23 => ⟨S_, .f32⟩
  | 24 => ⟨S2048x1x1, .f32⟩
  | 25 => ⟨S2048x1x1, .f32⟩
  | 26 => ⟨S_, .f32⟩
  | 27 => ⟨S2048x1x1, .f32⟩
  | 28 => ⟨S2048x1x1, .f32⟩
  | 29 => ⟨S2048x1x1, .f32⟩
  | 30 => ⟨S_, .f32⟩
  | 31 => ⟨S2048x3x1, .f32⟩
  | 32 => ⟨S2048x3x4, .f32⟩
  | 33 => ⟨S2048x1x4, .f32⟩
  | 34 => ⟨S2048x4x4, .f32⟩
  | 35 => ⟨S2048x1, .i32⟩
  | 36 => ⟨S2048x4, .i32⟩
  | 37 => ⟨S_, .i32⟩
  | 38 => ⟨S2048x4, .i32⟩
  | 39 => ⟨S2048x4, .i1⟩
  | 40 => ⟨S_, .i32⟩
  | 41 => ⟨S2048x4, .i32⟩
  | 42 => ⟨S2048x4, .i32⟩
  | 43 => ⟨S2048x4, .i32⟩
  | 44 => ⟨S2048x4x1, .i32⟩
  | 45 => ⟨S1, .i32⟩
  | 46 => ⟨S_, .i32⟩
  | 47 => ⟨S2048x4x1, .i32⟩
  | 48 => ⟨S2048x4x1, .i1⟩
  | 49 => ⟨S1x1x1, .i32⟩
  | 50 => ⟨S2048x4x1, .i32⟩
  | 51 => ⟨S2048x4x1, .i1⟩
  | 52 => ⟨S2048x4x1, .i1⟩
  | 53 => ⟨S_, .i1⟩
  | 54 => ⟨S2048x4, .i1⟩
  | 55 => ⟨S2048x4, .f32⟩
  | 56 => ⟨S_, .f32⟩
  | 57 => ⟨S2048x4, .f32⟩
  | 58 => ⟨S2048x4, .f32⟩
  | 59 => ⟨S2048x4x1, .f32⟩
  | 60 => ⟨S2048x1x1, .f32⟩
  | 61 => ⟨S2048x1, .f32⟩
  | 62 => ⟨S2048x1x1, .f32⟩
  | 63 => ⟨S2048x1, .f32⟩
  | 64 => ⟨S2048x1, .f32⟩
  | 65 => ⟨S2048x1x1, .f32⟩
  | 66 => ⟨S2048x1, .f32⟩
  | 67 => ⟨S2048x1x1, .f32⟩
  | 68 => ⟨S2048x1, .f32⟩
  | 69 => ⟨S2048x1, .f32⟩
  | 70 => ⟨S2048x1, .f32⟩
  | 71 => ⟨S2048x1x1, .f32⟩
  | 72 => ⟨S2048x1, .f32⟩
  | 73 => ⟨S2048x1, .f32⟩
  | 74 => ⟨S2048x1x1, .f32⟩
  | 75 => ⟨S2048x1, .f32⟩
  | 76 => ⟨S2048x1x1, .f32⟩
  | 77 => ⟨S2048x1, .f32⟩
  | 78 => ⟨S2048x1, .f32⟩
  | 79 => ⟨S2048x1, .f32⟩
  | 80 => ⟨S2048x1x1, .f32⟩
  | 81 => ⟨S2048x1, .f32⟩
  | 82 => ⟨S2048x1, .f32⟩
  | 83 => ⟨S2048x1, .f32⟩
  | 84 => ⟨S2048x1x1, .f32⟩
  | 85 => ⟨S2048x1, .f32⟩
  | 86 => ⟨S2048x1, .f32⟩
  | 87 => ⟨S2048x1x1, .f32⟩
  | 88 => ⟨S2048x1, .f32⟩
  | 89 => ⟨S2048x1x1, .f32⟩
  | 90 => ⟨S2048x1, .f32⟩
  | 91 => ⟨S2048x1, .f32⟩
  | 92 => ⟨S2048x1, .f32⟩
  | 93 => ⟨S2048x1x1, .f32⟩
  | 94 => ⟨S2048x1, .f32⟩
  | 95 => ⟨S2048x1, .f32⟩
  | 96 => ⟨S2048x1, .f32⟩
  | 97 => ⟨S2048x1x1, .f32⟩
  | 98 => ⟨S2048x1, .f32⟩
  | 99 => ⟨S2048x1, .f32⟩
  | 100 => ⟨S2048x1, .f32⟩
  | 101 => ⟨S2048x1x1, .f32⟩
  | 102 => ⟨S2048x1, .f32⟩
  | 103 => ⟨S2048x1, .f32⟩
  | 104 => ⟨S2048x1x1, .f32⟩
  | 105 => ⟨S2048x1x1, .f32⟩
  | 106 => ⟨S2048x1x1, .f32⟩
  | 107 => ⟨S2048x1x1, .f32⟩
  | 108 => ⟨S2048x4x1, .f32⟩
  | 109 => ⟨S2048x4x4, .f32⟩
  | 110 => ⟨S2048x1x1, .f32⟩
  | 111 => ⟨S2048x1, .f32⟩
  | 112 => ⟨S2048x1x1, .f32⟩
  | 113 => ⟨S2048x1, .f32⟩
  | 114 => ⟨S2048x1, .f32⟩
  | 115 => ⟨S2048x1x1, .f32⟩
  | 116 => ⟨S2048x1, .f32⟩
  | 117 => ⟨S2048x1x1, .f32⟩
  | 118 => ⟨S2048x1, .f32⟩
  | 119 => ⟨S2048x1, .f32⟩
  | 120 => ⟨S2048x1, .f32⟩
  | 121 => ⟨S2048x1x1, .f32⟩
  | 122 => ⟨S2048x1, .f32⟩
  | 123 => ⟨S2048x1, .f32⟩
  | 124 => ⟨S2048x1x1, .f32⟩
  | 125 => ⟨S2048x1, .f32⟩
  | 126 => ⟨S2048x1x1, .f32⟩
  | 127 => ⟨S2048x1, .f32⟩
  | _ => ⟨S8x64x32x32, .f32⟩

abbrev hbmTy0_5 (i : Nat) : BufTy := match i % 128 with
  | 0 => ⟨S2048x1, .f32⟩
  | 1 => ⟨S2048x1, .f32⟩
  | 2 => ⟨S2048x1x1, .f32⟩
  | 3 => ⟨S2048x1, .f32⟩
  | 4 => ⟨S2048x1, .f32⟩
  | 5 => ⟨S2048x1, .f32⟩
  | 6 => ⟨S2048x1x1, .f32⟩
  | 7 => ⟨S2048x1, .f32⟩
  | 8 => ⟨S2048x1, .f32⟩
  | 9 => ⟨S2048x1x1, .f32⟩
  | 10 => ⟨S2048x1, .f32⟩
  | 11 => ⟨S2048x1x1, .f32⟩
  | 12 => ⟨S2048x1, .f32⟩
  | 13 => ⟨S2048x1, .f32⟩
  | 14 => ⟨S2048x1, .f32⟩
  | 15 => ⟨S2048x1x1, .f32⟩
  | 16 => ⟨S2048x1, .f32⟩
  | 17 => ⟨S2048x1, .f32⟩
  | 18 => ⟨S2048x1, .f32⟩
  | 19 => ⟨S2048x1x1, .f32⟩
  | 20 => ⟨S2048x1, .f32⟩
  | 21 => ⟨S2048x1, .f32⟩
  | 22 => ⟨S2048x1, .f32⟩
  | 23 => ⟨S2048x1x1, .f32⟩
  | 24 => ⟨S2048x1, .f32⟩
  | 25 => ⟨S2048x1, .f32⟩
  | 26 => ⟨S2048x1x1, .f32⟩
  | 27 => ⟨S2048x1x1, .f32⟩
  | 28 => ⟨S2048x1x1, .f32⟩
  | 29 => ⟨S2048x1x1, .f32⟩
  | 30 => ⟨S2048x4x1, .f32⟩
  | 31 => ⟨S2048x4, .f32⟩
  | 32 => ⟨S_, .i32⟩
  | 33 => ⟨S2048x4, .i32⟩
  | 34 => ⟨S2048x4, .i1⟩
  | 35 => ⟨S_, .i32⟩
  | 36 => ⟨S2048x4, .i32⟩
  | 37 => ⟨S2048x4, .i32⟩
  | 38 => ⟨S2048x4, .i32⟩
  | 39 => ⟨S2048x4x1, .i32⟩
  | 40 => ⟨S2048x4x1024, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S1x1024, .f32⟩
  | 47 => ⟨S2048x1024, .f32⟩
  | 48 => ⟨S2048x1024, .f32⟩
  | 49 => ⟨S2048x1024, .i32⟩
  | 50 => ⟨S_, .f32⟩
  | 51 => ⟨S_, .i32⟩
  | 52 => ⟨S2048, .f32⟩
  | 53 => ⟨S2048, .i32⟩
  | 54 => ⟨S_, .i32⟩
  | 55 => ⟨S2048, .i32⟩
  | 56 => ⟨S2048, .i1⟩
  | 57 => ⟨S_, .i32⟩
  | 58 => ⟨S2048, .i32⟩
  | 59 => ⟨S2048, .i32⟩
  | 60 => ⟨S2048, .i32⟩
  | 61 => ⟨S_, .i32⟩
  | 62 => ⟨S2048, .i32⟩
  | 63 => ⟨S2048, .i1⟩
  | 64 => ⟨S_, .i32⟩
  | 65 => ⟨S2048, .i32⟩
  | 66 => ⟨S2048, .i32⟩
  | 67 => ⟨S2048, .i32⟩
  | 68 => ⟨S2048x1, .i32⟩
  | 69 => ⟨S2048x1, .i32⟩
  | 70 => ⟨S2048x2, .i32⟩
  | 71 => ⟨S_, .i1⟩
  | 72 => ⟨S2048, .i1⟩
  | 73 => ⟨S2048x1024, .i1⟩
  | 74 => ⟨S2048x1, .i32⟩
  | 75 => ⟨S_, .i32⟩
  | 76 => ⟨S2048x4, .i32⟩
  | 77 => ⟨S2048x4, .i1⟩
  | 78 => ⟨S_, .i32⟩
  | 79 => ⟨S2048x4, .i32⟩
  | 80 => ⟨S2048x4, .i32⟩
  | 81 => ⟨S2048x4, .i32⟩
  | 82 => ⟨S_, .i32⟩
  | 83 => ⟨S2048x1, .i32⟩
  | 84 => ⟨S2048x1, .i1⟩
  | 85 => ⟨S_, .i32⟩
  | 86 => ⟨S2048x1, .i32⟩
  | 87 => ⟨S2048x1, .i32⟩
  | 88 => ⟨S2048x1, .i32⟩
  | 89 => ⟨S2048x4, .i32⟩
  | 90 => ⟨S2048x4x1, .i32⟩
  | 91 => ⟨S2048x4x1, .i32⟩
  | 92 => ⟨S2048x4x2, .i32⟩
  | 93 => ⟨S2048x4, .f32⟩
  | 94 => ⟨S2048x4x1, .f32⟩
  | 95 => ⟨S2048x1x1, .f32⟩
  | 96 => ⟨S2048x1, .f32⟩
  | 97 => ⟨S2048x1x1, .f32⟩
  | 98 => ⟨S2048x1, .f32⟩
  | 99 => ⟨S2048x1, .f32⟩
  | 100 => ⟨S2048x1x1, .f32⟩
  | 101 => ⟨S2048x1, .f32⟩
  | 102 => ⟨S2048x1x1, .f32⟩
  | 103 => ⟨S2048x1, .f32⟩
  | 104 => ⟨S2048x1, .f32⟩
  | 105 => ⟨S2048x1, .f32⟩
  | 106 => ⟨S2048x1x1, .f32⟩
  | 107 => ⟨S2048x1, .f32⟩
  | 108 => ⟨S2048x1, .f32⟩
  | 109 => ⟨S2048x1x1, .f32⟩
  | 110 => ⟨S2048x1, .f32⟩
  | 111 => ⟨S2048x1x1, .f32⟩
  | 112 => ⟨S2048x1, .f32⟩
  | 113 => ⟨S2048x1, .f32⟩
  | 114 => ⟨S2048x1, .f32⟩
  | 115 => ⟨S2048x1x1, .f32⟩
  | 116 => ⟨S2048x1, .f32⟩
  | 117 => ⟨S2048x1, .f32⟩
  | 118 => ⟨S2048x1, .f32⟩
  | 119 => ⟨S2048x1x1, .f32⟩
  | 120 => ⟨S2048x1, .f32⟩
  | 121 => ⟨S2048x1, .f32⟩
  | 122 => ⟨S2048x1x1, .f32⟩
  | 123 => ⟨S2048x1, .f32⟩
  | 124 => ⟨S2048x1x1, .f32⟩
  | 125 => ⟨S2048x1, .f32⟩
  | 126 => ⟨S2048x1, .f32⟩
  | 127 => ⟨S2048x1, .f32⟩
  | _ => ⟨S8x64x32x32, .f32⟩

abbrev hbmTy0_6 (i : Nat) : BufTy := match i % 128 with
  | 0 => ⟨S2048x1x1, .f32⟩
  | 1 => ⟨S2048x1, .f32⟩
  | 2 => ⟨S2048x1, .f32⟩
  | 3 => ⟨S2048x1, .f32⟩
  | 4 => ⟨S2048x1x1, .f32⟩
  | 5 => ⟨S2048x1, .f32⟩
  | 6 => ⟨S2048x1, .f32⟩
  | 7 => ⟨S2048x1, .f32⟩
  | 8 => ⟨S2048x1x1, .f32⟩
  | 9 => ⟨S2048x1, .f32⟩
  | 10 => ⟨S2048x1, .f32⟩
  | 11 => ⟨S2048x1x1, .f32⟩
  | 12 => ⟨S2048x1x1, .f32⟩
  | 13 => ⟨S2048x1x1, .f32⟩
  | 14 => ⟨S2048x1x1, .f32⟩
  | 15 => ⟨S2048x4x1, .f32⟩
  | 16 => ⟨S2048x1x4, .f32⟩
  | 17 => ⟨S2048x1x4, .f32⟩
  | 18 => ⟨S_, .f32⟩
  | 19 => ⟨S2048x1, .f32⟩
  | 20 => ⟨S2048x1x1, .f32⟩
  | 21 => ⟨S_, .f32⟩
  | 22 => ⟨S2048x1x1, .f32⟩
  | 23 => ⟨S2048x1x1, .f32⟩
  | 24 => ⟨S_, .f32⟩
  | 25 => ⟨S2048x1x1, .f32⟩
  | 26 => ⟨S2048x1x1, .f32⟩
  | 27 => ⟨S2048x1x1, .f32⟩
  | 28 => ⟨S_, .f32⟩
  | 29 => ⟨S2048x4x1, .f32⟩
  | 30 => ⟨S2048x4x5, .f32⟩
  | 31 => ⟨S2048x1x5, .f32⟩
  | 32 => ⟨S2048x5x5, .f32⟩
  | 33 => ⟨S2048x1, .i32⟩
  | 34 => ⟨S2048x5, .i32⟩
  | 35 => ⟨S_, .i32⟩
  | 36 => ⟨S2048x5, .i32⟩
  | 37 => ⟨S2048x5, .i1⟩
  | 38 => ⟨S_, .i32⟩
  | 39 => ⟨S2048x5, .i32⟩
  | 40 => ⟨S2048x5, .i32⟩
  | 41 => ⟨S2048x5, .i32⟩
  | 42 => ⟨S2048x5x1, .i32⟩
  | 43 => ⟨S1, .i32⟩
  | 44 => ⟨S_, .i32⟩
  | 45 => ⟨S2048x5x1, .i32⟩
  | 46 => ⟨S2048x5x1, .i1⟩
  | 47 => ⟨S1x1x1, .i32⟩
  | 48 => ⟨S2048x5x1, .i32⟩
  | 49 => ⟨S2048x5x1, .i1⟩
  | 50 => ⟨S2048x5x1, .i1⟩
  | 51 => ⟨S_, .i1⟩
  | 52 => ⟨S2048x5, .i1⟩
  | 53 => ⟨S2048x5, .f32⟩
  | 54 => ⟨S_, .f32⟩
  | 55 => ⟨S2048x5, .f32⟩
  | 56 => ⟨S2048x5, .f32⟩
  | 57 => ⟨S2048x5x1, .f32⟩
  | 58 => ⟨S2048x1x1, .f32⟩
  | 59 => ⟨S2048x1, .f32⟩
  | 60 => ⟨S2048x1x1, .f32⟩
  | 61 => ⟨S2048x1, .f32⟩
  | 62 => ⟨S2048x1, .f32⟩
  | 63 => ⟨S2048x1x1, .f32⟩
  | 64 => ⟨S2048x1, .f32⟩
  | 65 => ⟨S2048x1x1, .f32⟩
  | 66 => ⟨S2048x1, .f32⟩
  | 67 => ⟨S2048x1, .f32⟩
  | 68 => ⟨S2048x1, .f32⟩
  | 69 => ⟨S2048x1x1, .f32⟩
  | 70 => ⟨S2048x1, .f32⟩
  | 71 => ⟨S2048x1, .f32⟩
  | 72 => ⟨S2048x1x1, .f32⟩
  | 73 => ⟨S2048x1, .f32⟩
  | 74 => ⟨S2048x1x1, .f32⟩
  | 75 => ⟨S2048x1, .f32⟩
  | 76 => ⟨S2048x1, .f32⟩
  | 77 => ⟨S2048x1, .f32⟩
  | 78 => ⟨S2048x1x1, .f32⟩
  | 79 => ⟨S2048x1, .f32⟩
  | 80 => ⟨S2048x1, .f32⟩
  | 81 => ⟨S2048x1, .f32⟩
  | 82 => ⟨S2048x1x1, .f32⟩
  | 83 => ⟨S2048x1, .f32⟩
  | 84 => ⟨S2048x1, .f32⟩
  | 85 => ⟨S2048x1x1, .f32⟩
  | 86 => ⟨S2048x1, .f32⟩
  | 87 => ⟨S2048x1x1, .f32⟩
  | 88 => ⟨S2048x1, .f32⟩
  | 89 => ⟨S2048x1, .f32⟩
  | 90 => ⟨S2048x1, .f32⟩
  | 91 => ⟨S2048x1x1, .f32⟩
  | 92 => ⟨S2048x1, .f32⟩
  | 93 => ⟨S2048x1, .f32⟩
  | 94 => ⟨S2048x1, .f32⟩
  | 95 => ⟨S2048x1x1, .f32⟩
  | 96 => ⟨S2048x1, .f32⟩
  | 97 => ⟨S2048x1, .f32⟩
  | 98 => ⟨S2048x1, .f32⟩
  | 99 => ⟨S2048x1x1, .f32⟩
  | 100 => ⟨S2048x1, .f32⟩
  | 101 => ⟨S2048x1, .f32⟩
  | 102 => ⟨S2048x1x1, .f32⟩
  | 103 => ⟨S2048x1, .f32⟩
  | 104 => ⟨S2048x1x1, .f32⟩
  | 105 => ⟨S2048x1, .f32⟩
  | 106 => ⟨S2048x1, .f32⟩
  | 107 => ⟨S2048x1, .f32⟩
  | 108 => ⟨S2048x1x1, .f32⟩
  | 109 => ⟨S2048x1, .f32⟩
  | 110 => ⟨S2048x1, .f32⟩
  | 111 => ⟨S2048x1, .f32⟩
  | 112 => ⟨S2048x1x1, .f32⟩
  | 113 => ⟨S2048x1, .f32⟩
  | 114 => ⟨S2048x1, .f32⟩
  | 115 => ⟨S2048x1, .f32⟩
  | 116 => ⟨S2048x1x1, .f32⟩
  | 117 => ⟨S2048x1, .f32⟩
  | 118 => ⟨S2048x1, .f32⟩
  | 119 => ⟨S2048x1, .f32⟩
  | 120 => ⟨S2048x1x1, .f32⟩
  | 121 => ⟨S2048x1, .f32⟩
  | 122 => ⟨S2048x1, .f32⟩
  | 123 => ⟨S2048x1x1, .f32⟩
  | 124 => ⟨S2048x1x1, .f32⟩
  | 125 => ⟨S2048x1x1, .f32⟩
  | 126 => ⟨S2048x1x1, .f32⟩
  | 127 => ⟨S2048x1x1, .f32⟩
  | _ => ⟨S8x64x32x32, .f32⟩

abbrev hbmTy0_7 (i : Nat) : BufTy := match i % 128 with
  | 0 => ⟨S2048x5x1, .f32⟩
  | 1 => ⟨S2048x5x5, .f32⟩
  | 2 => ⟨S2048x1x1, .f32⟩
  | 3 => ⟨S2048x1, .f32⟩
  | 4 => ⟨S2048x1x1, .f32⟩
  | 5 => ⟨S2048x1, .f32⟩
  | 6 => ⟨S2048x1, .f32⟩
  | 7 => ⟨S2048x1x1, .f32⟩
  | 8 => ⟨S2048x1, .f32⟩
  | 9 => ⟨S2048x1x1, .f32⟩
  | 10 => ⟨S2048x1, .f32⟩
  | 11 => ⟨S2048x1, .f32⟩
  | 12 => ⟨S2048x1, .f32⟩
  | 13 => ⟨S2048x1x1, .f32⟩
  | 14 => ⟨S2048x1, .f32⟩
  | 15 => ⟨S2048x1, .f32⟩
  | 16 => ⟨S2048x1x1, .f32⟩
  | 17 => ⟨S2048x1, .f32⟩
  | 18 => ⟨S2048x1x1, .f32⟩
  | 19 => ⟨S2048x1, .f32⟩
  | 20 => ⟨S2048x1, .f32⟩
  | 21 => ⟨S2048x1, .f32⟩
  | 22 => ⟨S2048x1x1, .f32⟩
  | 23 => ⟨S2048x1, .f32⟩
  | 24 => ⟨S2048x1, .f32⟩
  | 25 => ⟨S2048x1, .f32⟩
  | 26 => ⟨S2048x1x1, .f32⟩
  | 27 => ⟨S2048x1, .f32⟩
  | 28 => ⟨S2048x1, .f32⟩
  | 29 => ⟨S2048x1x1, .f32⟩
  | 30 => ⟨S2048x1, .f32⟩
  | 31 => ⟨S2048x1x1, .f32⟩
  | 32 => ⟨S2048x1, .f32⟩
  | 33 => ⟨S2048x1, .f32⟩
  | 34 => ⟨S2048x1, .f32⟩
  | 35 => ⟨S2048x1x1, .f32⟩
  | 36 => ⟨S2048x1, .f32⟩
  | 37 => ⟨S2048x1, .f32⟩
  | 38 => ⟨S2048x1, .f32⟩
  | 39 => ⟨S2048x1x1, .f32⟩
  | 40 => ⟨S2048x1, .f32⟩
  | 41 => ⟨S2048x1, .f32⟩
  | 42 => ⟨S2048x1, .f32⟩
  | 43 => ⟨S2048x1x1, .f32⟩
  | 44 => ⟨S2048x1, .f32⟩
  | 45 => ⟨S2048x1, .f32⟩
  | 46 => ⟨S2048x1x1, .f32⟩
  | 47 => ⟨S2048x1, .f32⟩
  | 48 => ⟨S2048x1x1, .f32⟩
  | 49 => ⟨S2048x1, .f32⟩
  | 50 => ⟨S2048x1, .f32⟩
  | 51 => ⟨S2048x1, .f32⟩
  | 52 => ⟨S2048x1x1, .f32⟩
  | 53 => ⟨S2048x1, .f32⟩
  | 54 => ⟨S2048x1, .f32⟩
  | 55 => ⟨S2048x1, .f32⟩
  | 56 => ⟨S2048x1x1, .f32⟩
  | 57 => ⟨S2048x1, .f32⟩
  | 58 => ⟨S2048x1, .f32⟩
  | 59 => ⟨S2048x1, .f32⟩
  | 60 => ⟨S2048x1x1, .f32⟩
  | 61 => ⟨S2048x1, .f32⟩
  | 62 => ⟨S2048x1, .f32⟩
  | 63 => ⟨S2048x1, .f32⟩
  | 64 => ⟨S2048x1x1, .f32⟩
  | 65 => ⟨S2048x1, .f32⟩
  | 66 => ⟨S2048x1, .f32⟩
  | 67 => ⟨S2048x1x1, .f32⟩
  | 68 => ⟨S2048x1x1, .f32⟩
  | 69 => ⟨S2048x1x1, .f32⟩
  | 70 => ⟨S2048x1x1, .f32⟩
  | 71 => ⟨S2048x1x1, .f32⟩
  | 72 => ⟨S2048x5x1, .f32⟩
  | 73 => ⟨S2048x5, .f32⟩
  | 74 => ⟨S5x2048, .i32⟩
  | 75 => ⟨S5x2048x1, .i32⟩
  | 76 => ⟨S1x1x1024, .i32⟩
  | 77 => ⟨S5x2048x1024, .i32⟩
  | 78 => ⟨S5x2048x1024, .i32⟩
  | 79 => ⟨S5x2048x1024, .i1⟩
  | 80 => ⟨S5x2048x1024, .f32⟩
  | 81 => ⟨S2048x256, .f32⟩
  | 82 => ⟨S1x1, .f32⟩
  | 83 => ⟨S_, .f32⟩
  | 84 => ⟨S_, .f32⟩
  | 85 => ⟨S_, .f32⟩
  | 86 => ⟨S_, .f32⟩
  | 87 => ⟨S_, .f32⟩
  | 88 => ⟨S8x16x16x64x2x2, .f32⟩
  | 89 => ⟨S8x64x16x2x16x2, .f32⟩
  | 90 => ⟨S8x64x32x32, .f32⟩
  | _ => ⟨S8x64x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x64x32x32, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S256x1024, .f32⟩
  | .local _ .vmem, ⟨2, _⟩ => ⟨S1024x1024, .f32⟩
  | .local _ .vmem, ⟨3, _⟩ => ⟨S2048x1024, .f32⟩
  | .local _ .vmem, ⟨4, _⟩ => ⟨S256x1024, .f32⟩
  | .local _ .vmem, ⟨5, _⟩ => ⟨S5x512x1024, .f32⟩
  | .local _ .vmem, ⟨6, _⟩ => ⟨S5x512x1024, .f32⟩
  | .local _ .vmem, ⟨7, _⟩ => ⟨S512x5, .f32⟩
  | .local _ .vmem, ⟨8, _⟩ => ⟨S512x5, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S1x1, .f32⟩
  | _, _ => ⟨S8x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_call0_v0 : Ref sig .tc := ⟨.hbm, 6, rfl⟩
abbrev main_call0_call0_cst : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_v3 : Ref sig .tc := ⟨.hbm, 10, rfl⟩
abbrev main_call0_cst : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8_0 : Ref sig .tc := ⟨.hbm, 16, rfl⟩
abbrev main_call0_v8_1 : Ref sig .tc := ⟨.hbm, 17, rfl⟩
abbrev main_call0_cst_0 : Ref sig .tc := ⟨.hbm, 18, rfl⟩
abbrev main_call0_v9 : Ref sig .tc := ⟨.hbm, 19, rfl⟩
abbrev main_call0_cst_1 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_cst_2 : Ref sig .tc := ⟨.hbm, 24, rfl⟩
abbrev main_call0_v13 : Ref sig .tc := ⟨.hbm, 25, rfl⟩
abbrev main_call0_v14 : Ref sig .tc := ⟨.hbm, 26, rfl⟩
abbrev main_call0_cst_3 : Ref sig .tc := ⟨.hbm, 27, rfl⟩
abbrev main_call0_v15 : Ref sig .tc := ⟨.hbm, 28, rfl⟩
abbrev main_call0_v16 : Ref sig .tc := ⟨.hbm, 29, rfl⟩
abbrev main_call0_cst_4 : Ref sig .tc := ⟨.hbm, 30, rfl⟩
abbrev main_call0_v17 : Ref sig .tc := ⟨.hbm, 31, rfl⟩
abbrev main_call0_v18 : Ref sig .tc := ⟨.hbm, 32, rfl⟩
abbrev main_call0_cst_5 : Ref sig .tc := ⟨.hbm, 33, rfl⟩
abbrev main_call0_v19 : Ref sig .tc := ⟨.hbm, 34, rfl⟩
abbrev main_call0_v20 : Ref sig .tc := ⟨.hbm, 35, rfl⟩
abbrev main_call0_cst_6 : Ref sig .tc := ⟨.hbm, 36, rfl⟩
abbrev main_call0_v21 : Ref sig .tc := ⟨.hbm, 37, rfl⟩
abbrev main_call0_c : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_call1_v0 : Ref sig .tc := ⟨.hbm, 47, rfl⟩
abbrev main_call0_call1_cst : Ref sig .tc := ⟨.hbm, 48, rfl⟩
abbrev main_call0_call1_c : Ref sig .tc := ⟨.hbm, 49, rfl⟩
abbrev main_call0_call1_v1_0 : Ref sig .tc := ⟨.hbm, 50, rfl⟩
abbrev main_call0_v30 : Ref sig .tc := ⟨.hbm, 51, rfl⟩
abbrev main_call0_c_7 : Ref sig .tc := ⟨.hbm, 52, rfl⟩
abbrev main_call0_v31 : Ref sig .tc := ⟨.hbm, 53, rfl⟩
abbrev main_call0_v32 : Ref sig .tc := ⟨.hbm, 54, rfl⟩
abbrev main_call0_c_8 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_c_9 : Ref sig .tc := ⟨.hbm, 59, rfl⟩
abbrev main_call0_v36 : Ref sig .tc := ⟨.hbm, 60, rfl⟩
abbrev main_call0_v37 : Ref sig .tc := ⟨.hbm, 61, rfl⟩
abbrev main_call0_c_10 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_c_11 : Ref sig .tc := ⟨.hbm, 69, rfl⟩
abbrev main_call0_v44 : Ref sig .tc := ⟨.hbm, 70, rfl⟩
abbrev main_call0_v45 : Ref sig .tc := ⟨.hbm, 71, rfl⟩
abbrev main_call0_v46 : Ref sig .tc := ⟨.hbm, 72, rfl⟩
abbrev main_call0_call2_c : Ref sig .tc := ⟨.hbm, 73, rfl⟩
abbrev main_call0_call2_v0 : Ref sig .tc := ⟨.hbm, 74, rfl⟩
abbrev main_call0_call2_v1 : Ref sig .tc := ⟨.hbm, 75, rfl⟩
abbrev main_call0_call2_c_0 : Ref sig .tc := ⟨.hbm, 76, rfl⟩
abbrev main_call0_call2_v2 : Ref sig .tc := ⟨.hbm, 77, rfl⟩
abbrev main_call0_call2_v3 : Ref sig .tc := ⟨.hbm, 78, rfl⟩
abbrev main_call0_call2_v4 : Ref sig .tc := ⟨.hbm, 79, rfl⟩
abbrev main_call0_call2_v5 : Ref sig .tc := ⟨.hbm, 80, rfl⟩
abbrev main_call0_call2_c_1 : Ref sig .tc := ⟨.hbm, 81, rfl⟩
abbrev main_call0_call2_c_2 : Ref sig .tc := ⟨.hbm, 82, rfl⟩
abbrev main_call0_call2_v6 : Ref sig .tc := ⟨.hbm, 83, rfl⟩
abbrev main_call0_call2_v7 : Ref sig .tc := ⟨.hbm, 84, rfl⟩
abbrev main_call0_call2_v8 : Ref sig .tc := ⟨.hbm, 85, rfl⟩
abbrev main_call0_call2_v9 : Ref sig .tc := ⟨.hbm, 86, rfl⟩
abbrev main_call0_call2_v10 : Ref sig .tc := ⟨.hbm, 87, rfl⟩
abbrev main_call0_call2_v11 : Ref sig .tc := ⟨.hbm, 88, rfl⟩
abbrev main_call0_call2_c_3 : Ref sig .tc := ⟨.hbm, 89, rfl⟩
abbrev main_call0_call2_v12 : Ref sig .tc := ⟨.hbm, 90, rfl⟩
abbrev main_call0_call2_v13 : Ref sig .tc := ⟨.hbm, 91, rfl⟩
abbrev main_call0_call2_cst : Ref sig .tc := ⟨.hbm, 92, rfl⟩
abbrev main_call0_call2_v14 : Ref sig .tc := ⟨.hbm, 93, rfl⟩
abbrev main_call0_v47 : Ref sig .tc := ⟨.hbm, 94, rfl⟩
abbrev main_call0_v48 : Ref sig .tc := ⟨.hbm, 95, rfl⟩
abbrev main_call0_v49 : Ref sig .tc := ⟨.hbm, 96, rfl⟩
abbrev main_call0_v50 : Ref sig .tc := ⟨.hbm, 97, rfl⟩
abbrev main_call0_v51 : Ref sig .tc := ⟨.hbm, 98, rfl⟩
abbrev main_call0_v52 : Ref sig .tc := ⟨.hbm, 99, rfl⟩
abbrev main_call0_v53 : Ref sig .tc := ⟨.hbm, 100, rfl⟩
abbrev main_call0_v54 : Ref sig .tc := ⟨.hbm, 101, rfl⟩
abbrev main_call0_v55 : Ref sig .tc := ⟨.hbm, 102, rfl⟩
abbrev main_call0_v56 : Ref sig .tc := ⟨.hbm, 103, rfl⟩
abbrev main_call0_v57 : Ref sig .tc := ⟨.hbm, 104, rfl⟩
abbrev main_call0_v58 : Ref sig .tc := ⟨.hbm, 105, rfl⟩
abbrev main_call0_c_12 : Ref sig .tc := ⟨.hbm, 106, rfl⟩
abbrev main_call0_v59 : Ref sig .tc := ⟨.hbm, 107, rfl⟩
abbrev main_call0_v60 : Ref sig .tc := ⟨.hbm, 108, rfl⟩
abbrev main_call0_c_13 : Ref sig .tc := ⟨.hbm, 109, rfl⟩
abbrev main_call0_v61 : Ref sig .tc := ⟨.hbm, 110, rfl⟩
abbrev main_call0_v62 : Ref sig .tc := ⟨.hbm, 111, rfl⟩
abbrev main_call0_v63 : Ref sig .tc := ⟨.hbm, 112, rfl⟩
abbrev main_call0_v64 : Ref sig .tc := ⟨.hbm, 113, rfl⟩
abbrev main_call0_v65 : Ref sig .tc := ⟨.hbm, 114, rfl⟩
abbrev main_call0_v66 : Ref sig .tc := ⟨.hbm, 115, rfl⟩
abbrev main_call0_v67 : Ref sig .tc := ⟨.hbm, 116, rfl⟩
abbrev main_call0_v68 : Ref sig .tc := ⟨.hbm, 117, rfl⟩
abbrev main_call0_v69 : Ref sig .tc := ⟨.hbm, 118, rfl⟩
abbrev main_call0_v70 : Ref sig .tc := ⟨.hbm, 119, rfl⟩
abbrev main_call0_v71 : Ref sig .tc := ⟨.hbm, 120, rfl⟩
abbrev main_call0_v72 : Ref sig .tc := ⟨.hbm, 121, rfl⟩
abbrev main_call0_v73 : Ref sig .tc := ⟨.hbm, 122, rfl⟩
abbrev main_call0_call3_v0 : Ref sig .tc := ⟨.hbm, 123, rfl⟩
abbrev main_call0_call3_cst : Ref sig .tc := ⟨.hbm, 124, rfl⟩
abbrev main_call0_call3_c : Ref sig .tc := ⟨.hbm, 125, rfl⟩
abbrev main_call0_call3_v1_0 : Ref sig .tc := ⟨.hbm, 126, rfl⟩
abbrev main_call0_v74 : Ref sig .tc := ⟨.hbm, 127, rfl⟩
abbrev main_call0_c_14 : Ref sig .tc := ⟨.hbm, 128, rfl⟩
abbrev main_call0_v75 : Ref sig .tc := ⟨.hbm, 129, rfl⟩
abbrev main_call0_v76 : Ref sig .tc := ⟨.hbm, 130, rfl⟩
abbrev main_call0_c_15 : Ref sig .tc := ⟨.hbm, 131, rfl⟩
abbrev main_call0_v77 : Ref sig .tc := ⟨.hbm, 132, rfl⟩
abbrev main_call0_v78 : Ref sig .tc := ⟨.hbm, 133, rfl⟩
abbrev main_call0_v79 : Ref sig .tc := ⟨.hbm, 134, rfl⟩
abbrev main_call0_c_16 : Ref sig .tc := ⟨.hbm, 135, rfl⟩
abbrev main_call0_v80 : Ref sig .tc := ⟨.hbm, 136, rfl⟩
abbrev main_call0_v81 : Ref sig .tc := ⟨.hbm, 137, rfl⟩
abbrev main_call0_c_17 : Ref sig .tc := ⟨.hbm, 138, rfl⟩
abbrev main_call0_v82 : Ref sig .tc := ⟨.hbm, 139, rfl⟩
abbrev main_call0_v83 : Ref sig .tc := ⟨.hbm, 140, rfl⟩
abbrev main_call0_v84 : Ref sig .tc := ⟨.hbm, 141, rfl⟩
abbrev main_call0_v85 : Ref sig .tc := ⟨.hbm, 142, rfl⟩
abbrev main_call0_v86 : Ref sig .tc := ⟨.hbm, 143, rfl⟩
abbrev main_call0_v87 : Ref sig .tc := ⟨.hbm, 144, rfl⟩
abbrev main_call0_c_18 : Ref sig .tc := ⟨.hbm, 145, rfl⟩
abbrev main_call0_v88 : Ref sig .tc := ⟨.hbm, 146, rfl⟩
abbrev main_call0_v89 : Ref sig .tc := ⟨.hbm, 147, rfl⟩
abbrev main_call0_v90 : Ref sig .tc := ⟨.hbm, 148, rfl⟩
abbrev main_call0_c_19 : Ref sig .tc := ⟨.hbm, 149, rfl⟩
abbrev main_call0_v91 : Ref sig .tc := ⟨.hbm, 150, rfl⟩
abbrev main_call0_v92 : Ref sig .tc := ⟨.hbm, 151, rfl⟩
abbrev main_call0_c_20 : Ref sig .tc := ⟨.hbm, 152, rfl⟩
abbrev main_call0_v93 : Ref sig .tc := ⟨.hbm, 153, rfl⟩
abbrev main_call0_v94 : Ref sig .tc := ⟨.hbm, 154, rfl⟩
abbrev main_call0_v95 : Ref sig .tc := ⟨.hbm, 155, rfl⟩
abbrev main_call0_c_21 : Ref sig .tc := ⟨.hbm, 156, rfl⟩
abbrev main_call0_v96 : Ref sig .tc := ⟨.hbm, 157, rfl⟩
abbrev main_call0_v97 : Ref sig .tc := ⟨.hbm, 158, rfl⟩
abbrev main_call0_c_22 : Ref sig .tc := ⟨.hbm, 159, rfl⟩
abbrev main_call0_v98 : Ref sig .tc := ⟨.hbm, 160, rfl⟩
abbrev main_call0_v99 : Ref sig .tc := ⟨.hbm, 161, rfl⟩
abbrev main_call0_v100 : Ref sig .tc := ⟨.hbm, 162, rfl⟩
abbrev main_call0_v101 : Ref sig .tc := ⟨.hbm, 163, rfl⟩
abbrev main_call0_v102 : Ref sig .tc := ⟨.hbm, 164, rfl⟩
abbrev main_call0_v103 : Ref sig .tc := ⟨.hbm, 165, rfl⟩
abbrev main_call0_v104 : Ref sig .tc := ⟨.hbm, 166, rfl⟩
abbrev main_call0_v105 : Ref sig .tc := ⟨.hbm, 167, rfl⟩
abbrev main_call0_v106 : Ref sig .tc := ⟨.hbm, 168, rfl⟩
abbrev main_call0_v107 : Ref sig .tc := ⟨.hbm, 169, rfl⟩
abbrev main_call0_v108 : Ref sig .tc := ⟨.hbm, 170, rfl⟩
abbrev main_call0_v109 : Ref sig .tc := ⟨.hbm, 171, rfl⟩
abbrev main_call0_v110 : Ref sig .tc := ⟨.hbm, 172, rfl⟩
abbrev main_call0_v111 : Ref sig .tc := ⟨.hbm, 173, rfl⟩
abbrev main_call0_cst_23 : Ref sig .tc := ⟨.hbm, 174, rfl⟩
abbrev main_call0_v112 : Ref sig .tc := ⟨.hbm, 175, rfl⟩
abbrev main_call0_v113 : Ref sig .tc := ⟨.hbm, 176, rfl⟩
abbrev main_call0_cst_24 : Ref sig .tc := ⟨.hbm, 177, rfl⟩
abbrev main_call0_v114 : Ref sig .tc := ⟨.hbm, 178, rfl⟩
abbrev main_call0_v115 : Ref sig .tc := ⟨.hbm, 179, rfl⟩
abbrev main_call0_cst_25 : Ref sig .tc := ⟨.hbm, 180, rfl⟩
abbrev main_call0_v116 : Ref sig .tc := ⟨.hbm, 181, rfl⟩
abbrev main_call0_v117 : Ref sig .tc := ⟨.hbm, 182, rfl⟩
abbrev main_call0_v118 : Ref sig .tc := ⟨.hbm, 183, rfl⟩
abbrev main_call0_cst_26 : Ref sig .tc := ⟨.hbm, 184, rfl⟩
abbrev main_call0_v119 : Ref sig .tc := ⟨.hbm, 185, rfl⟩
abbrev main_call0_v120 : Ref sig .tc := ⟨.hbm, 186, rfl⟩
abbrev main_call0_v121 : Ref sig .tc := ⟨.hbm, 187, rfl⟩
abbrev main_call0_v122 : Ref sig .tc := ⟨.hbm, 188, rfl⟩
abbrev main_call0_v123 : Ref sig .tc := ⟨.hbm, 189, rfl⟩
abbrev main_call0_v124 : Ref sig .tc := ⟨.hbm, 190, rfl⟩
abbrev main_call0_call4_c : Ref sig .tc := ⟨.hbm, 191, rfl⟩
abbrev main_call0_call4_v0 : Ref sig .tc := ⟨.hbm, 192, rfl⟩
abbrev main_call0_call4_v1 : Ref sig .tc := ⟨.hbm, 193, rfl⟩
abbrev main_call0_call4_c_0 : Ref sig .tc := ⟨.hbm, 194, rfl⟩
abbrev main_call0_call4_v2 : Ref sig .tc := ⟨.hbm, 195, rfl⟩
abbrev main_call0_call4_v3 : Ref sig .tc := ⟨.hbm, 196, rfl⟩
abbrev main_call0_call4_v4 : Ref sig .tc := ⟨.hbm, 197, rfl⟩
abbrev main_call0_call4_v5 : Ref sig .tc := ⟨.hbm, 198, rfl⟩
abbrev main_call0_call4_c_1 : Ref sig .tc := ⟨.hbm, 199, rfl⟩
abbrev main_call0_call4_c_2 : Ref sig .tc := ⟨.hbm, 200, rfl⟩
abbrev main_call0_call4_v6 : Ref sig .tc := ⟨.hbm, 201, rfl⟩
abbrev main_call0_call4_v7 : Ref sig .tc := ⟨.hbm, 202, rfl⟩
abbrev main_call0_call4_v8 : Ref sig .tc := ⟨.hbm, 203, rfl⟩
abbrev main_call0_call4_v9 : Ref sig .tc := ⟨.hbm, 204, rfl⟩
abbrev main_call0_call4_v10 : Ref sig .tc := ⟨.hbm, 205, rfl⟩
abbrev main_call0_call4_v11 : Ref sig .tc := ⟨.hbm, 206, rfl⟩
abbrev main_call0_call4_c_3 : Ref sig .tc := ⟨.hbm, 207, rfl⟩
abbrev main_call0_call4_v12 : Ref sig .tc := ⟨.hbm, 208, rfl⟩
abbrev main_call0_call4_v13 : Ref sig .tc := ⟨.hbm, 209, rfl⟩
abbrev main_call0_call4_cst : Ref sig .tc := ⟨.hbm, 210, rfl⟩
abbrev main_call0_call4_v14 : Ref sig .tc := ⟨.hbm, 211, rfl⟩
abbrev main_call0_v125 : Ref sig .tc := ⟨.hbm, 212, rfl⟩
abbrev main_call0_v126 : Ref sig .tc := ⟨.hbm, 213, rfl⟩
abbrev main_call0_v127 : Ref sig .tc := ⟨.hbm, 214, rfl⟩
abbrev main_call0_v128 : Ref sig .tc := ⟨.hbm, 215, rfl⟩
abbrev main_call0_v129 : Ref sig .tc := ⟨.hbm, 216, rfl⟩
abbrev main_call0_v130 : Ref sig .tc := ⟨.hbm, 217, rfl⟩
abbrev main_call0_v131 : Ref sig .tc := ⟨.hbm, 218, rfl⟩
abbrev main_call0_v132 : Ref sig .tc := ⟨.hbm, 219, rfl⟩
abbrev main_call0_v133 : Ref sig .tc := ⟨.hbm, 220, rfl⟩
abbrev main_call0_v134 : Ref sig .tc := ⟨.hbm, 221, rfl⟩
abbrev main_call0_v135 : Ref sig .tc := ⟨.hbm, 222, rfl⟩
abbrev main_call0_v136 : Ref sig .tc := ⟨.hbm, 223, rfl⟩
abbrev main_call0_v137 : Ref sig .tc := ⟨.hbm, 224, rfl⟩
abbrev main_call0_v138 : Ref sig .tc := ⟨.hbm, 225, rfl⟩
abbrev main_call0_v139 : Ref sig .tc := ⟨.hbm, 226, rfl⟩
abbrev main_call0_v140 : Ref sig .tc := ⟨.hbm, 227, rfl⟩
abbrev main_call0_v141 : Ref sig .tc := ⟨.hbm, 228, rfl⟩
abbrev main_call0_v142 : Ref sig .tc := ⟨.hbm, 229, rfl⟩
abbrev main_call0_v143 : Ref sig .tc := ⟨.hbm, 230, rfl⟩
abbrev main_call0_v144 : Ref sig .tc := ⟨.hbm, 231, rfl⟩
abbrev main_call0_v145 : Ref sig .tc := ⟨.hbm, 232, rfl⟩
abbrev main_call0_v146 : Ref sig .tc := ⟨.hbm, 233, rfl⟩
abbrev main_call0_v147 : Ref sig .tc := ⟨.hbm, 234, rfl⟩
abbrev main_call0_v148 : Ref sig .tc := ⟨.hbm, 235, rfl⟩
abbrev main_call0_v149 : Ref sig .tc := ⟨.hbm, 236, rfl⟩
abbrev main_call0_v150 : Ref sig .tc := ⟨.hbm, 237, rfl⟩
abbrev main_call0_v151 : Ref sig .tc := ⟨.hbm, 238, rfl⟩
abbrev main_call0_v152 : Ref sig .tc := ⟨.hbm, 239, rfl⟩
abbrev main_call0_v153 : Ref sig .tc := ⟨.hbm, 240, rfl⟩
abbrev main_call0_v154 : Ref sig .tc := ⟨.hbm, 241, rfl⟩
abbrev main_call0_v155 : Ref sig .tc := ⟨.hbm, 242, rfl⟩
abbrev main_call0_v156 : Ref sig .tc := ⟨.hbm, 243, rfl⟩
abbrev main_call0_v157 : Ref sig .tc := ⟨.hbm, 244, rfl⟩
abbrev main_call0_v158 : Ref sig .tc := ⟨.hbm, 245, rfl⟩
abbrev main_call0_v159 : Ref sig .tc := ⟨.hbm, 246, rfl⟩
abbrev main_call0_v160 : Ref sig .tc := ⟨.hbm, 247, rfl⟩
abbrev main_call0_v161 : Ref sig .tc := ⟨.hbm, 248, rfl⟩
abbrev main_call0_v162 : Ref sig .tc := ⟨.hbm, 249, rfl⟩
abbrev main_call0_c_27 : Ref sig .tc := ⟨.hbm, 250, rfl⟩
abbrev main_call0_v163 : Ref sig .tc := ⟨.hbm, 251, rfl⟩
abbrev main_call0_v164 : Ref sig .tc := ⟨.hbm, 252, rfl⟩
abbrev main_call0_c_28 : Ref sig .tc := ⟨.hbm, 253, rfl⟩
abbrev main_call0_v165 : Ref sig .tc := ⟨.hbm, 254, rfl⟩
abbrev main_call0_v166 : Ref sig .tc := ⟨.hbm, 255, rfl⟩
abbrev main_call0_v167 : Ref sig .tc := ⟨.hbm, 256, rfl⟩
abbrev main_call0_v168 : Ref sig .tc := ⟨.hbm, 257, rfl⟩
abbrev main_call0_v169 : Ref sig .tc := ⟨.hbm, 258, rfl⟩
abbrev main_call0_v170 : Ref sig .tc := ⟨.hbm, 259, rfl⟩
abbrev main_call0_v171 : Ref sig .tc := ⟨.hbm, 260, rfl⟩
abbrev main_call0_v172 : Ref sig .tc := ⟨.hbm, 261, rfl⟩
abbrev main_call0_v173 : Ref sig .tc := ⟨.hbm, 262, rfl⟩
abbrev main_call0_v174 : Ref sig .tc := ⟨.hbm, 263, rfl⟩
abbrev main_call0_v175 : Ref sig .tc := ⟨.hbm, 264, rfl⟩
abbrev main_call0_v176 : Ref sig .tc := ⟨.hbm, 265, rfl⟩
abbrev main_call0_v177 : Ref sig .tc := ⟨.hbm, 266, rfl⟩
abbrev main_call0_call5_v0 : Ref sig .tc := ⟨.hbm, 267, rfl⟩
abbrev main_call0_call5_cst : Ref sig .tc := ⟨.hbm, 268, rfl⟩
abbrev main_call0_call5_c : Ref sig .tc := ⟨.hbm, 269, rfl⟩
abbrev main_call0_call5_v1_0 : Ref sig .tc := ⟨.hbm, 270, rfl⟩
abbrev main_call0_v178 : Ref sig .tc := ⟨.hbm, 271, rfl⟩
abbrev main_call0_c_29 : Ref sig .tc := ⟨.hbm, 272, rfl⟩
abbrev main_call0_v179 : Ref sig .tc := ⟨.hbm, 273, rfl⟩
abbrev main_call0_v180 : Ref sig .tc := ⟨.hbm, 274, rfl⟩
abbrev main_call0_c_30 : Ref sig .tc := ⟨.hbm, 275, rfl⟩
abbrev main_call0_v181 : Ref sig .tc := ⟨.hbm, 276, rfl⟩
abbrev main_call0_v182 : Ref sig .tc := ⟨.hbm, 277, rfl⟩
abbrev main_call0_v183 : Ref sig .tc := ⟨.hbm, 278, rfl⟩
abbrev main_call0_c_31 : Ref sig .tc := ⟨.hbm, 279, rfl⟩
abbrev main_call0_v184 : Ref sig .tc := ⟨.hbm, 280, rfl⟩
abbrev main_call0_v185 : Ref sig .tc := ⟨.hbm, 281, rfl⟩
abbrev main_call0_c_32 : Ref sig .tc := ⟨.hbm, 282, rfl⟩
abbrev main_call0_v186 : Ref sig .tc := ⟨.hbm, 283, rfl⟩
abbrev main_call0_v187 : Ref sig .tc := ⟨.hbm, 284, rfl⟩
abbrev main_call0_v188 : Ref sig .tc := ⟨.hbm, 285, rfl⟩
abbrev main_call0_v189 : Ref sig .tc := ⟨.hbm, 286, rfl⟩
abbrev main_call0_v190 : Ref sig .tc := ⟨.hbm, 287, rfl⟩
abbrev main_call0_v191 : Ref sig .tc := ⟨.hbm, 288, rfl⟩
abbrev main_call0_c_33 : Ref sig .tc := ⟨.hbm, 289, rfl⟩
abbrev main_call0_v192 : Ref sig .tc := ⟨.hbm, 290, rfl⟩
abbrev main_call0_v193 : Ref sig .tc := ⟨.hbm, 291, rfl⟩
abbrev main_call0_v194 : Ref sig .tc := ⟨.hbm, 292, rfl⟩
abbrev main_call0_c_34 : Ref sig .tc := ⟨.hbm, 293, rfl⟩
abbrev main_call0_v195 : Ref sig .tc := ⟨.hbm, 294, rfl⟩
abbrev main_call0_v196 : Ref sig .tc := ⟨.hbm, 295, rfl⟩
abbrev main_call0_c_35 : Ref sig .tc := ⟨.hbm, 296, rfl⟩
abbrev main_call0_v197 : Ref sig .tc := ⟨.hbm, 297, rfl⟩
abbrev main_call0_v198 : Ref sig .tc := ⟨.hbm, 298, rfl⟩
abbrev main_call0_v199 : Ref sig .tc := ⟨.hbm, 299, rfl⟩
abbrev main_call0_c_36 : Ref sig .tc := ⟨.hbm, 300, rfl⟩
abbrev main_call0_v200 : Ref sig .tc := ⟨.hbm, 301, rfl⟩
abbrev main_call0_v201 : Ref sig .tc := ⟨.hbm, 302, rfl⟩
abbrev main_call0_c_37 : Ref sig .tc := ⟨.hbm, 303, rfl⟩
abbrev main_call0_v202 : Ref sig .tc := ⟨.hbm, 304, rfl⟩
abbrev main_call0_v203 : Ref sig .tc := ⟨.hbm, 305, rfl⟩
abbrev main_call0_v204 : Ref sig .tc := ⟨.hbm, 306, rfl⟩
abbrev main_call0_v205 : Ref sig .tc := ⟨.hbm, 307, rfl⟩
abbrev main_call0_v206 : Ref sig .tc := ⟨.hbm, 308, rfl⟩
abbrev main_call0_v207 : Ref sig .tc := ⟨.hbm, 309, rfl⟩
abbrev main_call0_v208 : Ref sig .tc := ⟨.hbm, 310, rfl⟩
abbrev main_call0_v209 : Ref sig .tc := ⟨.hbm, 311, rfl⟩
abbrev main_call0_v210 : Ref sig .tc := ⟨.hbm, 312, rfl⟩
abbrev main_call0_v211 : Ref sig .tc := ⟨.hbm, 313, rfl⟩
abbrev main_call0_v212 : Ref sig .tc := ⟨.hbm, 314, rfl⟩
abbrev main_call0_v213 : Ref sig .tc := ⟨.hbm, 315, rfl⟩
abbrev main_call0_v214 : Ref sig .tc := ⟨.hbm, 316, rfl⟩
abbrev main_call0_v215 : Ref sig .tc := ⟨.hbm, 317, rfl⟩
abbrev main_call0_v216 : Ref sig .tc := ⟨.hbm, 318, rfl⟩
abbrev main_call0_v217 : Ref sig .tc := ⟨.hbm, 319, rfl⟩
abbrev main_call0_v218 : Ref sig .tc := ⟨.hbm, 320, rfl⟩
abbrev main_call0_v219 : Ref sig .tc := ⟨.hbm, 321, rfl⟩
abbrev main_call0_v220 : Ref sig .tc := ⟨.hbm, 322, rfl⟩
abbrev main_call0_v221 : Ref sig .tc := ⟨.hbm, 323, rfl⟩
abbrev main_call0_v222 : Ref sig .tc := ⟨.hbm, 324, rfl⟩
abbrev main_call0_v223 : Ref sig .tc := ⟨.hbm, 325, rfl⟩
abbrev main_call0_v224 : Ref sig .tc := ⟨.hbm, 326, rfl⟩
abbrev main_call0_v225 : Ref sig .tc := ⟨.hbm, 327, rfl⟩
abbrev main_call0_v226 : Ref sig .tc := ⟨.hbm, 328, rfl⟩
abbrev main_call0_v227 : Ref sig .tc := ⟨.hbm, 329, rfl⟩
abbrev main_call0_v228 : Ref sig .tc := ⟨.hbm, 330, rfl⟩
abbrev main_call0_v229 : Ref sig .tc := ⟨.hbm, 331, rfl⟩
abbrev main_call0_cst_38 : Ref sig .tc := ⟨.hbm, 332, rfl⟩
abbrev main_call0_v230 : Ref sig .tc := ⟨.hbm, 333, rfl⟩
abbrev main_call0_v231 : Ref sig .tc := ⟨.hbm, 334, rfl⟩
abbrev main_call0_cst_39 : Ref sig .tc := ⟨.hbm, 335, rfl⟩
abbrev main_call0_v232 : Ref sig .tc := ⟨.hbm, 336, rfl⟩
abbrev main_call0_v233 : Ref sig .tc := ⟨.hbm, 337, rfl⟩
abbrev main_call0_cst_40 : Ref sig .tc := ⟨.hbm, 338, rfl⟩
abbrev main_call0_v234 : Ref sig .tc := ⟨.hbm, 339, rfl⟩
abbrev main_call0_v235 : Ref sig .tc := ⟨.hbm, 340, rfl⟩
abbrev main_call0_v236 : Ref sig .tc := ⟨.hbm, 341, rfl⟩
abbrev main_call0_cst_41 : Ref sig .tc := ⟨.hbm, 342, rfl⟩
abbrev main_call0_v237 : Ref sig .tc := ⟨.hbm, 343, rfl⟩
abbrev main_call0_v238 : Ref sig .tc := ⟨.hbm, 344, rfl⟩
abbrev main_call0_v239 : Ref sig .tc := ⟨.hbm, 345, rfl⟩
abbrev main_call0_v240 : Ref sig .tc := ⟨.hbm, 346, rfl⟩
abbrev main_call0_v241 : Ref sig .tc := ⟨.hbm, 347, rfl⟩
abbrev main_call0_v242 : Ref sig .tc := ⟨.hbm, 348, rfl⟩
abbrev main_call0_call6_c : Ref sig .tc := ⟨.hbm, 349, rfl⟩
abbrev main_call0_call6_v0 : Ref sig .tc := ⟨.hbm, 350, rfl⟩
abbrev main_call0_call6_v1 : Ref sig .tc := ⟨.hbm, 351, rfl⟩
abbrev main_call0_call6_c_0 : Ref sig .tc := ⟨.hbm, 352, rfl⟩
abbrev main_call0_call6_v2 : Ref sig .tc := ⟨.hbm, 353, rfl⟩
abbrev main_call0_call6_v3 : Ref sig .tc := ⟨.hbm, 354, rfl⟩
abbrev main_call0_call6_v4 : Ref sig .tc := ⟨.hbm, 355, rfl⟩
abbrev main_call0_call6_v5 : Ref sig .tc := ⟨.hbm, 356, rfl⟩
abbrev main_call0_call6_c_1 : Ref sig .tc := ⟨.hbm, 357, rfl⟩
abbrev main_call0_call6_c_2 : Ref sig .tc := ⟨.hbm, 358, rfl⟩
abbrev main_call0_call6_v6 : Ref sig .tc := ⟨.hbm, 359, rfl⟩
abbrev main_call0_call6_v7 : Ref sig .tc := ⟨.hbm, 360, rfl⟩
abbrev main_call0_call6_v8 : Ref sig .tc := ⟨.hbm, 361, rfl⟩
abbrev main_call0_call6_v9 : Ref sig .tc := ⟨.hbm, 362, rfl⟩
abbrev main_call0_call6_v10 : Ref sig .tc := ⟨.hbm, 363, rfl⟩
abbrev main_call0_call6_v11 : Ref sig .tc := ⟨.hbm, 364, rfl⟩
abbrev main_call0_call6_c_3 : Ref sig .tc := ⟨.hbm, 365, rfl⟩
abbrev main_call0_call6_v12 : Ref sig .tc := ⟨.hbm, 366, rfl⟩
abbrev main_call0_call6_v13 : Ref sig .tc := ⟨.hbm, 367, rfl⟩
abbrev main_call0_call6_cst : Ref sig .tc := ⟨.hbm, 368, rfl⟩
abbrev main_call0_call6_v14 : Ref sig .tc := ⟨.hbm, 369, rfl⟩
abbrev main_call0_v243 : Ref sig .tc := ⟨.hbm, 370, rfl⟩
abbrev main_call0_v244 : Ref sig .tc := ⟨.hbm, 371, rfl⟩
abbrev main_call0_v245 : Ref sig .tc := ⟨.hbm, 372, rfl⟩
abbrev main_call0_v246 : Ref sig .tc := ⟨.hbm, 373, rfl⟩
abbrev main_call0_v247 : Ref sig .tc := ⟨.hbm, 374, rfl⟩
abbrev main_call0_v248 : Ref sig .tc := ⟨.hbm, 375, rfl⟩
abbrev main_call0_v249 : Ref sig .tc := ⟨.hbm, 376, rfl⟩
abbrev main_call0_v250 : Ref sig .tc := ⟨.hbm, 377, rfl⟩
abbrev main_call0_v251 : Ref sig .tc := ⟨.hbm, 378, rfl⟩
abbrev main_call0_v252 : Ref sig .tc := ⟨.hbm, 379, rfl⟩
abbrev main_call0_v253 : Ref sig .tc := ⟨.hbm, 380, rfl⟩
abbrev main_call0_v254 : Ref sig .tc := ⟨.hbm, 381, rfl⟩
abbrev main_call0_v255 : Ref sig .tc := ⟨.hbm, 382, rfl⟩
abbrev main_call0_v256 : Ref sig .tc := ⟨.hbm, 383, rfl⟩
abbrev main_call0_v257 : Ref sig .tc := ⟨.hbm, 384, rfl⟩
abbrev main_call0_v258 : Ref sig .tc := ⟨.hbm, 385, rfl⟩
abbrev main_call0_v259 : Ref sig .tc := ⟨.hbm, 386, rfl⟩
abbrev main_call0_v260 : Ref sig .tc := ⟨.hbm, 387, rfl⟩
abbrev main_call0_v261 : Ref sig .tc := ⟨.hbm, 388, rfl⟩
abbrev main_call0_v262 : Ref sig .tc := ⟨.hbm, 389, rfl⟩
abbrev main_call0_v263 : Ref sig .tc := ⟨.hbm, 390, rfl⟩
abbrev main_call0_v264 : Ref sig .tc := ⟨.hbm, 391, rfl⟩
abbrev main_call0_v265 : Ref sig .tc := ⟨.hbm, 392, rfl⟩
abbrev main_call0_v266 : Ref sig .tc := ⟨.hbm, 393, rfl⟩
abbrev main_call0_v267 : Ref sig .tc := ⟨.hbm, 394, rfl⟩
abbrev main_call0_v268 : Ref sig .tc := ⟨.hbm, 395, rfl⟩
abbrev main_call0_v269 : Ref sig .tc := ⟨.hbm, 396, rfl⟩
abbrev main_call0_v270 : Ref sig .tc := ⟨.hbm, 397, rfl⟩
abbrev main_call0_v271 : Ref sig .tc := ⟨.hbm, 398, rfl⟩
abbrev main_call0_v272 : Ref sig .tc := ⟨.hbm, 399, rfl⟩
abbrev main_call0_v273 : Ref sig .tc := ⟨.hbm, 400, rfl⟩
abbrev main_call0_v274 : Ref sig .tc := ⟨.hbm, 401, rfl⟩
abbrev main_call0_v275 : Ref sig .tc := ⟨.hbm, 402, rfl⟩
abbrev main_call0_v276 : Ref sig .tc := ⟨.hbm, 403, rfl⟩
abbrev main_call0_v277 : Ref sig .tc := ⟨.hbm, 404, rfl⟩
abbrev main_call0_v278 : Ref sig .tc := ⟨.hbm, 405, rfl⟩
abbrev main_call0_v279 : Ref sig .tc := ⟨.hbm, 406, rfl⟩
abbrev main_call0_v280 : Ref sig .tc := ⟨.hbm, 407, rfl⟩
abbrev main_call0_v281 : Ref sig .tc := ⟨.hbm, 408, rfl⟩
abbrev main_call0_v282 : Ref sig .tc := ⟨.hbm, 409, rfl⟩
abbrev main_call0_v283 : Ref sig .tc := ⟨.hbm, 410, rfl⟩
abbrev main_call0_v284 : Ref sig .tc := ⟨.hbm, 411, rfl⟩
abbrev main_call0_v285 : Ref sig .tc := ⟨.hbm, 412, rfl⟩
abbrev main_call0_v286 : Ref sig .tc := ⟨.hbm, 413, rfl⟩
abbrev main_call0_v287 : Ref sig .tc := ⟨.hbm, 414, rfl⟩
abbrev main_call0_v288 : Ref sig .tc := ⟨.hbm, 415, rfl⟩
abbrev main_call0_v289 : Ref sig .tc := ⟨.hbm, 416, rfl⟩
abbrev main_call0_v290 : Ref sig .tc := ⟨.hbm, 417, rfl⟩
abbrev main_call0_v291 : Ref sig .tc := ⟨.hbm, 418, rfl⟩
abbrev main_call0_v292 : Ref sig .tc := ⟨.hbm, 419, rfl⟩
abbrev main_call0_v293 : Ref sig .tc := ⟨.hbm, 420, rfl⟩
abbrev main_call0_v294 : Ref sig .tc := ⟨.hbm, 421, rfl⟩
abbrev main_call0_v295 : Ref sig .tc := ⟨.hbm, 422, rfl⟩
abbrev main_call0_v296 : Ref sig .tc := ⟨.hbm, 423, rfl⟩
abbrev main_call0_v297 : Ref sig .tc := ⟨.hbm, 424, rfl⟩
abbrev main_call0_v298 : Ref sig .tc := ⟨.hbm, 425, rfl⟩
abbrev main_call0_v299 : Ref sig .tc := ⟨.hbm, 426, rfl⟩
abbrev main_call0_v300 : Ref sig .tc := ⟨.hbm, 427, rfl⟩
abbrev main_call0_v301 : Ref sig .tc := ⟨.hbm, 428, rfl⟩
abbrev main_call0_v302 : Ref sig .tc := ⟨.hbm, 429, rfl⟩
abbrev main_call0_v303 : Ref sig .tc := ⟨.hbm, 430, rfl⟩
abbrev main_call0_v304 : Ref sig .tc := ⟨.hbm, 431, rfl⟩
abbrev main_call0_v305 : Ref sig .tc := ⟨.hbm, 432, rfl⟩
abbrev main_call0_v306 : Ref sig .tc := ⟨.hbm, 433, rfl⟩
abbrev main_call0_v307 : Ref sig .tc := ⟨.hbm, 434, rfl⟩
abbrev main_call0_v308 : Ref sig .tc := ⟨.hbm, 435, rfl⟩
abbrev main_call0_c_42 : Ref sig .tc := ⟨.hbm, 436, rfl⟩
abbrev main_call0_v309 : Ref sig .tc := ⟨.hbm, 437, rfl⟩
abbrev main_call0_v310 : Ref sig .tc := ⟨.hbm, 438, rfl⟩
abbrev main_call0_c_43 : Ref sig .tc := ⟨.hbm, 439, rfl⟩
abbrev main_call0_v311 : Ref sig .tc := ⟨.hbm, 440, rfl⟩
abbrev main_call0_v312 : Ref sig .tc := ⟨.hbm, 441, rfl⟩
abbrev main_call0_v313 : Ref sig .tc := ⟨.hbm, 442, rfl⟩
abbrev main_call0_v314 : Ref sig .tc := ⟨.hbm, 443, rfl⟩
abbrev main_call0_v315 : Ref sig .tc := ⟨.hbm, 444, rfl⟩
abbrev main_call0_v316 : Ref sig .tc := ⟨.hbm, 445, rfl⟩
abbrev main_call0_v317 : Ref sig .tc := ⟨.hbm, 446, rfl⟩
abbrev main_call0_v318 : Ref sig .tc := ⟨.hbm, 447, rfl⟩
abbrev main_call0_v319 : Ref sig .tc := ⟨.hbm, 448, rfl⟩
abbrev main_call0_v320 : Ref sig .tc := ⟨.hbm, 449, rfl⟩
abbrev main_call0_v321 : Ref sig .tc := ⟨.hbm, 450, rfl⟩
abbrev main_call0_v322 : Ref sig .tc := ⟨.hbm, 451, rfl⟩
abbrev main_call0_v323 : Ref sig .tc := ⟨.hbm, 452, rfl⟩
abbrev main_call0_call7_v0 : Ref sig .tc := ⟨.hbm, 453, rfl⟩
abbrev main_call0_call7_cst : Ref sig .tc := ⟨.hbm, 454, rfl⟩
abbrev main_call0_call7_c : Ref sig .tc := ⟨.hbm, 455, rfl⟩
abbrev main_call0_call7_v1_0 : Ref sig .tc := ⟨.hbm, 456, rfl⟩
abbrev main_call0_v324 : Ref sig .tc := ⟨.hbm, 457, rfl⟩
abbrev main_call0_c_44 : Ref sig .tc := ⟨.hbm, 458, rfl⟩
abbrev main_call0_v325 : Ref sig .tc := ⟨.hbm, 459, rfl⟩
abbrev main_call0_v326 : Ref sig .tc := ⟨.hbm, 460, rfl⟩
abbrev main_call0_c_45 : Ref sig .tc := ⟨.hbm, 461, rfl⟩
abbrev main_call0_v327 : Ref sig .tc := ⟨.hbm, 462, rfl⟩
abbrev main_call0_v328 : Ref sig .tc := ⟨.hbm, 463, rfl⟩
abbrev main_call0_v329 : Ref sig .tc := ⟨.hbm, 464, rfl⟩
abbrev main_call0_c_46 : Ref sig .tc := ⟨.hbm, 465, rfl⟩
abbrev main_call0_v330 : Ref sig .tc := ⟨.hbm, 466, rfl⟩
abbrev main_call0_v331 : Ref sig .tc := ⟨.hbm, 467, rfl⟩
abbrev main_call0_c_47 : Ref sig .tc := ⟨.hbm, 468, rfl⟩
abbrev main_call0_v332 : Ref sig .tc := ⟨.hbm, 469, rfl⟩
abbrev main_call0_v333 : Ref sig .tc := ⟨.hbm, 470, rfl⟩
abbrev main_call0_v334 : Ref sig .tc := ⟨.hbm, 471, rfl⟩
abbrev main_call0_v335 : Ref sig .tc := ⟨.hbm, 472, rfl⟩
abbrev main_call0_v336 : Ref sig .tc := ⟨.hbm, 473, rfl⟩
abbrev main_call0_v337 : Ref sig .tc := ⟨.hbm, 474, rfl⟩
abbrev main_call0_c_48 : Ref sig .tc := ⟨.hbm, 475, rfl⟩
abbrev main_call0_v338 : Ref sig .tc := ⟨.hbm, 476, rfl⟩
abbrev main_call0_v339 : Ref sig .tc := ⟨.hbm, 477, rfl⟩
abbrev main_call0_v340 : Ref sig .tc := ⟨.hbm, 478, rfl⟩
abbrev main_call0_c_49 : Ref sig .tc := ⟨.hbm, 479, rfl⟩
abbrev main_call0_v341 : Ref sig .tc := ⟨.hbm, 480, rfl⟩
abbrev main_call0_v342 : Ref sig .tc := ⟨.hbm, 481, rfl⟩
abbrev main_call0_c_50 : Ref sig .tc := ⟨.hbm, 482, rfl⟩
abbrev main_call0_v343 : Ref sig .tc := ⟨.hbm, 483, rfl⟩
abbrev main_call0_v344 : Ref sig .tc := ⟨.hbm, 484, rfl⟩
abbrev main_call0_v345 : Ref sig .tc := ⟨.hbm, 485, rfl⟩
abbrev main_call0_c_51 : Ref sig .tc := ⟨.hbm, 486, rfl⟩
abbrev main_call0_v346 : Ref sig .tc := ⟨.hbm, 487, rfl⟩
abbrev main_call0_v347 : Ref sig .tc := ⟨.hbm, 488, rfl⟩
abbrev main_call0_c_52 : Ref sig .tc := ⟨.hbm, 489, rfl⟩
abbrev main_call0_v348 : Ref sig .tc := ⟨.hbm, 490, rfl⟩
abbrev main_call0_v349 : Ref sig .tc := ⟨.hbm, 491, rfl⟩
abbrev main_call0_v350 : Ref sig .tc := ⟨.hbm, 492, rfl⟩
abbrev main_call0_v351 : Ref sig .tc := ⟨.hbm, 493, rfl⟩
abbrev main_call0_v352 : Ref sig .tc := ⟨.hbm, 494, rfl⟩
abbrev main_call0_v353 : Ref sig .tc := ⟨.hbm, 495, rfl⟩
abbrev main_call0_v354 : Ref sig .tc := ⟨.hbm, 496, rfl⟩
abbrev main_call0_v355 : Ref sig .tc := ⟨.hbm, 497, rfl⟩
abbrev main_call0_v356 : Ref sig .tc := ⟨.hbm, 498, rfl⟩
abbrev main_call0_v357 : Ref sig .tc := ⟨.hbm, 499, rfl⟩
abbrev main_call0_v358 : Ref sig .tc := ⟨.hbm, 500, rfl⟩
abbrev main_call0_v359 : Ref sig .tc := ⟨.hbm, 501, rfl⟩
abbrev main_call0_v360 : Ref sig .tc := ⟨.hbm, 502, rfl⟩
abbrev main_call0_v361 : Ref sig .tc := ⟨.hbm, 503, rfl⟩
abbrev main_call0_v362 : Ref sig .tc := ⟨.hbm, 504, rfl⟩
abbrev main_call0_v363 : Ref sig .tc := ⟨.hbm, 505, rfl⟩
abbrev main_call0_v364 : Ref sig .tc := ⟨.hbm, 506, rfl⟩
abbrev main_call0_v365 : Ref sig .tc := ⟨.hbm, 507, rfl⟩
abbrev main_call0_v366 : Ref sig .tc := ⟨.hbm, 508, rfl⟩
abbrev main_call0_v367 : Ref sig .tc := ⟨.hbm, 509, rfl⟩
abbrev main_call0_v368 : Ref sig .tc := ⟨.hbm, 510, rfl⟩
abbrev main_call0_v369 : Ref sig .tc := ⟨.hbm, 511, rfl⟩
abbrev main_call0_v370 : Ref sig .tc := ⟨.hbm, 512, rfl⟩
abbrev main_call0_v371 : Ref sig .tc := ⟨.hbm, 513, rfl⟩
abbrev main_call0_v372 : Ref sig .tc := ⟨.hbm, 514, rfl⟩
abbrev main_call0_v373 : Ref sig .tc := ⟨.hbm, 515, rfl⟩
abbrev main_call0_v374 : Ref sig .tc := ⟨.hbm, 516, rfl⟩
abbrev main_call0_v375 : Ref sig .tc := ⟨.hbm, 517, rfl⟩
abbrev main_call0_v376 : Ref sig .tc := ⟨.hbm, 518, rfl⟩
abbrev main_call0_v377 : Ref sig .tc := ⟨.hbm, 519, rfl⟩
abbrev main_call0_v378 : Ref sig .tc := ⟨.hbm, 520, rfl⟩
abbrev main_call0_v379 : Ref sig .tc := ⟨.hbm, 521, rfl⟩
abbrev main_call0_v380 : Ref sig .tc := ⟨.hbm, 522, rfl⟩
abbrev main_call0_v381 : Ref sig .tc := ⟨.hbm, 523, rfl⟩
abbrev main_call0_v382 : Ref sig .tc := ⟨.hbm, 524, rfl⟩
abbrev main_call0_v383 : Ref sig .tc := ⟨.hbm, 525, rfl⟩
abbrev main_call0_v384 : Ref sig .tc := ⟨.hbm, 526, rfl⟩
abbrev main_call0_v385 : Ref sig .tc := ⟨.hbm, 527, rfl⟩
abbrev main_call0_v386 : Ref sig .tc := ⟨.hbm, 528, rfl⟩
abbrev main_call0_v387 : Ref sig .tc := ⟨.hbm, 529, rfl⟩
abbrev main_call0_v388 : Ref sig .tc := ⟨.hbm, 530, rfl⟩
abbrev main_call0_v389 : Ref sig .tc := ⟨.hbm, 531, rfl⟩
abbrev main_call0_cst_53 : Ref sig .tc := ⟨.hbm, 532, rfl⟩
abbrev main_call0_v390 : Ref sig .tc := ⟨.hbm, 533, rfl⟩
abbrev main_call0_v391 : Ref sig .tc := ⟨.hbm, 534, rfl⟩
abbrev main_call0_cst_54 : Ref sig .tc := ⟨.hbm, 535, rfl⟩
abbrev main_call0_v392 : Ref sig .tc := ⟨.hbm, 536, rfl⟩
abbrev main_call0_v393 : Ref sig .tc := ⟨.hbm, 537, rfl⟩
abbrev main_call0_cst_55 : Ref sig .tc := ⟨.hbm, 538, rfl⟩
abbrev main_call0_v394 : Ref sig .tc := ⟨.hbm, 539, rfl⟩
abbrev main_call0_v395 : Ref sig .tc := ⟨.hbm, 540, rfl⟩
abbrev main_call0_v396 : Ref sig .tc := ⟨.hbm, 541, rfl⟩
abbrev main_call0_cst_56 : Ref sig .tc := ⟨.hbm, 542, rfl⟩
abbrev main_call0_v397 : Ref sig .tc := ⟨.hbm, 543, rfl⟩
abbrev main_call0_v398 : Ref sig .tc := ⟨.hbm, 544, rfl⟩
abbrev main_call0_v399 : Ref sig .tc := ⟨.hbm, 545, rfl⟩
abbrev main_call0_v400 : Ref sig .tc := ⟨.hbm, 546, rfl⟩
abbrev main_call0_v401 : Ref sig .tc := ⟨.hbm, 547, rfl⟩
abbrev main_call0_v402 : Ref sig .tc := ⟨.hbm, 548, rfl⟩
abbrev main_call0_call8_c : Ref sig .tc := ⟨.hbm, 549, rfl⟩
abbrev main_call0_call8_v0 : Ref sig .tc := ⟨.hbm, 550, rfl⟩
abbrev main_call0_call8_v1 : Ref sig .tc := ⟨.hbm, 551, rfl⟩
abbrev main_call0_call8_c_0 : Ref sig .tc := ⟨.hbm, 552, rfl⟩
abbrev main_call0_call8_v2 : Ref sig .tc := ⟨.hbm, 553, rfl⟩
abbrev main_call0_call8_v3 : Ref sig .tc := ⟨.hbm, 554, rfl⟩
abbrev main_call0_call8_v4 : Ref sig .tc := ⟨.hbm, 555, rfl⟩
abbrev main_call0_call8_v5 : Ref sig .tc := ⟨.hbm, 556, rfl⟩
abbrev main_call0_call8_c_1 : Ref sig .tc := ⟨.hbm, 557, rfl⟩
abbrev main_call0_call8_c_2 : Ref sig .tc := ⟨.hbm, 558, rfl⟩
abbrev main_call0_call8_v6 : Ref sig .tc := ⟨.hbm, 559, rfl⟩
abbrev main_call0_call8_v7 : Ref sig .tc := ⟨.hbm, 560, rfl⟩
abbrev main_call0_call8_v8 : Ref sig .tc := ⟨.hbm, 561, rfl⟩
abbrev main_call0_call8_v9 : Ref sig .tc := ⟨.hbm, 562, rfl⟩
abbrev main_call0_call8_v10 : Ref sig .tc := ⟨.hbm, 563, rfl⟩
abbrev main_call0_call8_v11 : Ref sig .tc := ⟨.hbm, 564, rfl⟩
abbrev main_call0_call8_c_3 : Ref sig .tc := ⟨.hbm, 565, rfl⟩
abbrev main_call0_call8_v12 : Ref sig .tc := ⟨.hbm, 566, rfl⟩
abbrev main_call0_call8_v13 : Ref sig .tc := ⟨.hbm, 567, rfl⟩
abbrev main_call0_call8_cst : Ref sig .tc := ⟨.hbm, 568, rfl⟩
abbrev main_call0_call8_v14 : Ref sig .tc := ⟨.hbm, 569, rfl⟩
abbrev main_call0_v403 : Ref sig .tc := ⟨.hbm, 570, rfl⟩
abbrev main_call0_v404 : Ref sig .tc := ⟨.hbm, 571, rfl⟩
abbrev main_call0_v405 : Ref sig .tc := ⟨.hbm, 572, rfl⟩
abbrev main_call0_v406 : Ref sig .tc := ⟨.hbm, 573, rfl⟩
abbrev main_call0_v407 : Ref sig .tc := ⟨.hbm, 574, rfl⟩
abbrev main_call0_v408 : Ref sig .tc := ⟨.hbm, 575, rfl⟩
abbrev main_call0_v409 : Ref sig .tc := ⟨.hbm, 576, rfl⟩
abbrev main_call0_v410 : Ref sig .tc := ⟨.hbm, 577, rfl⟩
abbrev main_call0_v411 : Ref sig .tc := ⟨.hbm, 578, rfl⟩
abbrev main_call0_v412 : Ref sig .tc := ⟨.hbm, 579, rfl⟩
abbrev main_call0_v413 : Ref sig .tc := ⟨.hbm, 580, rfl⟩
abbrev main_call0_v414 : Ref sig .tc := ⟨.hbm, 581, rfl⟩
abbrev main_call0_v415 : Ref sig .tc := ⟨.hbm, 582, rfl⟩
abbrev main_call0_v416 : Ref sig .tc := ⟨.hbm, 583, rfl⟩
abbrev main_call0_v417 : Ref sig .tc := ⟨.hbm, 584, rfl⟩
abbrev main_call0_v418 : Ref sig .tc := ⟨.hbm, 585, rfl⟩
abbrev main_call0_v419 : Ref sig .tc := ⟨.hbm, 586, rfl⟩
abbrev main_call0_v420 : Ref sig .tc := ⟨.hbm, 587, rfl⟩
abbrev main_call0_v421 : Ref sig .tc := ⟨.hbm, 588, rfl⟩
abbrev main_call0_v422 : Ref sig .tc := ⟨.hbm, 589, rfl⟩
abbrev main_call0_v423 : Ref sig .tc := ⟨.hbm, 590, rfl⟩
abbrev main_call0_v424 : Ref sig .tc := ⟨.hbm, 591, rfl⟩
abbrev main_call0_v425 : Ref sig .tc := ⟨.hbm, 592, rfl⟩
abbrev main_call0_v426 : Ref sig .tc := ⟨.hbm, 593, rfl⟩
abbrev main_call0_v427 : Ref sig .tc := ⟨.hbm, 594, rfl⟩
abbrev main_call0_v428 : Ref sig .tc := ⟨.hbm, 595, rfl⟩
abbrev main_call0_v429 : Ref sig .tc := ⟨.hbm, 596, rfl⟩
abbrev main_call0_v430 : Ref sig .tc := ⟨.hbm, 597, rfl⟩
abbrev main_call0_v431 : Ref sig .tc := ⟨.hbm, 598, rfl⟩
abbrev main_call0_v432 : Ref sig .tc := ⟨.hbm, 599, rfl⟩
abbrev main_call0_v433 : Ref sig .tc := ⟨.hbm, 600, rfl⟩
abbrev main_call0_v434 : Ref sig .tc := ⟨.hbm, 601, rfl⟩
abbrev main_call0_v435 : Ref sig .tc := ⟨.hbm, 602, rfl⟩
abbrev main_call0_v436 : Ref sig .tc := ⟨.hbm, 603, rfl⟩
abbrev main_call0_v437 : Ref sig .tc := ⟨.hbm, 604, rfl⟩
abbrev main_call0_v438 : Ref sig .tc := ⟨.hbm, 605, rfl⟩
abbrev main_call0_v439 : Ref sig .tc := ⟨.hbm, 606, rfl⟩
abbrev main_call0_v440 : Ref sig .tc := ⟨.hbm, 607, rfl⟩
abbrev main_call0_v441 : Ref sig .tc := ⟨.hbm, 608, rfl⟩
abbrev main_call0_v442 : Ref sig .tc := ⟨.hbm, 609, rfl⟩
abbrev main_call0_v443 : Ref sig .tc := ⟨.hbm, 610, rfl⟩
abbrev main_call0_v444 : Ref sig .tc := ⟨.hbm, 611, rfl⟩
abbrev main_call0_v445 : Ref sig .tc := ⟨.hbm, 612, rfl⟩
abbrev main_call0_v446 : Ref sig .tc := ⟨.hbm, 613, rfl⟩
abbrev main_call0_v447 : Ref sig .tc := ⟨.hbm, 614, rfl⟩
abbrev main_call0_v448 : Ref sig .tc := ⟨.hbm, 615, rfl⟩
abbrev main_call0_v449 : Ref sig .tc := ⟨.hbm, 616, rfl⟩
abbrev main_call0_v450 : Ref sig .tc := ⟨.hbm, 617, rfl⟩
abbrev main_call0_v451 : Ref sig .tc := ⟨.hbm, 618, rfl⟩
abbrev main_call0_v452 : Ref sig .tc := ⟨.hbm, 619, rfl⟩
abbrev main_call0_v453 : Ref sig .tc := ⟨.hbm, 620, rfl⟩
abbrev main_call0_v454 : Ref sig .tc := ⟨.hbm, 621, rfl⟩
abbrev main_call0_v455 : Ref sig .tc := ⟨.hbm, 622, rfl⟩
abbrev main_call0_v456 : Ref sig .tc := ⟨.hbm, 623, rfl⟩
abbrev main_call0_v457 : Ref sig .tc := ⟨.hbm, 624, rfl⟩
abbrev main_call0_v458 : Ref sig .tc := ⟨.hbm, 625, rfl⟩
abbrev main_call0_v459 : Ref sig .tc := ⟨.hbm, 626, rfl⟩
abbrev main_call0_v460 : Ref sig .tc := ⟨.hbm, 627, rfl⟩
abbrev main_call0_v461 : Ref sig .tc := ⟨.hbm, 628, rfl⟩
abbrev main_call0_v462 : Ref sig .tc := ⟨.hbm, 629, rfl⟩
abbrev main_call0_v463 : Ref sig .tc := ⟨.hbm, 630, rfl⟩
abbrev main_call0_v464 : Ref sig .tc := ⟨.hbm, 631, rfl⟩
abbrev main_call0_v465 : Ref sig .tc := ⟨.hbm, 632, rfl⟩
abbrev main_call0_v466 : Ref sig .tc := ⟨.hbm, 633, rfl⟩
abbrev main_call0_v467 : Ref sig .tc := ⟨.hbm, 634, rfl⟩
abbrev main_call0_v468 : Ref sig .tc := ⟨.hbm, 635, rfl⟩
abbrev main_call0_v469 : Ref sig .tc := ⟨.hbm, 636, rfl⟩
abbrev main_call0_v470 : Ref sig .tc := ⟨.hbm, 637, rfl⟩
abbrev main_call0_v471 : Ref sig .tc := ⟨.hbm, 638, rfl⟩
abbrev main_call0_v472 : Ref sig .tc := ⟨.hbm, 639, rfl⟩
abbrev main_call0_v473 : Ref sig .tc := ⟨.hbm, 640, rfl⟩
abbrev main_call0_v474 : Ref sig .tc := ⟨.hbm, 641, rfl⟩
abbrev main_call0_v475 : Ref sig .tc := ⟨.hbm, 642, rfl⟩
abbrev main_call0_v476 : Ref sig .tc := ⟨.hbm, 643, rfl⟩
abbrev main_call0_v477 : Ref sig .tc := ⟨.hbm, 644, rfl⟩
abbrev main_call0_v478 : Ref sig .tc := ⟨.hbm, 645, rfl⟩
abbrev main_call0_v479 : Ref sig .tc := ⟨.hbm, 646, rfl⟩
abbrev main_call0_v480 : Ref sig .tc := ⟨.hbm, 647, rfl⟩
abbrev main_call0_v481 : Ref sig .tc := ⟨.hbm, 648, rfl⟩
abbrev main_call0_v482 : Ref sig .tc := ⟨.hbm, 649, rfl⟩
abbrev main_call0_v483 : Ref sig .tc := ⟨.hbm, 650, rfl⟩
abbrev main_call0_v484 : Ref sig .tc := ⟨.hbm, 651, rfl⟩
abbrev main_call0_v485 : Ref sig .tc := ⟨.hbm, 652, rfl⟩
abbrev main_call0_v486 : Ref sig .tc := ⟨.hbm, 653, rfl⟩
abbrev main_call0_v487 : Ref sig .tc := ⟨.hbm, 654, rfl⟩
abbrev main_call0_v488 : Ref sig .tc := ⟨.hbm, 655, rfl⟩
abbrev main_call0_v489 : Ref sig .tc := ⟨.hbm, 656, rfl⟩
abbrev main_call0_v490 : Ref sig .tc := ⟨.hbm, 657, rfl⟩
abbrev main_call0_v491 : Ref sig .tc := ⟨.hbm, 658, rfl⟩
abbrev main_call0_v492 : Ref sig .tc := ⟨.hbm, 659, rfl⟩
abbrev main_call0_v493 : Ref sig .tc := ⟨.hbm, 660, rfl⟩
abbrev main_call0_v494 : Ref sig .tc := ⟨.hbm, 661, rfl⟩
abbrev main_call0_v495 : Ref sig .tc := ⟨.hbm, 662, rfl⟩
abbrev main_call0_v496 : Ref sig .tc := ⟨.hbm, 663, rfl⟩
abbrev main_call0_v497 : Ref sig .tc := ⟨.hbm, 664, rfl⟩
abbrev main_call0_v498 : Ref sig .tc := ⟨.hbm, 665, rfl⟩
abbrev main_call0_v499 : Ref sig .tc := ⟨.hbm, 666, rfl⟩
abbrev main_call0_v500 : Ref sig .tc := ⟨.hbm, 667, rfl⟩
abbrev main_call0_v501 : Ref sig .tc := ⟨.hbm, 668, rfl⟩
abbrev main_call0_v502 : Ref sig .tc := ⟨.hbm, 669, rfl⟩
abbrev main_call0_v503 : Ref sig .tc := ⟨.hbm, 670, rfl⟩
abbrev main_call0_v504 : Ref sig .tc := ⟨.hbm, 671, rfl⟩
abbrev main_call0_c_57 : Ref sig .tc := ⟨.hbm, 672, rfl⟩
abbrev main_call0_v505 : Ref sig .tc := ⟨.hbm, 673, rfl⟩
abbrev main_call0_v506 : Ref sig .tc := ⟨.hbm, 674, rfl⟩
abbrev main_call0_c_58 : Ref sig .tc := ⟨.hbm, 675, rfl⟩
abbrev main_call0_v507 : Ref sig .tc := ⟨.hbm, 676, rfl⟩
abbrev main_call0_v508 : Ref sig .tc := ⟨.hbm, 677, rfl⟩
abbrev main_call0_v509 : Ref sig .tc := ⟨.hbm, 678, rfl⟩
abbrev main_call0_v510 : Ref sig .tc := ⟨.hbm, 679, rfl⟩
abbrev main_call0_v511 : Ref sig .tc := ⟨.hbm, 680, rfl⟩
abbrev main_call0_v512 : Ref sig .tc := ⟨.hbm, 681, rfl⟩
abbrev main_call0_v513 : Ref sig .tc := ⟨.hbm, 682, rfl⟩
abbrev main_call0_v514 : Ref sig .tc := ⟨.hbm, 683, rfl⟩
abbrev main_call0_v515 : Ref sig .tc := ⟨.hbm, 684, rfl⟩
abbrev main_call0_v516 : Ref sig .tc := ⟨.hbm, 685, rfl⟩
abbrev main_call0_v517 : Ref sig .tc := ⟨.hbm, 686, rfl⟩
abbrev main_call0_v518 : Ref sig .tc := ⟨.hbm, 687, rfl⟩
abbrev main_call0_v519 : Ref sig .tc := ⟨.hbm, 688, rfl⟩
abbrev main_call0_call9_v0 : Ref sig .tc := ⟨.hbm, 689, rfl⟩
abbrev main_call0_call9_cst : Ref sig .tc := ⟨.hbm, 690, rfl⟩
abbrev main_call0_call9_c : Ref sig .tc := ⟨.hbm, 691, rfl⟩
abbrev main_call0_call9_v1_0 : Ref sig .tc := ⟨.hbm, 692, rfl⟩
abbrev main_call0_v520 : Ref sig .tc := ⟨.hbm, 693, rfl⟩
abbrev main_call0_c_59 : Ref sig .tc := ⟨.hbm, 694, rfl⟩
abbrev main_call0_v521 : Ref sig .tc := ⟨.hbm, 695, rfl⟩
abbrev main_call0_v522 : Ref sig .tc := ⟨.hbm, 696, rfl⟩
abbrev main_call0_c_60 : Ref sig .tc := ⟨.hbm, 697, rfl⟩
abbrev main_call0_v523 : Ref sig .tc := ⟨.hbm, 698, rfl⟩
abbrev main_call0_v524 : Ref sig .tc := ⟨.hbm, 699, rfl⟩
abbrev main_call0_v525 : Ref sig .tc := ⟨.hbm, 700, rfl⟩
abbrev main_call0_c_61 : Ref sig .tc := ⟨.hbm, 701, rfl⟩
abbrev main_call0_v526 : Ref sig .tc := ⟨.hbm, 702, rfl⟩
abbrev main_call0_v527 : Ref sig .tc := ⟨.hbm, 703, rfl⟩
abbrev main_call0_c_62 : Ref sig .tc := ⟨.hbm, 704, rfl⟩
abbrev main_call0_v528 : Ref sig .tc := ⟨.hbm, 705, rfl⟩
abbrev main_call0_v529 : Ref sig .tc := ⟨.hbm, 706, rfl⟩
abbrev main_call0_v530 : Ref sig .tc := ⟨.hbm, 707, rfl⟩
abbrev main_call0_v531 : Ref sig .tc := ⟨.hbm, 708, rfl⟩
abbrev main_call0_v532 : Ref sig .tc := ⟨.hbm, 709, rfl⟩
abbrev main_call0_v533 : Ref sig .tc := ⟨.hbm, 710, rfl⟩
abbrev main_call0_c_63 : Ref sig .tc := ⟨.hbm, 711, rfl⟩
abbrev main_call0_v534 : Ref sig .tc := ⟨.hbm, 712, rfl⟩
abbrev main_call0_v535 : Ref sig .tc := ⟨.hbm, 713, rfl⟩
abbrev main_call0_v536 : Ref sig .tc := ⟨.hbm, 714, rfl⟩
abbrev main_call0_c_64 : Ref sig .tc := ⟨.hbm, 715, rfl⟩
abbrev main_call0_v537 : Ref sig .tc := ⟨.hbm, 716, rfl⟩
abbrev main_call0_v538 : Ref sig .tc := ⟨.hbm, 717, rfl⟩
abbrev main_call0_c_65 : Ref sig .tc := ⟨.hbm, 718, rfl⟩
abbrev main_call0_v539 : Ref sig .tc := ⟨.hbm, 719, rfl⟩
abbrev main_call0_v540 : Ref sig .tc := ⟨.hbm, 720, rfl⟩
abbrev main_call0_v541 : Ref sig .tc := ⟨.hbm, 721, rfl⟩
abbrev main_call0_c_66 : Ref sig .tc := ⟨.hbm, 722, rfl⟩
abbrev main_call0_v542 : Ref sig .tc := ⟨.hbm, 723, rfl⟩
abbrev main_call0_v543 : Ref sig .tc := ⟨.hbm, 724, rfl⟩
abbrev main_call0_c_67 : Ref sig .tc := ⟨.hbm, 725, rfl⟩
abbrev main_call0_v544 : Ref sig .tc := ⟨.hbm, 726, rfl⟩
abbrev main_call0_v545 : Ref sig .tc := ⟨.hbm, 727, rfl⟩
abbrev main_call0_v546 : Ref sig .tc := ⟨.hbm, 728, rfl⟩
abbrev main_call0_v547 : Ref sig .tc := ⟨.hbm, 729, rfl⟩
abbrev main_call0_v548 : Ref sig .tc := ⟨.hbm, 730, rfl⟩
abbrev main_call0_v549 : Ref sig .tc := ⟨.hbm, 731, rfl⟩
abbrev main_call0_v550 : Ref sig .tc := ⟨.hbm, 732, rfl⟩
abbrev main_call0_v551 : Ref sig .tc := ⟨.hbm, 733, rfl⟩
abbrev main_call0_v552 : Ref sig .tc := ⟨.hbm, 734, rfl⟩
abbrev main_call0_v553 : Ref sig .tc := ⟨.hbm, 735, rfl⟩
abbrev main_call0_v554 : Ref sig .tc := ⟨.hbm, 736, rfl⟩
abbrev main_call0_v555 : Ref sig .tc := ⟨.hbm, 737, rfl⟩
abbrev main_call0_v556 : Ref sig .tc := ⟨.hbm, 738, rfl⟩
abbrev main_call0_v557 : Ref sig .tc := ⟨.hbm, 739, rfl⟩
abbrev main_call0_v558 : Ref sig .tc := ⟨.hbm, 740, rfl⟩
abbrev main_call0_v559 : Ref sig .tc := ⟨.hbm, 741, rfl⟩
abbrev main_call0_v560 : Ref sig .tc := ⟨.hbm, 742, rfl⟩
abbrev main_call0_v561 : Ref sig .tc := ⟨.hbm, 743, rfl⟩
abbrev main_call0_v562 : Ref sig .tc := ⟨.hbm, 744, rfl⟩
abbrev main_call0_v563 : Ref sig .tc := ⟨.hbm, 745, rfl⟩
abbrev main_call0_v564 : Ref sig .tc := ⟨.hbm, 746, rfl⟩
abbrev main_call0_v565 : Ref sig .tc := ⟨.hbm, 747, rfl⟩
abbrev main_call0_v566 : Ref sig .tc := ⟨.hbm, 748, rfl⟩
abbrev main_call0_v567 : Ref sig .tc := ⟨.hbm, 749, rfl⟩
abbrev main_call0_v568 : Ref sig .tc := ⟨.hbm, 750, rfl⟩
abbrev main_call0_v569 : Ref sig .tc := ⟨.hbm, 751, rfl⟩
abbrev main_call0_v570 : Ref sig .tc := ⟨.hbm, 752, rfl⟩
abbrev main_call0_v571 : Ref sig .tc := ⟨.hbm, 753, rfl⟩
abbrev main_call0_v572 : Ref sig .tc := ⟨.hbm, 754, rfl⟩
abbrev main_call0_v573 : Ref sig .tc := ⟨.hbm, 755, rfl⟩
abbrev main_call0_v574 : Ref sig .tc := ⟨.hbm, 756, rfl⟩
abbrev main_call0_v575 : Ref sig .tc := ⟨.hbm, 757, rfl⟩
abbrev main_call0_v576 : Ref sig .tc := ⟨.hbm, 758, rfl⟩
abbrev main_call0_v577 : Ref sig .tc := ⟨.hbm, 759, rfl⟩
abbrev main_call0_v578 : Ref sig .tc := ⟨.hbm, 760, rfl⟩
abbrev main_call0_v579 : Ref sig .tc := ⟨.hbm, 761, rfl⟩
abbrev main_call0_v580 : Ref sig .tc := ⟨.hbm, 762, rfl⟩
abbrev main_call0_v581 : Ref sig .tc := ⟨.hbm, 763, rfl⟩
abbrev main_call0_v582 : Ref sig .tc := ⟨.hbm, 764, rfl⟩
abbrev main_call0_v583 : Ref sig .tc := ⟨.hbm, 765, rfl⟩
abbrev main_call0_v584 : Ref sig .tc := ⟨.hbm, 766, rfl⟩
abbrev main_call0_v585 : Ref sig .tc := ⟨.hbm, 767, rfl⟩
abbrev main_call0_v586 : Ref sig .tc := ⟨.hbm, 768, rfl⟩
abbrev main_call0_v587 : Ref sig .tc := ⟨.hbm, 769, rfl⟩
abbrev main_call0_v588 : Ref sig .tc := ⟨.hbm, 770, rfl⟩
abbrev main_call0_v589 : Ref sig .tc := ⟨.hbm, 771, rfl⟩
abbrev main_call0_v590 : Ref sig .tc := ⟨.hbm, 772, rfl⟩
abbrev main_call0_v591 : Ref sig .tc := ⟨.hbm, 773, rfl⟩
abbrev main_call0_v592 : Ref sig .tc := ⟨.hbm, 774, rfl⟩
abbrev main_call0_v593 : Ref sig .tc := ⟨.hbm, 775, rfl⟩
abbrev main_call0_v594 : Ref sig .tc := ⟨.hbm, 776, rfl⟩
abbrev main_call0_v595 : Ref sig .tc := ⟨.hbm, 777, rfl⟩
abbrev main_call0_v596 : Ref sig .tc := ⟨.hbm, 778, rfl⟩
abbrev main_call0_v597 : Ref sig .tc := ⟨.hbm, 779, rfl⟩
abbrev main_call0_v598 : Ref sig .tc := ⟨.hbm, 780, rfl⟩
abbrev main_call0_v599 : Ref sig .tc := ⟨.hbm, 781, rfl⟩
abbrev main_call0_v600 : Ref sig .tc := ⟨.hbm, 782, rfl⟩
abbrev main_call0_v601 : Ref sig .tc := ⟨.hbm, 783, rfl⟩
abbrev main_call0_v602 : Ref sig .tc := ⟨.hbm, 784, rfl⟩
abbrev main_call0_v603 : Ref sig .tc := ⟨.hbm, 785, rfl⟩
abbrev main_call0_cst_68 : Ref sig .tc := ⟨.hbm, 786, rfl⟩
abbrev main_call0_v604 : Ref sig .tc := ⟨.hbm, 787, rfl⟩
abbrev main_call0_v605 : Ref sig .tc := ⟨.hbm, 788, rfl⟩
abbrev main_call0_cst_69 : Ref sig .tc := ⟨.hbm, 789, rfl⟩
abbrev main_call0_v606 : Ref sig .tc := ⟨.hbm, 790, rfl⟩
abbrev main_call0_v607 : Ref sig .tc := ⟨.hbm, 791, rfl⟩
abbrev main_call0_cst_70 : Ref sig .tc := ⟨.hbm, 792, rfl⟩
abbrev main_call0_v608 : Ref sig .tc := ⟨.hbm, 793, rfl⟩
abbrev main_call0_v609 : Ref sig .tc := ⟨.hbm, 794, rfl⟩
abbrev main_call0_v610 : Ref sig .tc := ⟨.hbm, 795, rfl⟩
abbrev main_call0_cst_71 : Ref sig .tc := ⟨.hbm, 796, rfl⟩
abbrev main_call0_v611 : Ref sig .tc := ⟨.hbm, 797, rfl⟩
abbrev main_call0_v612 : Ref sig .tc := ⟨.hbm, 798, rfl⟩
abbrev main_call0_v613 : Ref sig .tc := ⟨.hbm, 799, rfl⟩
abbrev main_call0_v614 : Ref sig .tc := ⟨.hbm, 800, rfl⟩
abbrev main_call0_v615 : Ref sig .tc := ⟨.hbm, 801, rfl⟩
abbrev main_call0_v616 : Ref sig .tc := ⟨.hbm, 802, rfl⟩
abbrev main_call0_call10_c : Ref sig .tc := ⟨.hbm, 803, rfl⟩
abbrev main_call0_call10_v0 : Ref sig .tc := ⟨.hbm, 804, rfl⟩
abbrev main_call0_call10_v1 : Ref sig .tc := ⟨.hbm, 805, rfl⟩
abbrev main_call0_call10_c_0 : Ref sig .tc := ⟨.hbm, 806, rfl⟩
abbrev main_call0_call10_v2 : Ref sig .tc := ⟨.hbm, 807, rfl⟩
abbrev main_call0_call10_v3 : Ref sig .tc := ⟨.hbm, 808, rfl⟩
abbrev main_call0_call10_v4 : Ref sig .tc := ⟨.hbm, 809, rfl⟩
abbrev main_call0_call10_v5 : Ref sig .tc := ⟨.hbm, 810, rfl⟩
abbrev main_call0_call10_c_1 : Ref sig .tc := ⟨.hbm, 811, rfl⟩
abbrev main_call0_call10_c_2 : Ref sig .tc := ⟨.hbm, 812, rfl⟩
abbrev main_call0_call10_v6 : Ref sig .tc := ⟨.hbm, 813, rfl⟩
abbrev main_call0_call10_v7 : Ref sig .tc := ⟨.hbm, 814, rfl⟩
abbrev main_call0_call10_v8 : Ref sig .tc := ⟨.hbm, 815, rfl⟩
abbrev main_call0_call10_v9 : Ref sig .tc := ⟨.hbm, 816, rfl⟩
abbrev main_call0_call10_v10 : Ref sig .tc := ⟨.hbm, 817, rfl⟩
abbrev main_call0_call10_v11 : Ref sig .tc := ⟨.hbm, 818, rfl⟩
abbrev main_call0_call10_c_3 : Ref sig .tc := ⟨.hbm, 819, rfl⟩
abbrev main_call0_call10_v12 : Ref sig .tc := ⟨.hbm, 820, rfl⟩
abbrev main_call0_call10_v13 : Ref sig .tc := ⟨.hbm, 821, rfl⟩
abbrev main_call0_call10_cst : Ref sig .tc := ⟨.hbm, 822, rfl⟩
abbrev main_call0_call10_v14 : Ref sig .tc := ⟨.hbm, 823, rfl⟩
abbrev main_call0_v617 : Ref sig .tc := ⟨.hbm, 824, rfl⟩
abbrev main_call0_v618 : Ref sig .tc := ⟨.hbm, 825, rfl⟩
abbrev main_call0_v619 : Ref sig .tc := ⟨.hbm, 826, rfl⟩
abbrev main_call0_v620 : Ref sig .tc := ⟨.hbm, 827, rfl⟩
abbrev main_call0_v621 : Ref sig .tc := ⟨.hbm, 828, rfl⟩
abbrev main_call0_v622 : Ref sig .tc := ⟨.hbm, 829, rfl⟩
abbrev main_call0_v623 : Ref sig .tc := ⟨.hbm, 830, rfl⟩
abbrev main_call0_v624 : Ref sig .tc := ⟨.hbm, 831, rfl⟩
abbrev main_call0_v625 : Ref sig .tc := ⟨.hbm, 832, rfl⟩
abbrev main_call0_v626 : Ref sig .tc := ⟨.hbm, 833, rfl⟩
abbrev main_call0_v627 : Ref sig .tc := ⟨.hbm, 834, rfl⟩
abbrev main_call0_v628 : Ref sig .tc := ⟨.hbm, 835, rfl⟩
abbrev main_call0_v629 : Ref sig .tc := ⟨.hbm, 836, rfl⟩
abbrev main_call0_v630 : Ref sig .tc := ⟨.hbm, 837, rfl⟩
abbrev main_call0_v631 : Ref sig .tc := ⟨.hbm, 838, rfl⟩
abbrev main_call0_v632 : Ref sig .tc := ⟨.hbm, 839, rfl⟩
abbrev main_call0_v633 : Ref sig .tc := ⟨.hbm, 840, rfl⟩
abbrev main_call0_v634 : Ref sig .tc := ⟨.hbm, 841, rfl⟩
abbrev main_call0_v635 : Ref sig .tc := ⟨.hbm, 842, rfl⟩
abbrev main_call0_v636 : Ref sig .tc := ⟨.hbm, 843, rfl⟩
abbrev main_call0_v637 : Ref sig .tc := ⟨.hbm, 844, rfl⟩
abbrev main_call0_v638 : Ref sig .tc := ⟨.hbm, 845, rfl⟩
abbrev main_call0_v639 : Ref sig .tc := ⟨.hbm, 846, rfl⟩
abbrev main_call0_v640 : Ref sig .tc := ⟨.hbm, 847, rfl⟩
abbrev main_call0_v641 : Ref sig .tc := ⟨.hbm, 848, rfl⟩
abbrev main_call0_v642 : Ref sig .tc := ⟨.hbm, 849, rfl⟩
abbrev main_call0_v643 : Ref sig .tc := ⟨.hbm, 850, rfl⟩
abbrev main_call0_v644 : Ref sig .tc := ⟨.hbm, 851, rfl⟩
abbrev main_call0_v645 : Ref sig .tc := ⟨.hbm, 852, rfl⟩
abbrev main_call0_v646 : Ref sig .tc := ⟨.hbm, 853, rfl⟩
abbrev main_call0_v647 : Ref sig .tc := ⟨.hbm, 854, rfl⟩
abbrev main_call0_v648 : Ref sig .tc := ⟨.hbm, 855, rfl⟩
abbrev main_call0_v649 : Ref sig .tc := ⟨.hbm, 856, rfl⟩
abbrev main_call0_v650 : Ref sig .tc := ⟨.hbm, 857, rfl⟩
abbrev main_call0_v651 : Ref sig .tc := ⟨.hbm, 858, rfl⟩
abbrev main_call0_v652 : Ref sig .tc := ⟨.hbm, 859, rfl⟩
abbrev main_call0_v653 : Ref sig .tc := ⟨.hbm, 860, rfl⟩
abbrev main_call0_v654 : Ref sig .tc := ⟨.hbm, 861, rfl⟩
abbrev main_call0_v655 : Ref sig .tc := ⟨.hbm, 862, rfl⟩
abbrev main_call0_v656 : Ref sig .tc := ⟨.hbm, 863, rfl⟩
abbrev main_call0_v657 : Ref sig .tc := ⟨.hbm, 864, rfl⟩
abbrev main_call0_v658 : Ref sig .tc := ⟨.hbm, 865, rfl⟩
abbrev main_call0_v659 : Ref sig .tc := ⟨.hbm, 866, rfl⟩
abbrev main_call0_v660 : Ref sig .tc := ⟨.hbm, 867, rfl⟩
abbrev main_call0_v661 : Ref sig .tc := ⟨.hbm, 868, rfl⟩
abbrev main_call0_v662 : Ref sig .tc := ⟨.hbm, 869, rfl⟩
abbrev main_call0_v663 : Ref sig .tc := ⟨.hbm, 870, rfl⟩
abbrev main_call0_v664 : Ref sig .tc := ⟨.hbm, 871, rfl⟩
abbrev main_call0_v665 : Ref sig .tc := ⟨.hbm, 872, rfl⟩
abbrev main_call0_v666 : Ref sig .tc := ⟨.hbm, 873, rfl⟩
abbrev main_call0_v667 : Ref sig .tc := ⟨.hbm, 874, rfl⟩
abbrev main_call0_v668 : Ref sig .tc := ⟨.hbm, 875, rfl⟩
abbrev main_call0_v669 : Ref sig .tc := ⟨.hbm, 876, rfl⟩
abbrev main_call0_v670 : Ref sig .tc := ⟨.hbm, 877, rfl⟩
abbrev main_call0_v671 : Ref sig .tc := ⟨.hbm, 878, rfl⟩
abbrev main_call0_v672 : Ref sig .tc := ⟨.hbm, 879, rfl⟩
abbrev main_call0_v673 : Ref sig .tc := ⟨.hbm, 880, rfl⟩
abbrev main_call0_v674 : Ref sig .tc := ⟨.hbm, 881, rfl⟩
abbrev main_call0_v675 : Ref sig .tc := ⟨.hbm, 882, rfl⟩
abbrev main_call0_v676 : Ref sig .tc := ⟨.hbm, 883, rfl⟩
abbrev main_call0_v677 : Ref sig .tc := ⟨.hbm, 884, rfl⟩
abbrev main_call0_v678 : Ref sig .tc := ⟨.hbm, 885, rfl⟩
abbrev main_call0_v679 : Ref sig .tc := ⟨.hbm, 886, rfl⟩
abbrev main_call0_v680 : Ref sig .tc := ⟨.hbm, 887, rfl⟩
abbrev main_call0_v681 : Ref sig .tc := ⟨.hbm, 888, rfl⟩
abbrev main_call0_v682 : Ref sig .tc := ⟨.hbm, 889, rfl⟩
abbrev main_call0_v683 : Ref sig .tc := ⟨.hbm, 890, rfl⟩
abbrev main_call0_v684 : Ref sig .tc := ⟨.hbm, 891, rfl⟩
abbrev main_call0_v685 : Ref sig .tc := ⟨.hbm, 892, rfl⟩
abbrev main_call0_v686 : Ref sig .tc := ⟨.hbm, 893, rfl⟩
abbrev main_call0_v687 : Ref sig .tc := ⟨.hbm, 894, rfl⟩
abbrev main_call0_v688 : Ref sig .tc := ⟨.hbm, 895, rfl⟩
abbrev main_call0_v689 : Ref sig .tc := ⟨.hbm, 896, rfl⟩
abbrev main_call0_v690 : Ref sig .tc := ⟨.hbm, 897, rfl⟩
abbrev main_call0_v691 : Ref sig .tc := ⟨.hbm, 898, rfl⟩
abbrev main_call0_v692 : Ref sig .tc := ⟨.hbm, 899, rfl⟩
abbrev main_call0_v693 : Ref sig .tc := ⟨.hbm, 900, rfl⟩
abbrev main_call0_v694 : Ref sig .tc := ⟨.hbm, 901, rfl⟩
abbrev main_call0_v695 : Ref sig .tc := ⟨.hbm, 902, rfl⟩
abbrev main_call0_v696 : Ref sig .tc := ⟨.hbm, 903, rfl⟩
abbrev main_call0_v697 : Ref sig .tc := ⟨.hbm, 904, rfl⟩
abbrev main_call0_v698 : Ref sig .tc := ⟨.hbm, 905, rfl⟩
abbrev main_call0_v699 : Ref sig .tc := ⟨.hbm, 906, rfl⟩
abbrev main_call0_v700 : Ref sig .tc := ⟨.hbm, 907, rfl⟩
abbrev main_call0_v701 : Ref sig .tc := ⟨.hbm, 908, rfl⟩
abbrev main_call0_v702 : Ref sig .tc := ⟨.hbm, 909, rfl⟩
abbrev main_call0_v703 : Ref sig .tc := ⟨.hbm, 910, rfl⟩
abbrev main_call0_v704 : Ref sig .tc := ⟨.hbm, 911, rfl⟩
abbrev main_call0_v705 : Ref sig .tc := ⟨.hbm, 912, rfl⟩
abbrev main_call0_v706 : Ref sig .tc := ⟨.hbm, 913, rfl⟩
abbrev main_call0_v707 : Ref sig .tc := ⟨.hbm, 914, rfl⟩
abbrev main_call0_v708 : Ref sig .tc := ⟨.hbm, 915, rfl⟩
abbrev main_call0_v709 : Ref sig .tc := ⟨.hbm, 916, rfl⟩
abbrev main_call0_v710 : Ref sig .tc := ⟨.hbm, 917, rfl⟩
abbrev main_call0_v711 : Ref sig .tc := ⟨.hbm, 918, rfl⟩
abbrev main_call0_v712 : Ref sig .tc := ⟨.hbm, 919, rfl⟩
abbrev main_call0_v713 : Ref sig .tc := ⟨.hbm, 920, rfl⟩
abbrev main_call0_v714 : Ref sig .tc := ⟨.hbm, 921, rfl⟩
abbrev main_call0_v715 : Ref sig .tc := ⟨.hbm, 922, rfl⟩
abbrev main_call0_v716 : Ref sig .tc := ⟨.hbm, 923, rfl⟩
abbrev main_call0_v717 : Ref sig .tc := ⟨.hbm, 924, rfl⟩
abbrev main_call0_v718 : Ref sig .tc := ⟨.hbm, 925, rfl⟩
abbrev main_call0_v719 : Ref sig .tc := ⟨.hbm, 926, rfl⟩
abbrev main_call0_v720 : Ref sig .tc := ⟨.hbm, 927, rfl⟩
abbrev main_call0_v721 : Ref sig .tc := ⟨.hbm, 928, rfl⟩
abbrev main_call0_v722 : Ref sig .tc := ⟨.hbm, 929, rfl⟩
abbrev main_call0_v723 : Ref sig .tc := ⟨.hbm, 930, rfl⟩
abbrev main_call0_v724 : Ref sig .tc := ⟨.hbm, 931, rfl⟩
abbrev main_call0_v725 : Ref sig .tc := ⟨.hbm, 932, rfl⟩
abbrev main_call0_v726 : Ref sig .tc := ⟨.hbm, 933, rfl⟩
abbrev main_call0_v727 : Ref sig .tc := ⟨.hbm, 934, rfl⟩
abbrev main_call0_v728 : Ref sig .tc := ⟨.hbm, 935, rfl⟩
abbrev main_call0_v729 : Ref sig .tc := ⟨.hbm, 936, rfl⟩
abbrev main_call0_v730 : Ref sig .tc := ⟨.hbm, 937, rfl⟩
abbrev main_call0_v731 : Ref sig .tc := ⟨.hbm, 938, rfl⟩
abbrev main_call0_v732 : Ref sig .tc := ⟨.hbm, 939, rfl⟩
abbrev main_call0_v733 : Ref sig .tc := ⟨.hbm, 940, rfl⟩
abbrev main_call0_v734 : Ref sig .tc := ⟨.hbm, 941, rfl⟩
abbrev main_call0_v735 : Ref sig .tc := ⟨.hbm, 942, rfl⟩
abbrev main_call0_v736 : Ref sig .tc := ⟨.hbm, 943, rfl⟩
abbrev main_call0_v737 : Ref sig .tc := ⟨.hbm, 944, rfl⟩
abbrev main_call0_v738 : Ref sig .tc := ⟨.hbm, 945, rfl⟩
abbrev main_call0_v739 : Ref sig .tc := ⟨.hbm, 946, rfl⟩
abbrev main_call0_v740 : Ref sig .tc := ⟨.hbm, 947, rfl⟩
abbrev main_call0_v741 : Ref sig .tc := ⟨.hbm, 948, rfl⟩
abbrev main_call0_v742 : Ref sig .tc := ⟨.hbm, 949, rfl⟩
abbrev main_call0_v743 : Ref sig .tc := ⟨.hbm, 950, rfl⟩
abbrev main_call0_v744 : Ref sig .tc := ⟨.hbm, 951, rfl⟩
abbrev main_call0_v745 : Ref sig .tc := ⟨.hbm, 952, rfl⟩
abbrev main_call0_v746 : Ref sig .tc := ⟨.hbm, 953, rfl⟩
abbrev main_call0_v747 : Ref sig .tc := ⟨.hbm, 954, rfl⟩
abbrev main_call0_v748 : Ref sig .tc := ⟨.hbm, 955, rfl⟩
abbrev main_call0_v749 : Ref sig .tc := ⟨.hbm, 956, rfl⟩
abbrev main_call0_v750 : Ref sig .tc := ⟨.hbm, 957, rfl⟩
abbrev main_call0_v751 : Ref sig .tc := ⟨.hbm, 958, rfl⟩
abbrev main_call0_v752 : Ref sig .tc := ⟨.hbm, 959, rfl⟩
abbrev main_call0_v753 : Ref sig .tc := ⟨.hbm, 960, rfl⟩
abbrev main_call0_v754 : Ref sig .tc := ⟨.hbm, 961, rfl⟩
abbrev main_call0_v755 : Ref sig .tc := ⟨.hbm, 962, rfl⟩
abbrev main_call0_v756 : Ref sig .tc := ⟨.hbm, 963, rfl⟩
abbrev main_call0_v757 : Ref sig .tc := ⟨.hbm, 964, rfl⟩
abbrev main_call0_v758 : Ref sig .tc := ⟨.hbm, 965, rfl⟩
abbrev main_call0_v759 : Ref sig .tc := ⟨.hbm, 966, rfl⟩
abbrev main_call0_v760 : Ref sig .tc := ⟨.hbm, 967, rfl⟩
abbrev main_call0_v761 : Ref sig .tc := ⟨.hbm, 968, rfl⟩
abbrev main_call0_v762 : Ref sig .tc := ⟨.hbm, 969, rfl⟩
abbrev main_call0_v763 : Ref sig .tc := ⟨.hbm, 970, rfl⟩
abbrev main_call0_call11_v0 : Ref sig .tc := ⟨.hbm, 971, rfl⟩
abbrev main_call0_call11_v1 : Ref sig .tc := ⟨.hbm, 972, rfl⟩
abbrev main_call0_call11_v2 : Ref sig .tc := ⟨.hbm, 973, rfl⟩
abbrev main_call0_call11_v3 : Ref sig .tc := ⟨.hbm, 974, rfl⟩
abbrev main_call0_call11_v4 : Ref sig .tc := ⟨.hbm, 975, rfl⟩
abbrev main_call0_v764 : Ref sig .tc := ⟨.hbm, 976, rfl⟩
abbrev main_call0_v765_0 : Ref sig .tc := ⟨.hbm, 977, rfl⟩
abbrev main_call0_v765_1 : Ref sig .tc := ⟨.hbm, 978, rfl⟩
abbrev main_call0_v766 : Ref sig .tc := ⟨.hbm, 979, rfl⟩
abbrev main_call0_cst_72 : Ref sig .tc := ⟨.hbm, 980, rfl⟩
abbrev main_call0_v767 : Ref sig .tc := ⟨.hbm, 981, rfl⟩
abbrev main_call0_cst_73 : Ref sig .tc := ⟨.hbm, 982, rfl⟩
abbrev main_v0_1 : Ref sig .tc := ⟨.hbm, 983, rfl⟩
abbrev main_call0_v769 : Ref sig .tc := ⟨.hbm, 984, rfl⟩
abbrev main_call0_v770 : Ref sig .tc := ⟨.hbm, 985, rfl⟩
abbrev main_v0_0 : Ref sig .tc := ⟨.hbm, 986, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13

abbrev nD : Nat := 1
abbrev τ : Topo := Topo.v7x

variable {F : FTy → Type} [FloatOps F]

abbrev grid0 : Pipeline.Grid := .none

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S5x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x5 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S8x64x32x32 : Shape := ⟨4, ![8, 64, 32, 32]⟩
abbrev S256x1024 : Shape := ⟨2, ![256, 1024]⟩
abbrev S1024 : Shape := ⟨1, ![1024]⟩
abbrev S8x64x16x2x16x2 : Shape := ⟨6, ![8, 64, 16, 2, 16, 2]⟩
abbrev S8x16x16x64x2x2 : Shape := ⟨6, ![8, 16, 16, 64, 2, 2]⟩
abbrev S2048x256 : Shape := ⟨2, ![2048, 256]⟩
abbrev S256x2048 : Shape := ⟨2, ![256, 2048]⟩
abbrev S_ : Shape := ⟨0, ![]⟩
abbrev S1x1024 : Shape := ⟨2, ![1, 1024]⟩
abbrev S1024x256 : Shape := ⟨2, ![1024, 256]⟩
abbrev S1024x1024 : Shape := ⟨2, ![1024, 1024]⟩
abbrev S1024x2048 : Shape := ⟨2, ![1024, 2048]⟩
abbrev S2048x1024 : Shape := ⟨2, ![2048, 1024]⟩
abbrev S2048x1x1 : Shape := ⟨3, ![2048, 1, 1]⟩
abbrev S2048 : Shape := ⟨1, ![2048]⟩
abbrev S2048x1 : Shape := ⟨2, ![2048, 1]⟩
abbrev S2048x2 : Shape := ⟨2, ![2048, 2]⟩
abbrev S1 : Shape := ⟨1, ![1]⟩
abbrev S1x1x1 : Shape := ⟨3, ![1, 1, 1]⟩
abbrev S2048x1x1024 : Shape := ⟨3, ![2048, 1, 1024]⟩
abbrev S2048x1x2 : Shape := ⟨3, ![2048, 1, 2]⟩
abbrev S2048x2x2 : Shape := ⟨3, ![2048, 2, 2]⟩
abbrev S2048x2x1 : Shape := ⟨3, ![2048, 2, 1]⟩
abbrev S2048x2x1024 : Shape := ⟨3, ![2048, 2, 1024]⟩
abbrev S2048x2x3 : Shape := ⟨3, ![2048, 2, 3]⟩
abbrev S2048x1x3 : Shape := ⟨3, ![2048, 1, 3]⟩
abbrev S2048x3x3 : Shape := ⟨3, ![2048, 3, 3]⟩
abbrev S2048x3 : Shape := ⟨2, ![2048, 3]⟩
abbrev S2048x3x1 : Shape := ⟨3, ![2048, 3, 1]⟩
abbrev S2048x3x1024 : Shape := ⟨3, ![2048, 3, 1024]⟩
abbrev S2048x3x2 : Shape := ⟨3, ![2048, 3, 2]⟩
abbrev S2048x3x4 : Shape := ⟨3, ![2048, 3, 4]⟩
abbrev S2048x1x4 : Shape := ⟨3, ![2048, 1, 4]⟩
abbrev S2048x4x4 : Shape := ⟨3, ![2048, 4, 4]⟩
abbrev S2048x4 : Shape := ⟨2, ![2048, 4]⟩
abbrev S2048x4x1 : Shape := ⟨3, ![2048, 4, 1]⟩
abbrev S2048x4x1024 : Shape := ⟨3, ![2048, 4, 1024]⟩
abbrev S2048x4x2 : Shape := ⟨3, ![2048, 4, 2]⟩
abbrev S2048x4x5 : Shape := ⟨3, ![2048, 4, 5]⟩
abbrev S2048x1x5 : Shape := ⟨3, ![2048, 1, 5]⟩
abbrev S2048x5x5 : Shape := ⟨3, ![2048, 5, 5]⟩
abbrev S2048x5 : Shape := ⟨2, ![2048, 5]⟩
abbrev S2048x5x1 : Shape := ⟨3, ![2048, 5, 1]⟩
abbrev S2048x5x1024 : Shape := ⟨3, ![2048, 5, 1024]⟩
abbrev S2048x5x256 : Shape := ⟨3, ![2048, 5, 256]⟩

abbrev nBuf : Space → Nat
  | .hbm => 1016
  | .vmem => 0
  | .smem => 0
  | _ => 0

abbrev hbmTy0_0 (i : Nat) : BufTy := match i % 128 with
  | 0 => ⟨S8x64x32x32, .f32⟩
  | 1 => ⟨S256x1024, .f32⟩
  | 2 => ⟨S1024, .f32⟩
  | 3 => ⟨S8x64x16x2x16x2, .f32⟩
  | 4 => ⟨S8x16x16x64x2x2, .f32⟩
  | 5 => ⟨S2048x256, .f32⟩
  | 6 => ⟨S256x2048, .f32⟩
  | 7 => ⟨S256x1024, .f32⟩
  | 8 => ⟨S_, .f32⟩
  | 9 => ⟨S1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S256x1024, .f32⟩
  | 16 => ⟨S256x1024, .f32⟩
  | 17 => ⟨S1024x256, .f32⟩
  | 18 => ⟨S1024x1024, .f32⟩
  | 19 => ⟨S1024x2048, .f32⟩
  | 20 => ⟨S2048x1024, .f32⟩
  | 21 => ⟨S_, .f32⟩
  | 22 => ⟨S_, .f32⟩
  | 23 => ⟨S_, .f32⟩
  | 24 => ⟨S_, .f32⟩
  | 25 => ⟨S1024, .f32⟩
  | 26 => ⟨S1024, .f32⟩
  | 27 => ⟨S_, .f32⟩
  | 28 => ⟨S1024, .f32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S_, .f32⟩
  | 37 => ⟨S1024, .f32⟩
  | 38 => ⟨S1024, .f32⟩
  | 39 => ⟨S_, .f32⟩
  | 40 => ⟨S2048x1x1, .f32⟩
  | 41 => ⟨S_, .i1⟩
  | 42 => ⟨S2048x1024, .i1⟩
  | 43 => ⟨S2048, .i32⟩
  | 44 => ⟨S2048x1024, .f32⟩
  | 45 => ⟨S2048x1024, .f32⟩
  | 46 => ⟨S2048x1024, .f32⟩
  | 47 => ⟨S1x1024, .f32⟩
  | 48 => ⟨S2048x1024, .f32⟩
  | 49 => ⟨S2048x1024, .f32⟩
  | 50 => ⟨S2048x1024, .i32⟩
  | 51 => ⟨S_, .f32⟩
  | 52 => ⟨S_, .i32⟩
  | 53 => ⟨S2048, .f32⟩
  | 54 => ⟨S2048, .i32⟩
  | 55 => ⟨S_, .i32⟩
  | 56 => ⟨S2048, .i32⟩
  | 57 => ⟨S2048, .i1⟩
  | 58 => ⟨S_, .i32⟩
  | 59 => ⟨S2048, .i32⟩
  | 60 => ⟨S2048, .i32⟩
  | 61 => ⟨S2048, .i32⟩
  | 62 => ⟨S_, .i32⟩
  | 63 => ⟨S2048, .i32⟩
  | 64 => ⟨S2048, .i1⟩
  | 65 => ⟨S_, .i32⟩
  | 66 => ⟨S2048, .i32⟩
  | 67 => ⟨S2048, .i32⟩
  | 68 => ⟨S2048, .i32⟩
  | 69 => ⟨S2048x1, .i32⟩
  | 70 => ⟨S2048x1, .i32⟩
  | 71 => ⟨S2048x2, .i32⟩
  | 72 => ⟨S_, .i1⟩
  | 73 => ⟨S2048, .i1⟩
  | 74 => ⟨S2048x1024, .i1⟩
  | 75 => ⟨S2048x1, .i32⟩
  | 76 => ⟨S_, .i32⟩
  | 77 => ⟨S2048x1, .i32⟩
  | 78 => ⟨S2048x1, .i1⟩
  | 79 => ⟨S_, .i32⟩
  | 80 => ⟨S2048x1, .i32⟩
  | 81 => ⟨S2048x1, .i32⟩
  | 82 => ⟨S2048x1, .i32⟩
  | 83 => ⟨S2048x1x1, .i32⟩
  | 84 => ⟨S1, .i32⟩
  | 85 => ⟨S_, .i32⟩
  | 86 => ⟨S2048x1x1, .i32⟩
  | 87 => ⟨S2048x1x1, .i1⟩
  | 88 => ⟨S1x1x1, .i32⟩
  | 89 => ⟨S2048x1x1, .i32⟩
  | 90 => ⟨S2048x1x1, .i1⟩
  | 91 => ⟨S2048x1x1, .i1⟩
  | 92 => ⟨S_, .i1⟩
  | 93 => ⟨S2048x1, .i1⟩
  | 94 => ⟨S2048x1, .f32⟩
  | 95 => ⟨S_, .f32⟩
  | 96 => ⟨S2048x1, .f32⟩
  | 97 => ⟨S2048x1, .f32⟩
  | 98 => ⟨S2048x1x1, .f32⟩
  | 99 => ⟨S2048x1, .f32⟩
  | 100 => ⟨S2048x1, .f32⟩
  | 101 => ⟨S2048x1, .f32⟩
  | 102 => ⟨S2048x1x1, .f32⟩
  | 103 => ⟨S2048x1x1, .f32⟩
  | 104 => ⟨S2048x1, .f32⟩
  | 105 => ⟨S2048x1, .f32⟩
  | 106 => ⟨S2048x1, .f32⟩
  | 107 => ⟨S2048x1x1, .f32⟩
  | 108 => ⟨S2048x1, .f32⟩
  | 109 => ⟨S_, .i32⟩
  | 110 => ⟨S2048x1, .i32⟩
  | 111 => ⟨S2048x1, .i1⟩
  | 112 => ⟨S_, .i32⟩
  | 113 => ⟨S2048x1, .i32⟩
  | 114 => ⟨S2048x1, .i32⟩
  | 115 => ⟨S2048x1, .i32⟩
  | 116 => ⟨S2048x1x1, .i32⟩
  | 117 => ⟨S2048x1x1024, .f32⟩
  | 118 => ⟨S2048x1024, .f32⟩
  | 119 => ⟨S2048x1024, .f32⟩
  | 120 => ⟨S2048x1024, .f32⟩
  | 121 => ⟨S2048x1024, .f32⟩
  | 122 => ⟨S2048x1024, .f32⟩
  | 123 => ⟨S1x1024, .f32⟩
  | 124 => ⟨S2048x1024, .f32⟩
  | 125 => ⟨S2048x1024, .f32⟩
  | 126 => ⟨S2048x1024, .i32⟩
  | 127 => ⟨S_, .f32⟩
  | _ => ⟨S8x64x32x32, .f32⟩

abbrev hbmTy0_1 (i : Nat) : BufTy := match i % 128 with
  | 0 => ⟨S_, .i32⟩
  | 1 => ⟨S2048, .f32⟩
  | 2 => ⟨S2048, .i32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S_, .i32⟩
  | 11 => ⟨S2048, .i32⟩
  | 12 => ⟨S2048, .i1⟩
  | 13 => ⟨S_, .i32⟩
  | 14 => ⟨S2048, .i32⟩
  | 15 => ⟨S2048, .i32⟩
  | 16 => ⟨S2048, .i32⟩
  | 17 => ⟨S2048x1, .i32⟩
  | 18 => ⟨S2048x1, .i32⟩
  | 19 => ⟨S2048x2, .i32⟩
  | 20 => ⟨S_, .i1⟩
  | 21 => ⟨S2048, .i1⟩
  | 22 => ⟨S2048x1024, .i1⟩
  | 23 => ⟨S2048x1, .i32⟩
  | 24 => ⟨S_, .i32⟩
  | 25 => ⟨S2048x1, .i32⟩
  | 26 => ⟨S2048x1, .i1⟩
  | 27 => ⟨S_, .i32⟩
  | 28 => ⟨S2048x1, .i32⟩
  | 29 => ⟨S2048x1, .i32⟩
  | 30 => ⟨S2048x1, .i32⟩
  | 31 => ⟨S_, .i32⟩
  | 32 => ⟨S2048x1, .i32⟩
  | 33 => ⟨S2048x1, .i1⟩
  | 34 => ⟨S_, .i32⟩
  | 35 => ⟨S2048x1, .i32⟩
  | 36 => ⟨S2048x1, .i32⟩
  | 37 => ⟨S2048x1, .i32⟩
  | 38 => ⟨S2048x1x1, .i32⟩
  | 39 => ⟨S2048x1x1, .i32⟩
  | 40 => ⟨S2048x1x2, .i32⟩
  | 41 => ⟨S2048x1, .f32⟩
  | 42 => ⟨S2048x1x1, .f32⟩
  | 43 => ⟨S2048x1, .f32⟩
  | 44 => ⟨S2048x1, .f32⟩
  | 45 => ⟨S2048x1, .f32⟩
  | 46 => ⟨S2048x1x1, .f32⟩
  | 47 => ⟨S2048x1x1, .f32⟩
  | 48 => ⟨S2048x1x1, .f32⟩
  | 49 => ⟨S_, .f32⟩
  | 50 => ⟨S2048x1, .f32⟩
  | 51 => ⟨S2048x1x1, .f32⟩
  | 52 => ⟨S_, .f32⟩
  | 53 => ⟨S2048x1x1, .f32⟩
  | 54 => ⟨S2048x1x1, .f32⟩
  | 55 => ⟨S_, .f32⟩
  | 56 => ⟨S2048x1x1, .f32⟩
  | 57 => ⟨S2048x1x1, .f32⟩
  | 58 => ⟨S2048x1x1, .f32⟩
  | 59 => ⟨S_, .f32⟩
  | 60 => ⟨S2048x1x1, .f32⟩
  | 61 => ⟨S2048x1x2, .f32⟩
  | 62 => ⟨S2048x1x2, .f32⟩
  | 63 => ⟨S2048x2x2, .f32⟩
  | 64 => ⟨S2048x1, .i32⟩
  | 65 => ⟨S2048x2, .i32⟩
  | 66 => ⟨S_, .i32⟩
  | 67 => ⟨S2048x2, .i32⟩
  | 68 => ⟨S2048x2, .i1⟩
  | 69 => ⟨S_, .i32⟩
  | 70 => ⟨S2048x2, .i32⟩
  | 71 => ⟨S2048x2, .i32⟩
  | 72 => ⟨S2048x2, .i32⟩
  | 73 => ⟨S2048x2x1, .i32⟩
  | 74 => ⟨S1, .i32⟩
  | 75 => ⟨S_, .i32⟩
  | 76 => ⟨S2048x2x1, .i32⟩
  | 77 => ⟨S2048x2x1, .i1⟩
  | 78 => ⟨S1x1x1, .i32⟩
  | 79 => ⟨S2048x2x1, .i32⟩
  | 80 => ⟨S2048x2x1, .i1⟩
  | 81 => ⟨S2048x2x1, .i1⟩
  | 82 => ⟨S_, .i1⟩
  | 83 => ⟨S2048x2, .i1⟩
  | 84 => ⟨S2048x2, .f32⟩
  | 85 => ⟨S_, .f32⟩
  | 86 => ⟨S2048x2, .f32⟩
  | 87 => ⟨S2048x2, .f32⟩
  | 88 => ⟨S2048x2x1, .f32⟩
  | 89 => ⟨S2048x1x1, .f32⟩
  | 90 => ⟨S2048x1, .f32⟩
  | 91 => ⟨S2048x1x1, .f32⟩
  | 92 => ⟨S2048x1, .f32⟩
  | 93 => ⟨S2048x1, .f32⟩
  | 94 => ⟨S2048x1x1, .f32⟩
  | 95 => ⟨S2048x1, .f32⟩
  | 96 => ⟨S2048x1x1, .f32⟩
  | 97 => ⟨S2048x1, .f32⟩
  | 98 => ⟨S2048x1, .f32⟩
  | 99 => ⟨S2048x1, .f32⟩
  | 100 => ⟨S2048x1x1, .f32⟩
  | 101 => ⟨S2048x1, .f32⟩
  | 102 => ⟨S2048x1, .f32⟩
  | 103 => ⟨S2048x1x1, .f32⟩
  | 104 => ⟨S2048x1x1, .f32⟩
  | 105 => ⟨S2048x2x1, .f32⟩
  | 106 => ⟨S2048x2x2, .f32⟩
  | 107 => ⟨S2048x1x1, .f32⟩
  | 108 => ⟨S2048x1, .f32⟩
  | 109 => ⟨S2048x1x1, .f32⟩
  | 110 => ⟨S2048x1, .f32⟩
  | 111 => ⟨S2048x1, .f32⟩
  | 112 => ⟨S2048x1x1, .f32⟩
  | 113 => ⟨S2048x1, .f32⟩
  | 114 => ⟨S2048x1x1, .f32⟩
  | 115 => ⟨S2048x1, .f32⟩
  | 116 => ⟨S2048x1, .f32⟩
  | 117 => ⟨S2048x1, .f32⟩
  | 118 => ⟨S2048x1x1, .f32⟩
  | 119 => ⟨S2048x1, .f32⟩
  | 120 => ⟨S2048x1, .f32⟩
  | 121 => ⟨S2048x1x1, .f32⟩
  | 122 => ⟨S2048x1x1, .f32⟩
  | 123 => ⟨S2048x2x1, .f32⟩
  | 124 => ⟨S2048x2, .f32⟩
  | 125 => ⟨S_, .i32⟩
  | 126 => ⟨S2048x2, .i32⟩
  | 127 => ⟨S2048x2, .i1⟩
  | _ => ⟨S8x64x32x32, .f32⟩

abbrev hbmTy0_2 (i : Nat) : BufTy := match i % 128 with
  | 0 => ⟨S_, .i32⟩
  | 1 => ⟨S2048x2, .i32⟩
  | 2 => ⟨S2048x2, .i32⟩
  | 3 => ⟨S2048x2, .i32⟩
  | 4 => ⟨S2048x2x1, .i32⟩
  | 5 => ⟨S2048x2x1024, .f32⟩
  | 6 => ⟨S2048x1024, .f32⟩
  | 7 => ⟨S2048x1024, .f32⟩
  | 8 => ⟨S2048x1024, .f32⟩
  | 9 => ⟨S2048x1024, .f32⟩
  | 10 => ⟨S2048x1024, .f32⟩
  | 11 => ⟨S1x1024, .f32⟩
  | 12 => ⟨S2048x1024, .f32⟩
  | 13 => ⟨S2048x1024, .f32⟩
  | 14 => ⟨S2048x1024, .i32⟩
  | 15 => ⟨S_, .f32⟩
  | 16 => ⟨S_, .i32⟩
  | 17 => ⟨S2048, .f32⟩
  | 18 => ⟨S2048, .i32⟩
  | 19 => ⟨S_, .i32⟩
  | 20 => ⟨S2048, .i32⟩
  | 21 => ⟨S2048, .i1⟩
  | 22 => ⟨S_, .i32⟩
  | 23 => ⟨S2048, .i32⟩
  | 24 => ⟨S2048, .i32⟩
  | 25 => ⟨S2048, .i32⟩
  | 26 => ⟨S_, .i32⟩
  | 27 => ⟨S2048, .i32⟩
  | 28 => ⟨S2048, .i1⟩
  | 29 => ⟨S_, .i32⟩
  | 30 => ⟨S2048, .i32⟩
  | 31 => ⟨S2048, .i32⟩
  | 32 => ⟨S2048, .i32⟩
  | 33 => ⟨S2048x1, .i32⟩
  | 34 => ⟨S2048x1, .i32⟩
  | 35 => ⟨S2048x2, .i32⟩
  | 36 => ⟨S_, .i1⟩
  | 37 => ⟨S2048, .i1⟩
  | 38 => ⟨S2048x1024, .i1⟩
  | 39 => ⟨S2048x1, .i32⟩
  | 40 => ⟨S_, .i32⟩
  | 41 => ⟨S2048x2, .i32⟩
  | 42 => ⟨S2048x2, .i1⟩
  | 43 => ⟨S_, .i32⟩
  | 44 => ⟨S2048x2, .i32⟩
  | 45 => ⟨S2048x2, .i32⟩
  | 46 => ⟨S2048x2, .i32⟩
  | 47 => ⟨S_, .i32⟩
  | 48 => ⟨S2048x1, .i32⟩
  | 49 => ⟨S2048x1, .i1⟩
  | 50 => ⟨S_, .i32⟩
  | 51 => ⟨S2048x1, .i32⟩
  | 52 => ⟨S2048x1, .i32⟩
  | 53 => ⟨S2048x1, .i32⟩
  | 54 => ⟨S2048x2, .i32⟩
  | 55 => ⟨S2048x2x1, .i32⟩
  | 56 => ⟨S2048x2x1, .i32⟩
  | 57 => ⟨S2048x2x2, .i32⟩
  | 58 => ⟨S2048x2, .f32⟩
  | 59 => ⟨S2048x2x1, .f32⟩
  | 60 => ⟨S2048x1x1, .f32⟩
  | 61 => ⟨S2048x1, .f32⟩
  | 62 => ⟨S2048x1x1, .f32⟩
  | 63 => ⟨S2048x1, .f32⟩
  | 64 => ⟨S2048x1, .f32⟩
  | 65 => ⟨S2048x1x1, .f32⟩
  | 66 => ⟨S2048x1, .f32⟩
  | 67 => ⟨S2048x1x1, .f32⟩
  | 68 => ⟨S2048x1, .f32⟩
  | 69 => ⟨S2048x1, .f32⟩
  | 70 => ⟨S2048x1, .f32⟩
  | 71 => ⟨S2048x1x1, .f32⟩
  | 72 => ⟨S2048x1, .f32⟩
  | 73 => ⟨S2048x1, .f32⟩
  | 74 => ⟨S2048x1x1, .f32⟩
  | 75 => ⟨S2048x1x1, .f32⟩
  | 76 => ⟨S2048x2x1, .f32⟩
  | 77 => ⟨S2048x1x2, .f32⟩
  | 78 => ⟨S2048x1x2, .f32⟩
  | 79 => ⟨S_, .f32⟩
  | 80 => ⟨S2048x1, .f32⟩
  | 81 => ⟨S2048x1x1, .f32⟩
  | 82 => ⟨S_, .f32⟩
  | 83 => ⟨S2048x1x1, .f32⟩
  | 84 => ⟨S2048x1x1, .f32⟩
  | 85 => ⟨S_, .f32⟩
  | 86 => ⟨S2048x1x1, .f32⟩
  | 87 => ⟨S2048x1x1, .f32⟩
  | 88 => ⟨S2048x1x1, .f32⟩
  | 89 => ⟨S_, .f32⟩
  | 90 => ⟨S2048x2x1, .f32⟩
  | 91 => ⟨S2048x2x3, .f32⟩
  | 92 => ⟨S2048x1x3, .f32⟩
  | 93 => ⟨S2048x3x3, .f32⟩
  | 94 => ⟨S2048x1, .i32⟩
  | 95 => ⟨S2048x3, .i32⟩
  | 96 => ⟨S_, .i32⟩
  | 97 => ⟨S2048x3, .i32⟩
  | 98 => ⟨S2048x3, .i1⟩
  | 99 => ⟨S_, .i32⟩
  | 100 => ⟨S2048x3, .i32⟩
  | 101 => ⟨S2048x3, .i32⟩
  | 102 => ⟨S2048x3, .i32⟩
  | 103 => ⟨S2048x3x1, .i32⟩
  | 104 => ⟨S1, .i32⟩
  | 105 => ⟨S_, .i32⟩
  | 106 => ⟨S2048x3x1, .i32⟩
  | 107 => ⟨S2048x3x1, .i1⟩
  | 108 => ⟨S1x1x1, .i32⟩
  | 109 => ⟨S2048x3x1, .i32⟩
  | 110 => ⟨S2048x3x1, .i1⟩
  | 111 => ⟨S2048x3x1, .i1⟩
  | 112 => ⟨S_, .i1⟩
  | 113 => ⟨S2048x3, .i1⟩
  | 114 => ⟨S2048x3, .f32⟩
  | 115 => ⟨S_, .f32⟩
  | 116 => ⟨S2048x3, .f32⟩
  | 117 => ⟨S2048x3, .f32⟩
  | 118 => ⟨S2048x3x1, .f32⟩
  | 119 => ⟨S2048x1x1, .f32⟩
  | 120 => ⟨S2048x1, .f32⟩
  | 121 => ⟨S2048x1x1, .f32⟩
  | 122 => ⟨S2048x1, .f32⟩
  | 123 => ⟨S2048x1, .f32⟩
  | 124 => ⟨S2048x1x1, .f32⟩
  | 125 => ⟨S2048x1, .f32⟩
  | 126 => ⟨S2048x1x1, .f32⟩
  | 127 => ⟨S2048x1, .f32⟩
  | _ => ⟨S8x64x32x32, .f32⟩

abbrev hbmTy0_3 (i : Nat) : BufTy := match i % 128 with
  | 0 => ⟨S2048x1, .f32⟩
  | 1 => ⟨S2048x1, .f32⟩
  | 2 => ⟨S2048x1x1, .f32⟩
  | 3 => ⟨S2048x1, .f32⟩
  | 4 => ⟨S2048x1, .f32⟩
  | 5 => ⟨S2048x1x1, .f32⟩
  | 6 => ⟨S2048x1, .f32⟩
  | 7 => ⟨S2048x1x1, .f32⟩
  | 8 => ⟨S2048x1, .f32⟩
  | 9 => ⟨S2048x1, .f32⟩
  | 10 => ⟨S2048x1, .f32⟩
  | 11 => ⟨S2048x1x1, .f32⟩
  | 12 => ⟨S2048x1, .f32⟩
  | 13 => ⟨S2048x1, .f32⟩
  | 14 => ⟨S2048x1, .f32⟩
  | 15 => ⟨S2048x1x1, .f32⟩
  | 16 => ⟨S2048x1, .f32⟩
  | 17 => ⟨S2048x1, .f32⟩
  | 18 => ⟨S2048x1x1, .f32⟩
  | 19 => ⟨S2048x1x1, .f32⟩
  | 20 => ⟨S2048x1x1, .f32⟩
  | 21 => ⟨S2048x3x1, .f32⟩
  | 22 => ⟨S2048x3x3, .f32⟩
  | 23 => ⟨S2048x1x1, .f32⟩
  | 24 => ⟨S2048x1, .f32⟩
  | 25 => ⟨S2048x1x1, .f32⟩
  | 26 => ⟨S2048x1, .f32⟩
  | 27 => ⟨S2048x1, .f32⟩
  | 28 => ⟨S2048x1x1, .f32⟩
  | 29 => ⟨S2048x1, .f32⟩
  | 30 => ⟨S2048x1x1, .f32⟩
  | 31 => ⟨S2048x1, .f32⟩
  | 32 => ⟨S2048x1, .f32⟩
  | 33 => ⟨S2048x1, .f32⟩
  | 34 => ⟨S2048x1x1, .f32⟩
  | 35 => ⟨S2048x1, .f32⟩
  | 36 => ⟨S2048x1, .f32⟩
  | 37 => ⟨S2048x1x1, .f32⟩
  | 38 => ⟨S2048x1, .f32⟩
  | 39 => ⟨S2048x1x1, .f32⟩
  | 40 => ⟨S2048x1, .f32⟩
  | 41 => ⟨S2048x1, .f32⟩
  | 42 => ⟨S2048x1, .f32⟩
  | 43 => ⟨S2048x1x1, .f32⟩
  | 44 => ⟨S2048x1, .f32⟩
  | 45 => ⟨S2048x1, .f32⟩
  | 46 => ⟨S2048x1, .f32⟩
  | 47 => ⟨S2048x1x1, .f32⟩
  | 48 => ⟨S2048x1, .f32⟩
  | 49 => ⟨S2048x1, .f32⟩
  | 50 => ⟨S2048x1x1, .f32⟩
  | 51 => ⟨S2048x1x1, .f32⟩
  | 52 => ⟨S2048x1x1, .f32⟩
  | 53 => ⟨S2048x3x1, .f32⟩
  | 54 => ⟨S2048x3, .f32⟩
  | 55 => ⟨S_, .i32⟩
  | 56 => ⟨S2048x3, .i32⟩
  | 57 => ⟨S2048x3, .i1⟩
  | 58 => ⟨S_, .i32⟩
  | 59 => ⟨S2048x3, .i32⟩
  | 60 => ⟨S2048x3, .i32⟩
  | 61 => ⟨S2048x3, .i32⟩
  | 62 => ⟨S2048x3x1, .i32⟩
  | 63 => ⟨S2048x3x1024, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S1x1024, .f32⟩
  | 70 => ⟨S2048x1024, .f32⟩
  | 71 => ⟨S2048x1024, .f32⟩
  | 72 => ⟨S2048x1024, .i32⟩
  | 73 => ⟨S_, .f32⟩
  | 74 => ⟨S_, .i32⟩
  | 75 => ⟨S2048, .f32⟩
  | 76 => ⟨S2048, .i32⟩
  | 77 => ⟨S_, .i32⟩
  | 78 => ⟨S2048, .i32⟩
  | 79 => ⟨S2048, .i1⟩
  | 80 => ⟨S_, .i32⟩
  | 81 => ⟨S2048, .i32⟩
  | 82 => ⟨S2048, .i32⟩
  | 83 => ⟨S2048, .i32⟩
  | 84 => ⟨S_, .i32⟩
  | 85 => ⟨S2048, .i32⟩
  | 86 => ⟨S2048, .i1⟩
  | 87 => ⟨S_, .i32⟩
  | 88 => ⟨S2048, .i32⟩
  | 89 => ⟨S2048, .i32⟩
  | 90 => ⟨S2048, .i32⟩
  | 91 => ⟨S2048x1, .i32⟩
  | 92 => ⟨S2048x1, .i32⟩
  | 93 => ⟨S2048x2, .i32⟩
  | 94 => ⟨S_, .i1⟩
  | 95 => ⟨S2048, .i1⟩
  | 96 => ⟨S2048x1024, .i1⟩
  | 97 => ⟨S2048x1, .i32⟩
  | 98 => ⟨S_, .i32⟩
  | 99 => ⟨S2048x3, .i32⟩
  | 100 => ⟨S2048x3, .i1⟩
  | 101 => ⟨S_, .i32⟩
  | 102 => ⟨S2048x3, .i32⟩
  | 103 => ⟨S2048x3, .i32⟩
  | 104 => ⟨S2048x3, .i32⟩
  | 105 => ⟨S_, .i32⟩
  | 106 => ⟨S2048x1, .i32⟩
  | 107 => ⟨S2048x1, .i1⟩
  | 108 => ⟨S_, .i32⟩
  | 109 => ⟨S2048x1, .i32⟩
  | 110 => ⟨S2048x1, .i32⟩
  | 111 => ⟨S2048x1, .i32⟩
  | 112 => ⟨S2048x3, .i32⟩
  | 113 => ⟨S2048x3x1, .i32⟩
  | 114 => ⟨S2048x3x1, .i32⟩
  | 115 => ⟨S2048x3x2, .i32⟩
  | 116 => ⟨S2048x3, .f32⟩
  | 117 => ⟨S2048x3x1, .f32⟩
  | 118 => ⟨S2048x1x1, .f32⟩
  | 119 => ⟨S2048x1, .f32⟩
  | 120 => ⟨S2048x1x1, .f32⟩
  | 121 => ⟨S2048x1, .f32⟩
  | 122 => ⟨S2048x1, .f32⟩
  | 123 => ⟨S2048x1x1, .f32⟩
  | 124 => ⟨S2048x1, .f32⟩
  | 125 => ⟨S2048x1x1, .f32⟩
  | 126 => ⟨S2048x1, .f32⟩
  | 127 => ⟨S2048x1, .f32⟩
  | _ => ⟨S8x64x32x32, .f32⟩

abbrev hbmTy0_4 (i : Nat) : BufTy := match i % 128 with
  | 0 => ⟨S2048x1, .f32⟩
  | 1 => ⟨S2048x1x1, .f32⟩
  | 2 => ⟨S2048x1, .f32⟩
  | 3 => ⟨S2048x1, .f32⟩
  | 4 => ⟨S2048x1x1, .f32⟩
  | 5 => ⟨S2048x1, .f32⟩
  | 6 => ⟨S2048x1x1, .f32⟩
  | 7 => ⟨S2048x1, .f32⟩
  | 8 => ⟨S2048x1, .f32⟩
  | 9 => ⟨S2048x1, .f32⟩
  | 10 => ⟨S2048x1x1, .f32⟩
  | 11 => ⟨S2048x1, .f32⟩
  | 12 => ⟨S2048x1, .f32⟩
  | 13 => ⟨S2048x1, .f32⟩
  | 14 => ⟨S2048x1x1, .f32⟩
  | 15 => ⟨S2048x1, .f32⟩
  | 16 => ⟨S2048x1, .f32⟩
  | 17 => ⟨S2048x1x1, .f32⟩
  | 18 => ⟨S2048x1x1, .f32⟩
  | 19 => ⟨S2048x1x1, .f32⟩
  | 20 => ⟨S2048x3x1, .f32⟩
  | 21 => ⟨S2048x1x3, .f32⟩
  | 22 => ⟨S2048x1x3, .f32⟩
  | 23 => ⟨S_, .f32⟩
  | 24 => ⟨S2048x1, .f32⟩
  | 25 => ⟨S2048x1x1, .f32⟩
  | 26 => ⟨S_, .f32⟩
  | 27 => ⟨S2048x1x1, .f32⟩
  | 28 => ⟨S2048x1x1, .f32⟩
  | 29 => ⟨S_, .f32⟩
  | 30 => ⟨S2048x1x1, .f32⟩
  | 31 => ⟨S2048x1x1, .f32⟩
  | 32 => ⟨S2048x1x1, .f32⟩
  | 33 => ⟨S_, .f32⟩
  | 34 => ⟨S2048x3x1, .f32⟩
  | 35 => ⟨S2048x3x4, .f32⟩
  | 36 => ⟨S2048x1x4, .f32⟩
  | 37 => ⟨S2048x4x4, .f32⟩
  | 38 => ⟨S2048x1, .i32⟩
  | 39 => ⟨S2048x4, .i32⟩
  | 40 => ⟨S_, .i32⟩
  | 41 => ⟨S2048x4, .i32⟩
  | 42 => ⟨S2048x4, .i1⟩
  | 43 => ⟨S_, .i32⟩
  | 44 => ⟨S2048x4, .i32⟩
  | 45 => ⟨S2048x4, .i32⟩
  | 46 => ⟨S2048x4, .i32⟩
  | 47 => ⟨S2048x4x1, .i32⟩
  | 48 => ⟨S1, .i32⟩
  | 49 => ⟨S_, .i32⟩
  | 50 => ⟨S2048x4x1, .i32⟩
  | 51 => ⟨S2048x4x1, .i1⟩
  | 52 => ⟨S1x1x1, .i32⟩
  | 53 => ⟨S2048x4x1, .i32⟩
  | 54 => ⟨S2048x4x1, .i1⟩
  | 55 => ⟨S2048x4x1, .i1⟩
  | 56 => ⟨S_, .i1⟩
  | 57 => ⟨S2048x4, .i1⟩
  | 58 => ⟨S2048x4, .f32⟩
  | 59 => ⟨S_, .f32⟩
  | 60 => ⟨S2048x4, .f32⟩
  | 61 => ⟨S2048x4, .f32⟩
  | 62 => ⟨S2048x4x1, .f32⟩
  | 63 => ⟨S2048x1x1, .f32⟩
  | 64 => ⟨S2048x1, .f32⟩
  | 65 => ⟨S2048x1x1, .f32⟩
  | 66 => ⟨S2048x1, .f32⟩
  | 67 => ⟨S2048x1, .f32⟩
  | 68 => ⟨S2048x1x1, .f32⟩
  | 69 => ⟨S2048x1, .f32⟩
  | 70 => ⟨S2048x1x1, .f32⟩
  | 71 => ⟨S2048x1, .f32⟩
  | 72 => ⟨S2048x1, .f32⟩
  | 73 => ⟨S2048x1, .f32⟩
  | 74 => ⟨S2048x1x1, .f32⟩
  | 75 => ⟨S2048x1, .f32⟩
  | 76 => ⟨S2048x1, .f32⟩
  | 77 => ⟨S2048x1x1, .f32⟩
  | 78 => ⟨S2048x1, .f32⟩
  | 79 => ⟨S2048x1x1, .f32⟩
  | 80 => ⟨S2048x1, .f32⟩
  | 81 => ⟨S2048x1, .f32⟩
  | 82 => ⟨S2048x1, .f32⟩
  | 83 => ⟨S2048x1x1, .f32⟩
  | 84 => ⟨S2048x1, .f32⟩
  | 85 => ⟨S2048x1, .f32⟩
  | 86 => ⟨S2048x1, .f32⟩
  | 87 => ⟨S2048x1x1, .f32⟩
  | 88 => ⟨S2048x1, .f32⟩
  | 89 => ⟨S2048x1, .f32⟩
  | 90 => ⟨S2048x1x1, .f32⟩
  | 91 => ⟨S2048x1, .f32⟩
  | 92 => ⟨S2048x1x1, .f32⟩
  | 93 => ⟨S2048x1, .f32⟩
  | 94 => ⟨S2048x1, .f32⟩
  | 95 => ⟨S2048x1, .f32⟩
  | 96 => ⟨S2048x1x1, .f32⟩
  | 97 => ⟨S2048x1, .f32⟩
  | 98 => ⟨S2048x1, .f32⟩
  | 99 => ⟨S2048x1, .f32⟩
  | 100 => ⟨S2048x1x1, .f32⟩
  | 101 => ⟨S2048x1, .f32⟩
  | 102 => ⟨S2048x1, .f32⟩
  | 103 => ⟨S2048x1, .f32⟩
  | 104 => ⟨S2048x1x1, .f32⟩
  | 105 => ⟨S2048x1, .f32⟩
  | 106 => ⟨S2048x1, .f32⟩
  | 107 => ⟨S2048x1x1, .f32⟩
  | 108 => ⟨S2048x1x1, .f32⟩
  | 109 => ⟨S2048x1x1, .f32⟩
  | 110 => ⟨S2048x1x1, .f32⟩
  | 111 => ⟨S2048x4x1, .f32⟩
  | 112 => ⟨S2048x4x4, .f32⟩
  | 113 => ⟨S2048x1x1, .f32⟩
  | 114 => ⟨S2048x1, .f32⟩
  | 115 => ⟨S2048x1x1, .f32⟩
  | 116 => ⟨S2048x1, .f32⟩
  | 117 => ⟨S2048x1, .f32⟩
  | 118 => ⟨S2048x1x1, .f32⟩
  | 119 => ⟨S2048x1, .f32⟩
  | 120 => ⟨S2048x1x1, .f32⟩
  | 121 => ⟨S2048x1, .f32⟩
  | 122 => ⟨S2048x1, .f32⟩
  | 123 => ⟨S2048x1, .f32⟩
  | 124 => ⟨S2048x1x1, .f32⟩
  | 125 => ⟨S2048x1, .f32⟩
  | 126 => ⟨S2048x1, .f32⟩
  | 127 => ⟨S2048x1x1, .f32⟩
  | _ => ⟨S8x64x32x32, .f32⟩

abbrev hbmTy0_5 (i : Nat) : BufTy := match i % 128 with
  | 0 => ⟨S2048x1, .f32⟩
  | 1 => ⟨S2048x1x1, .f32⟩
  | 2 => ⟨S2048x1, .f32⟩
  | 3 => ⟨S2048x1, .f32⟩
  | 4 => ⟨S2048x1, .f32⟩
  | 5 => ⟨S2048x1x1, .f32⟩
  | 6 => ⟨S2048x1, .f32⟩
  | 7 => ⟨S2048x1, .f32⟩
  | 8 => ⟨S2048x1, .f32⟩
  | 9 => ⟨S2048x1x1, .f32⟩
  | 10 => ⟨S2048x1, .f32⟩
  | 11 => ⟨S2048x1, .f32⟩
  | 12 => ⟨S2048x1x1, .f32⟩
  | 13 => ⟨S2048x1, .f32⟩
  | 14 => ⟨S2048x1x1, .f32⟩
  | 15 => ⟨S2048x1, .f32⟩
  | 16 => ⟨S2048x1, .f32⟩
  | 17 => ⟨S2048x1, .f32⟩
  | 18 => ⟨S2048x1x1, .f32⟩
  | 19 => ⟨S2048x1, .f32⟩
  | 20 => ⟨S2048x1, .f32⟩
  | 21 => ⟨S2048x1, .f32⟩
  | 22 => ⟨S2048x1x1, .f32⟩
  | 23 => ⟨S2048x1, .f32⟩
  | 24 => ⟨S2048x1, .f32⟩
  | 25 => ⟨S2048x1, .f32⟩
  | 26 => ⟨S2048x1x1, .f32⟩
  | 27 => ⟨S2048x1, .f32⟩
  | 28 => ⟨S2048x1, .f32⟩
  | 29 => ⟨S2048x1x1, .f32⟩
  | 30 => ⟨S2048x1x1, .f32⟩
  | 31 => ⟨S2048x1x1, .f32⟩
  | 32 => ⟨S2048x1x1, .f32⟩
  | 33 => ⟨S2048x4x1, .f32⟩
  | 34 => ⟨S2048x4, .f32⟩
  | 35 => ⟨S_, .i32⟩
  | 36 => ⟨S2048x4, .i32⟩
  | 37 => ⟨S2048x4, .i1⟩
  | 38 => ⟨S_, .i32⟩
  | 39 => ⟨S2048x4, .i32⟩
  | 40 => ⟨S2048x4, .i32⟩
  | 41 => ⟨S2048x4, .i32⟩
  | 42 => ⟨S2048x4x1, .i32⟩
  | 43 => ⟨S2048x4x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S1x1024, .f32⟩
  | 50 => ⟨S2048x1024, .f32⟩
  | 51 => ⟨S2048x1024, .f32⟩
  | 52 => ⟨S2048x1024, .i32⟩
  | 53 => ⟨S_, .f32⟩
  | 54 => ⟨S_, .i32⟩
  | 55 => ⟨S2048, .f32⟩
  | 56 => ⟨S2048, .i32⟩
  | 57 => ⟨S_, .i32⟩
  | 58 => ⟨S2048, .i32⟩
  | 59 => ⟨S2048, .i1⟩
  | 60 => ⟨S_, .i32⟩
  | 61 => ⟨S2048, .i32⟩
  | 62 => ⟨S2048, .i32⟩
  | 63 => ⟨S2048, .i32⟩
  | 64 => ⟨S_, .i32⟩
  | 65 => ⟨S2048, .i32⟩
  | 66 => ⟨S2048, .i1⟩
  | 67 => ⟨S_, .i32⟩
  | 68 => ⟨S2048, .i32⟩
  | 69 => ⟨S2048, .i32⟩
  | 70 => ⟨S2048, .i32⟩
  | 71 => ⟨S2048x1, .i32⟩
  | 72 => ⟨S2048x1, .i32⟩
  | 73 => ⟨S2048x2, .i32⟩
  | 74 => ⟨S_, .i1⟩
  | 75 => ⟨S2048, .i1⟩
  | 76 => ⟨S2048x1024, .i1⟩
  | 77 => ⟨S2048x1, .i32⟩
  | 78 => ⟨S_, .i32⟩
  | 79 => ⟨S2048x4, .i32⟩
  | 80 => ⟨S2048x4, .i1⟩
  | 81 => ⟨S_, .i32⟩
  | 82 => ⟨S2048x4, .i32⟩
  | 83 => ⟨S2048x4, .i32⟩
  | 84 => ⟨S2048x4, .i32⟩
  | 85 => ⟨S_, .i32⟩
  | 86 => ⟨S2048x1, .i32⟩
  | 87 => ⟨S2048x1, .i1⟩
  | 88 => ⟨S_, .i32⟩
  | 89 => ⟨S2048x1, .i32⟩
  | 90 => ⟨S2048x1, .i32⟩
  | 91 => ⟨S2048x1, .i32⟩
  | 92 => ⟨S2048x4, .i32⟩
  | 93 => ⟨S2048x4x1, .i32⟩
  | 94 => ⟨S2048x4x1, .i32⟩
  | 95 => ⟨S2048x4x2, .i32⟩
  | 96 => ⟨S2048x4, .f32⟩
  | 97 => ⟨S2048x4x1, .f32⟩
  | 98 => ⟨S2048x1x1, .f32⟩
  | 99 => ⟨S2048x1, .f32⟩
  | 100 => ⟨S2048x1x1, .f32⟩
  | 101 => ⟨S2048x1, .f32⟩
  | 102 => ⟨S2048x1, .f32⟩
  | 103 => ⟨S2048x1x1, .f32⟩
  | 104 => ⟨S2048x1, .f32⟩
  | 105 => ⟨S2048x1x1, .f32⟩
  | 106 => ⟨S2048x1, .f32⟩
  | 107 => ⟨S2048x1, .f32⟩
  | 108 => ⟨S2048x1, .f32⟩
  | 109 => ⟨S2048x1x1, .f32⟩
  | 110 => ⟨S2048x1, .f32⟩
  | 111 => ⟨S2048x1, .f32⟩
  | 112 => ⟨S2048x1x1, .f32⟩
  | 113 => ⟨S2048x1, .f32⟩
  | 114 => ⟨S2048x1x1, .f32⟩
  | 115 => ⟨S2048x1, .f32⟩
  | 116 => ⟨S2048x1, .f32⟩
  | 117 => ⟨S2048x1, .f32⟩
  | 118 => ⟨S2048x1x1, .f32⟩
  | 119 => ⟨S2048x1, .f32⟩
  | 120 => ⟨S2048x1, .f32⟩
  | 121 => ⟨S2048x1, .f32⟩
  | 122 => ⟨S2048x1x1, .f32⟩
  | 123 => ⟨S2048x1, .f32⟩
  | 124 => ⟨S2048x1, .f32⟩
  | 125 => ⟨S2048x1x1, .f32⟩
  | 126 => ⟨S2048x1, .f32⟩
  | 127 => ⟨S2048x1x1, .f32⟩
  | _ => ⟨S8x64x32x32, .f32⟩

abbrev hbmTy0_6 (i : Nat) : BufTy := match i % 128 with
  | 0 => ⟨S2048x1, .f32⟩
  | 1 => ⟨S2048x1, .f32⟩
  | 2 => ⟨S2048x1, .f32⟩
  | 3 => ⟨S2048x1x1, .f32⟩
  | 4 => ⟨S2048x1, .f32⟩
  | 5 => ⟨S2048x1, .f32⟩
  | 6 => ⟨S2048x1, .f32⟩
  | 7 => ⟨S2048x1x1, .f32⟩
  | 8 => ⟨S2048x1, .f32⟩
  | 9 => ⟨S2048x1, .f32⟩
  | 10 => ⟨S2048x1, .f32⟩
  | 11 => ⟨S2048x1x1, .f32⟩
  | 12 => ⟨S2048x1, .f32⟩
  | 13 => ⟨S2048x1, .f32⟩
  | 14 => ⟨S2048x1x1, .f32⟩
  | 15 => ⟨S2048x1x1, .f32⟩
  | 16 => ⟨S2048x1x1, .f32⟩
  | 17 => ⟨S2048x1x1, .f32⟩
  | 18 => ⟨S2048x4x1, .f32⟩
  | 19 => ⟨S2048x1x4, .f32⟩
  | 20 => ⟨S2048x1x4, .f32⟩
  | 21 => ⟨S_, .f32⟩
  | 22 => ⟨S2048x1, .f32⟩
  | 23 => ⟨S2048x1x1, .f32⟩
  | 24 => ⟨S_, .f32⟩
  | 25 => ⟨S2048x1x1, .f32⟩
  | 26 => ⟨S2048x1x1, .f32⟩
  | 27 => ⟨S_, .f32⟩
  | 28 => ⟨S2048x1x1, .f32⟩
  | 29 => ⟨S2048x1x1, .f32⟩
  | 30 => ⟨S2048x1x1, .f32⟩
  | 31 => ⟨S_, .f32⟩
  | 32 => ⟨S2048x4x1, .f32⟩
  | 33 => ⟨S2048x4x5, .f32⟩
  | 34 => ⟨S2048x1x5, .f32⟩
  | 35 => ⟨S2048x5x5, .f32⟩
  | 36 => ⟨S2048x1, .i32⟩
  | 37 => ⟨S2048x5, .i32⟩
  | 38 => ⟨S_, .i32⟩
  | 39 => ⟨S2048x5, .i32⟩
  | 40 => ⟨S2048x5, .i1⟩
  | 41 => ⟨S_, .i32⟩
  | 42 => ⟨S2048x5, .i32⟩
  | 43 => ⟨S2048x5, .i32⟩
  | 44 => ⟨S2048x5, .i32⟩
  | 45 => ⟨S2048x5x1, .i32⟩
  | 46 => ⟨S1, .i32⟩
  | 47 => ⟨S_, .i32⟩
  | 48 => ⟨S2048x5x1, .i32⟩
  | 49 => ⟨S2048x5x1, .i1⟩
  | 50 => ⟨S1x1x1, .i32⟩
  | 51 => ⟨S2048x5x1, .i32⟩
  | 52 => ⟨S2048x5x1, .i1⟩
  | 53 => ⟨S2048x5x1, .i1⟩
  | 54 => ⟨S_, .i1⟩
  | 55 => ⟨S2048x5, .i1⟩
  | 56 => ⟨S2048x5, .f32⟩
  | 57 => ⟨S_, .f32⟩
  | 58 => ⟨S2048x5, .f32⟩
  | 59 => ⟨S2048x5, .f32⟩
  | 60 => ⟨S2048x5x1, .f32⟩
  | 61 => ⟨S2048x1x1, .f32⟩
  | 62 => ⟨S2048x1, .f32⟩
  | 63 => ⟨S2048x1x1, .f32⟩
  | 64 => ⟨S2048x1, .f32⟩
  | 65 => ⟨S2048x1, .f32⟩
  | 66 => ⟨S2048x1x1, .f32⟩
  | 67 => ⟨S2048x1, .f32⟩
  | 68 => ⟨S2048x1x1, .f32⟩
  | 69 => ⟨S2048x1, .f32⟩
  | 70 => ⟨S2048x1, .f32⟩
  | 71 => ⟨S2048x1, .f32⟩
  | 72 => ⟨S2048x1x1, .f32⟩
  | 73 => ⟨S2048x1, .f32⟩
  | 74 => ⟨S2048x1, .f32⟩
  | 75 => ⟨S2048x1x1, .f32⟩
  | 76 => ⟨S2048x1, .f32⟩
  | 77 => ⟨S2048x1x1, .f32⟩
  | 78 => ⟨S2048x1, .f32⟩
  | 79 => ⟨S2048x1, .f32⟩
  | 80 => ⟨S2048x1, .f32⟩
  | 81 => ⟨S2048x1x1, .f32⟩
  | 82 => ⟨S2048x1, .f32⟩
  | 83 => ⟨S2048x1, .f32⟩
  | 84 => ⟨S2048x1, .f32⟩
  | 85 => ⟨S2048x1x1, .f32⟩
  | 86 => ⟨S2048x1, .f32⟩
  | 87 => ⟨S2048x1, .f32⟩
  | 88 => ⟨S2048x1x1, .f32⟩
  | 89 => ⟨S2048x1, .f32⟩
  | 90 => ⟨S2048x1x1, .f32⟩
  | 91 => ⟨S2048x1, .f32⟩
  | 92 => ⟨S2048x1, .f32⟩
  | 93 => ⟨S2048x1, .f32⟩
  | 94 => ⟨S2048x1x1, .f32⟩
  | 95 => ⟨S2048x1, .f32⟩
  | 96 => ⟨S2048x1, .f32⟩
  | 97 => ⟨S2048x1, .f32⟩
  | 98 => ⟨S2048x1x1, .f32⟩
  | 99 => ⟨S2048x1, .f32⟩
  | 100 => ⟨S2048x1, .f32⟩
  | 101 => ⟨S2048x1, .f32⟩
  | 102 => ⟨S2048x1x1, .f32⟩
  | 103 => ⟨S2048x1, .f32⟩
  | 104 => ⟨S2048x1, .f32⟩
  | 105 => ⟨S2048x1x1, .f32⟩
  | 106 => ⟨S2048x1, .f32⟩
  | 107 => ⟨S2048x1x1, .f32⟩
  | 108 => ⟨S2048x1, .f32⟩
  | 109 => ⟨S2048x1, .f32⟩
  | 110 => ⟨S2048x1, .f32⟩
  | 111 => ⟨S2048x1x1, .f32⟩
  | 112 => ⟨S2048x1, .f32⟩
  | 113 => ⟨S2048x1, .f32⟩
  | 114 => ⟨S2048x1, .f32⟩
  | 115 => ⟨S2048x1x1, .f32⟩
  | 116 => ⟨S2048x1, .f32⟩
  | 117 => ⟨S2048x1, .f32⟩
  | 118 => ⟨S2048x1, .f32⟩
  | 119 => ⟨S2048x1x1, .f32⟩
  | 120 => ⟨S2048x1, .f32⟩
  | 121 => ⟨S2048x1, .f32⟩
  | 122 => ⟨S2048x1, .f32⟩
  | 123 => ⟨S2048x1x1, .f32⟩
  | 124 => ⟨S2048x1, .f32⟩
  | 125 => ⟨S2048x1, .f32⟩
  | 126 => ⟨S2048x1x1, .f32⟩
  | 127 => ⟨S2048x1x1, .f32⟩
  | _ => ⟨S8x64x32x32, .f32⟩

abbrev hbmTy0_7 (i : Nat) : BufTy := match i % 128 with
  | 0 => ⟨S2048x1x1, .f32⟩
  | 1 => ⟨S2048x1x1, .f32⟩
  | 2 => ⟨S2048x1x1, .f32⟩
  | 3 => ⟨S2048x5x1, .f32⟩
  | 4 => ⟨S2048x5x5, .f32⟩
  | 5 => ⟨S2048x1x1, .f32⟩
  | 6 => ⟨S2048x1, .f32⟩
  | 7 => ⟨S2048x1x1, .f32⟩
  | 8 => ⟨S2048x1, .f32⟩
  | 9 => ⟨S2048x1, .f32⟩
  | 10 => ⟨S2048x1x1, .f32⟩
  | 11 => ⟨S2048x1, .f32⟩
  | 12 => ⟨S2048x1x1, .f32⟩
  | 13 => ⟨S2048x1, .f32⟩
  | 14 => ⟨S2048x1, .f32⟩
  | 15 => ⟨S2048x1, .f32⟩
  | 16 => ⟨S2048x1x1, .f32⟩
  | 17 => ⟨S2048x1, .f32⟩
  | 18 => ⟨S2048x1, .f32⟩
  | 19 => ⟨S2048x1x1, .f32⟩
  | 20 => ⟨S2048x1, .f32⟩
  | 21 => ⟨S2048x1x1, .f32⟩
  | 22 => ⟨S2048x1, .f32⟩
  | 23 => ⟨S2048x1, .f32⟩
  | 24 => ⟨S2048x1, .f32⟩
  | 25 => ⟨S2048x1x1, .f32⟩
  | 26 => ⟨S2048x1, .f32⟩
  | 27 => ⟨S2048x1, .f32⟩
  | 28 => ⟨S2048x1, .f32⟩
  | 29 => ⟨S2048x1x1, .f32⟩
  | 30 => ⟨S2048x1, .f32⟩
  | 31 => ⟨S2048x1, .f32⟩
  | 32 => ⟨S2048x1x1, .f32⟩
  | 33 => ⟨S2048x1, .f32⟩
  | 34 => ⟨S2048x1x1, .f32⟩
  | 35 => ⟨S2048x1, .f32⟩
  | 36 => ⟨S2048x1, .f32⟩
  | 37 => ⟨S2048x1, .f32⟩
  | 38 => ⟨S2048x1x1, .f32⟩
  | 39 => ⟨S2048x1, .f32⟩
  | 40 => ⟨S2048x1, .f32⟩
  | 41 => ⟨S2048x1, .f32⟩
  | 42 => ⟨S2048x1x1, .f32⟩
  | 43 => ⟨S2048x1, .f32⟩
  | 44 => ⟨S2048x1, .f32⟩
  | 45 => ⟨S2048x1, .f32⟩
  | 46 => ⟨S2048x1x1, .f32⟩
  | 47 => ⟨S2048x1, .f32⟩
  | 48 => ⟨S2048x1, .f32⟩
  | 49 => ⟨S2048x1x1, .f32⟩
  | 50 => ⟨S2048x1, .f32⟩
  | 51 => ⟨S2048x1x1, .f32⟩
  | 52 => ⟨S2048x1, .f32⟩
  | 53 => ⟨S2048x1, .f32⟩
  | 54 => ⟨S2048x1, .f32⟩
  | 55 => ⟨S2048x1x1, .f32⟩
  | 56 => ⟨S2048x1, .f32⟩
  | 57 => ⟨S2048x1, .f32⟩
  | 58 => ⟨S2048x1, .f32⟩
  | 59 => ⟨S2048x1x1, .f32⟩
  | 60 => ⟨S2048x1, .f32⟩
  | 61 => ⟨S2048x1, .f32⟩
  | 62 => ⟨S2048x1, .f32⟩
  | 63 => ⟨S2048x1x1, .f32⟩
  | 64 => ⟨S2048x1, .f32⟩
  | 65 => ⟨S2048x1, .f32⟩
  | 66 => ⟨S2048x1, .f32⟩
  | 67 => ⟨S2048x1x1, .f32⟩
  | 68 => ⟨S2048x1, .f32⟩
  | 69 => ⟨S2048x1, .f32⟩
  | 70 => ⟨S2048x1x1, .f32⟩
  | 71 => ⟨S2048x1x1, .f32⟩
  | 72 => ⟨S2048x1x1, .f32⟩
  | 73 => ⟨S2048x1x1, .f32⟩
  | 74 => ⟨S2048x1x1, .f32⟩
  | 75 => ⟨S2048x5x1, .f32⟩
  | 76 => ⟨S2048x5, .f32⟩
  | 77 => ⟨S_, .i32⟩
  | 78 => ⟨S2048x5, .i32⟩
  | 79 => ⟨S2048x5, .i1⟩
  | 80 => ⟨S_, .i32⟩
  | 81 => ⟨S2048x5, .i32⟩
  | 82 => ⟨S2048x5, .i32⟩
  | 83 => ⟨S2048x5, .i32⟩
  | 84 => ⟨S2048x5x1, .i32⟩
  | 85 => ⟨S2048x5x1024, .f32⟩
  | 86 => ⟨S2048x1024, .f32⟩
  | 87 => ⟨S2048x1024, .f32⟩
  | 88 => ⟨S2048x5, .f32⟩
  | 89 => ⟨S1024x256, .f32⟩
  | 90 => ⟨S_, .i32⟩
  | 91 => ⟨S2048x5, .i32⟩
  | 92 => ⟨S2048x5, .i1⟩
  | 93 => ⟨S_, .i32⟩
  | 94 => ⟨S2048x5, .i32⟩
  | 95 => ⟨S2048x5, .i32⟩
  | 96 => ⟨S2048x5, .i32⟩
  | 97 => ⟨S2048x5x1, .i32⟩
  | 98 => ⟨S2048x5x256, .f32⟩
  | 99 => ⟨S2048x256, .f32⟩
  | 100 => ⟨S2048x256, .f32⟩
  | 101 => ⟨S2048x256, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S2048x256, .f32⟩
  | 109 => ⟨S2048x256, .f32⟩
  | 110 => ⟨S_, .f32⟩
  | 111 => ⟨S_, .f32⟩
  | 112 => ⟨S_, .f32⟩
  | 113 => ⟨S_, .f32⟩
  | 114 => ⟨S_, .f32⟩
  | 115 => ⟨S2048x256, .f32⟩
  | 116 => ⟨S2048x256, .f32⟩
  | 117 => ⟨S8x16x16x64x2x2, .f32⟩
  | 118 => ⟨S8x64x16x2x16x2, .f32⟩
  | 119 => ⟨S8x64x32x32, .f32⟩
  | _ => ⟨S8x64x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x64x32x32, .f32⟩

abbrev bufTy : (tb : Table) → Fin (tcTables nBuf tb) → BufTy
  | .hbm, ⟨i, _⟩ => hbmTy i
  | _, _ => ⟨S8x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_call0_v0 : Ref sig .tc := ⟨.hbm, 7, rfl⟩
abbrev main_call0_call0_cst : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_cst_0 : Ref sig .tc := ⟨.hbm, 21, rfl⟩
abbrev main_call0_v13 : Ref sig .tc := ⟨.hbm, 22, rfl⟩
abbrev main_call0_cst_1 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_cst_2 : Ref sig .tc := ⟨.hbm, 27, rfl⟩
abbrev main_call0_v17 : Ref sig .tc := ⟨.hbm, 28, rfl⟩
abbrev main_call0_v18 : Ref sig .tc := ⟨.hbm, 29, rfl⟩
abbrev main_call0_cst_3 : Ref sig .tc := ⟨.hbm, 30, rfl⟩
abbrev main_call0_v19 : Ref sig .tc := ⟨.hbm, 31, rfl⟩
abbrev main_call0_v20 : Ref sig .tc := ⟨.hbm, 32, rfl⟩
abbrev main_call0_cst_4 : Ref sig .tc := ⟨.hbm, 33, rfl⟩
abbrev main_call0_v21 : Ref sig .tc := ⟨.hbm, 34, rfl⟩
abbrev main_call0_v22 : Ref sig .tc := ⟨.hbm, 35, rfl⟩
abbrev main_call0_cst_5 : Ref sig .tc := ⟨.hbm, 36, rfl⟩
abbrev main_call0_v23 : Ref sig .tc := ⟨.hbm, 37, rfl⟩
abbrev main_call0_v24 : Ref sig .tc := ⟨.hbm, 38, rfl⟩
abbrev main_call0_cst_6 : Ref sig .tc := ⟨.hbm, 39, rfl⟩
abbrev main_call0_v25 : Ref sig .tc := ⟨.hbm, 40, rfl⟩
abbrev main_call0_c : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_call1_v0 : Ref sig .tc := ⟨.hbm, 50, rfl⟩
abbrev main_call0_call1_cst : Ref sig .tc := ⟨.hbm, 51, rfl⟩
abbrev main_call0_call1_c : Ref sig .tc := ⟨.hbm, 52, rfl⟩
abbrev main_call0_call1_v1_0 : Ref sig .tc := ⟨.hbm, 53, rfl⟩
abbrev main_call0_v34 : Ref sig .tc := ⟨.hbm, 54, rfl⟩
abbrev main_call0_c_7 : Ref sig .tc := ⟨.hbm, 55, rfl⟩
abbrev main_call0_v35 : Ref sig .tc := ⟨.hbm, 56, rfl⟩
abbrev main_call0_v36 : Ref sig .tc := ⟨.hbm, 57, rfl⟩
abbrev main_call0_c_8 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_c_9 : Ref sig .tc := ⟨.hbm, 62, rfl⟩
abbrev main_call0_v40 : Ref sig .tc := ⟨.hbm, 63, rfl⟩
abbrev main_call0_v41 : Ref sig .tc := ⟨.hbm, 64, rfl⟩
abbrev main_call0_c_10 : Ref sig .tc := ⟨.hbm, 65, rfl⟩
abbrev main_call0_v42 : Ref sig .tc := ⟨.hbm, 66, rfl⟩
abbrev main_call0_v43 : Ref sig .tc := ⟨.hbm, 67, rfl⟩
abbrev main_call0_v44 : Ref sig .tc := ⟨.hbm, 68, rfl⟩
abbrev main_call0_v45 : Ref sig .tc := ⟨.hbm, 69, rfl⟩
abbrev main_call0_v46 : Ref sig .tc := ⟨.hbm, 70, rfl⟩
abbrev main_call0_v47 : Ref sig .tc := ⟨.hbm, 71, rfl⟩
abbrev main_call0_c_11 : Ref sig .tc := ⟨.hbm, 72, rfl⟩
abbrev main_call0_v48 : Ref sig .tc := ⟨.hbm, 73, rfl⟩
abbrev main_call0_v49 : Ref sig .tc := ⟨.hbm, 74, rfl⟩
abbrev main_call0_v50 : Ref sig .tc := ⟨.hbm, 75, rfl⟩
abbrev main_call0_call2_c : Ref sig .tc := ⟨.hbm, 76, rfl⟩
abbrev main_call0_call2_v0 : Ref sig .tc := ⟨.hbm, 77, rfl⟩
abbrev main_call0_call2_v1 : Ref sig .tc := ⟨.hbm, 78, rfl⟩
abbrev main_call0_call2_c_0 : Ref sig .tc := ⟨.hbm, 79, rfl⟩
abbrev main_call0_call2_v2 : Ref sig .tc := ⟨.hbm, 80, rfl⟩
abbrev main_call0_call2_v3 : Ref sig .tc := ⟨.hbm, 81, rfl⟩
abbrev main_call0_call2_v4 : Ref sig .tc := ⟨.hbm, 82, rfl⟩
abbrev main_call0_call2_v5 : Ref sig .tc := ⟨.hbm, 83, rfl⟩
abbrev main_call0_call2_c_1 : Ref sig .tc := ⟨.hbm, 84, rfl⟩
abbrev main_call0_call2_c_2 : Ref sig .tc := ⟨.hbm, 85, rfl⟩
abbrev main_call0_call2_v6 : Ref sig .tc := ⟨.hbm, 86, rfl⟩
abbrev main_call0_call2_v7 : Ref sig .tc := ⟨.hbm, 87, rfl⟩
abbrev main_call0_call2_v8 : Ref sig .tc := ⟨.hbm, 88, rfl⟩
abbrev main_call0_call2_v9 : Ref sig .tc := ⟨.hbm, 89, rfl⟩
abbrev main_call0_call2_v10 : Ref sig .tc := ⟨.hbm, 90, rfl⟩
abbrev main_call0_call2_v11 : Ref sig .tc := ⟨.hbm, 91, rfl⟩
abbrev main_call0_call2_c_3 : Ref sig .tc := ⟨.hbm, 92, rfl⟩
abbrev main_call0_call2_v12 : Ref sig .tc := ⟨.hbm, 93, rfl⟩
abbrev main_call0_call2_v13 : Ref sig .tc := ⟨.hbm, 94, rfl⟩
abbrev main_call0_call2_cst : Ref sig .tc := ⟨.hbm, 95, rfl⟩
abbrev main_call0_call2_v14 : Ref sig .tc := ⟨.hbm, 96, rfl⟩
abbrev main_call0_v51 : Ref sig .tc := ⟨.hbm, 97, rfl⟩
abbrev main_call0_v52 : Ref sig .tc := ⟨.hbm, 98, rfl⟩
abbrev main_call0_v53 : Ref sig .tc := ⟨.hbm, 99, rfl⟩
abbrev main_call0_v54 : Ref sig .tc := ⟨.hbm, 100, rfl⟩
abbrev main_call0_v55 : Ref sig .tc := ⟨.hbm, 101, rfl⟩
abbrev main_call0_v56 : Ref sig .tc := ⟨.hbm, 102, rfl⟩
abbrev main_call0_v57 : Ref sig .tc := ⟨.hbm, 103, rfl⟩
abbrev main_call0_v58 : Ref sig .tc := ⟨.hbm, 104, rfl⟩
abbrev main_call0_v59 : Ref sig .tc := ⟨.hbm, 105, rfl⟩
abbrev main_call0_v60 : Ref sig .tc := ⟨.hbm, 106, rfl⟩
abbrev main_call0_v61 : Ref sig .tc := ⟨.hbm, 107, rfl⟩
abbrev main_call0_v62 : Ref sig .tc := ⟨.hbm, 108, rfl⟩
abbrev main_call0_c_12 : Ref sig .tc := ⟨.hbm, 109, rfl⟩
abbrev main_call0_v63 : Ref sig .tc := ⟨.hbm, 110, rfl⟩
abbrev main_call0_v64 : Ref sig .tc := ⟨.hbm, 111, rfl⟩
abbrev main_call0_c_13 : Ref sig .tc := ⟨.hbm, 112, rfl⟩
abbrev main_call0_v65 : Ref sig .tc := ⟨.hbm, 113, rfl⟩
abbrev main_call0_v66 : Ref sig .tc := ⟨.hbm, 114, rfl⟩
abbrev main_call0_v67 : Ref sig .tc := ⟨.hbm, 115, rfl⟩
abbrev main_call0_v68 : Ref sig .tc := ⟨.hbm, 116, rfl⟩
abbrev main_call0_v69 : Ref sig .tc := ⟨.hbm, 117, rfl⟩
abbrev main_call0_v70 : Ref sig .tc := ⟨.hbm, 118, rfl⟩
abbrev main_call0_v71 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_v75 : Ref sig .tc := ⟨.hbm, 123, rfl⟩
abbrev main_call0_v76 : Ref sig .tc := ⟨.hbm, 124, rfl⟩
abbrev main_call0_v77 : Ref sig .tc := ⟨.hbm, 125, rfl⟩
abbrev main_call0_call3_v0 : Ref sig .tc := ⟨.hbm, 126, rfl⟩
abbrev main_call0_call3_cst : Ref sig .tc := ⟨.hbm, 127, rfl⟩
abbrev main_call0_call3_c : Ref sig .tc := ⟨.hbm, 128, rfl⟩
abbrev main_call0_call3_v1_0 : Ref sig .tc := ⟨.hbm, 129, rfl⟩
abbrev main_call0_v78 : Ref sig .tc := ⟨.hbm, 130, rfl⟩
abbrev main_call0_c_14 : Ref sig .tc := ⟨.hbm, 131, rfl⟩
abbrev main_call0_v79 : Ref sig .tc := ⟨.hbm, 132, rfl⟩
abbrev main_call0_v80 : Ref sig .tc := ⟨.hbm, 133, rfl⟩
abbrev main_call0_c_15 : Ref sig .tc := ⟨.hbm, 134, rfl⟩
abbrev main_call0_v81 : Ref sig .tc := ⟨.hbm, 135, rfl⟩
abbrev main_call0_v82 : Ref sig .tc := ⟨.hbm, 136, rfl⟩
abbrev main_call0_v83 : Ref sig .tc := ⟨.hbm, 137, rfl⟩
abbrev main_call0_c_16 : Ref sig .tc := ⟨.hbm, 138, rfl⟩
abbrev main_call0_v84 : Ref sig .tc := ⟨.hbm, 139, rfl⟩
abbrev main_call0_v85 : Ref sig .tc := ⟨.hbm, 140, rfl⟩
abbrev main_call0_c_17 : Ref sig .tc := ⟨.hbm, 141, rfl⟩
abbrev main_call0_v86 : Ref sig .tc := ⟨.hbm, 142, rfl⟩
abbrev main_call0_v87 : Ref sig .tc := ⟨.hbm, 143, rfl⟩
abbrev main_call0_v88 : Ref sig .tc := ⟨.hbm, 144, rfl⟩
abbrev main_call0_v89 : Ref sig .tc := ⟨.hbm, 145, rfl⟩
abbrev main_call0_v90 : Ref sig .tc := ⟨.hbm, 146, rfl⟩
abbrev main_call0_v91 : Ref sig .tc := ⟨.hbm, 147, rfl⟩
abbrev main_call0_c_18 : Ref sig .tc := ⟨.hbm, 148, rfl⟩
abbrev main_call0_v92 : Ref sig .tc := ⟨.hbm, 149, rfl⟩
abbrev main_call0_v93 : Ref sig .tc := ⟨.hbm, 150, rfl⟩
abbrev main_call0_v94 : Ref sig .tc := ⟨.hbm, 151, rfl⟩
abbrev main_call0_c_19 : Ref sig .tc := ⟨.hbm, 152, rfl⟩
abbrev main_call0_v95 : Ref sig .tc := ⟨.hbm, 153, rfl⟩
abbrev main_call0_v96 : Ref sig .tc := ⟨.hbm, 154, rfl⟩
abbrev main_call0_c_20 : Ref sig .tc := ⟨.hbm, 155, rfl⟩
abbrev main_call0_v97 : Ref sig .tc := ⟨.hbm, 156, rfl⟩
abbrev main_call0_v98 : Ref sig .tc := ⟨.hbm, 157, rfl⟩
abbrev main_call0_v99 : Ref sig .tc := ⟨.hbm, 158, rfl⟩
abbrev main_call0_c_21 : Ref sig .tc := ⟨.hbm, 159, rfl⟩
abbrev main_call0_v100 : Ref sig .tc := ⟨.hbm, 160, rfl⟩
abbrev main_call0_v101 : Ref sig .tc := ⟨.hbm, 161, rfl⟩
abbrev main_call0_c_22 : Ref sig .tc := ⟨.hbm, 162, rfl⟩
abbrev main_call0_v102 : Ref sig .tc := ⟨.hbm, 163, rfl⟩
abbrev main_call0_v103 : Ref sig .tc := ⟨.hbm, 164, rfl⟩
abbrev main_call0_v104 : Ref sig .tc := ⟨.hbm, 165, rfl⟩
abbrev main_call0_v105 : Ref sig .tc := ⟨.hbm, 166, rfl⟩
abbrev main_call0_v106 : Ref sig .tc := ⟨.hbm, 167, rfl⟩
abbrev main_call0_v107 : Ref sig .tc := ⟨.hbm, 168, rfl⟩
abbrev main_call0_v108 : Ref sig .tc := ⟨.hbm, 169, rfl⟩
abbrev main_call0_v109 : Ref sig .tc := ⟨.hbm, 170, rfl⟩
abbrev main_call0_v110 : Ref sig .tc := ⟨.hbm, 171, rfl⟩
abbrev main_call0_v111 : Ref sig .tc := ⟨.hbm, 172, rfl⟩
abbrev main_call0_v112 : Ref sig .tc := ⟨.hbm, 173, rfl⟩
abbrev main_call0_v113 : Ref sig .tc := ⟨.hbm, 174, rfl⟩
abbrev main_call0_v114 : Ref sig .tc := ⟨.hbm, 175, rfl⟩
abbrev main_call0_v115 : Ref sig .tc := ⟨.hbm, 176, rfl⟩
abbrev main_call0_cst_23 : Ref sig .tc := ⟨.hbm, 177, rfl⟩
abbrev main_call0_v116 : Ref sig .tc := ⟨.hbm, 178, rfl⟩
abbrev main_call0_v117 : Ref sig .tc := ⟨.hbm, 179, rfl⟩
abbrev main_call0_cst_24 : Ref sig .tc := ⟨.hbm, 180, rfl⟩
abbrev main_call0_v118 : Ref sig .tc := ⟨.hbm, 181, rfl⟩
abbrev main_call0_v119 : Ref sig .tc := ⟨.hbm, 182, rfl⟩
abbrev main_call0_cst_25 : Ref sig .tc := ⟨.hbm, 183, rfl⟩
abbrev main_call0_v120 : Ref sig .tc := ⟨.hbm, 184, rfl⟩
abbrev main_call0_v121 : Ref sig .tc := ⟨.hbm, 185, rfl⟩
abbrev main_call0_v122 : Ref sig .tc := ⟨.hbm, 186, rfl⟩
abbrev main_call0_cst_26 : Ref sig .tc := ⟨.hbm, 187, rfl⟩
abbrev main_call0_v123 : Ref sig .tc := ⟨.hbm, 188, rfl⟩
abbrev main_call0_v124 : Ref sig .tc := ⟨.hbm, 189, rfl⟩
abbrev main_call0_v125 : Ref sig .tc := ⟨.hbm, 190, rfl⟩
abbrev main_call0_v126 : Ref sig .tc := ⟨.hbm, 191, rfl⟩
abbrev main_call0_v127 : Ref sig .tc := ⟨.hbm, 192, rfl⟩
abbrev main_call0_v128 : Ref sig .tc := ⟨.hbm, 193, rfl⟩
abbrev main_call0_call4_c : Ref sig .tc := ⟨.hbm, 194, rfl⟩
abbrev main_call0_call4_v0 : Ref sig .tc := ⟨.hbm, 195, rfl⟩
abbrev main_call0_call4_v1 : Ref sig .tc := ⟨.hbm, 196, rfl⟩
abbrev main_call0_call4_c_0 : Ref sig .tc := ⟨.hbm, 197, rfl⟩
abbrev main_call0_call4_v2 : Ref sig .tc := ⟨.hbm, 198, rfl⟩
abbrev main_call0_call4_v3 : Ref sig .tc := ⟨.hbm, 199, rfl⟩
abbrev main_call0_call4_v4 : Ref sig .tc := ⟨.hbm, 200, rfl⟩
abbrev main_call0_call4_v5 : Ref sig .tc := ⟨.hbm, 201, rfl⟩
abbrev main_call0_call4_c_1 : Ref sig .tc := ⟨.hbm, 202, rfl⟩
abbrev main_call0_call4_c_2 : Ref sig .tc := ⟨.hbm, 203, rfl⟩
abbrev main_call0_call4_v6 : Ref sig .tc := ⟨.hbm, 204, rfl⟩
abbrev main_call0_call4_v7 : Ref sig .tc := ⟨.hbm, 205, rfl⟩
abbrev main_call0_call4_v8 : Ref sig .tc := ⟨.hbm, 206, rfl⟩
abbrev main_call0_call4_v9 : Ref sig .tc := ⟨.hbm, 207, rfl⟩
abbrev main_call0_call4_v10 : Ref sig .tc := ⟨.hbm, 208, rfl⟩
abbrev main_call0_call4_v11 : Ref sig .tc := ⟨.hbm, 209, rfl⟩
abbrev main_call0_call4_c_3 : Ref sig .tc := ⟨.hbm, 210, rfl⟩
abbrev main_call0_call4_v12 : Ref sig .tc := ⟨.hbm, 211, rfl⟩
abbrev main_call0_call4_v13 : Ref sig .tc := ⟨.hbm, 212, rfl⟩
abbrev main_call0_call4_cst : Ref sig .tc := ⟨.hbm, 213, rfl⟩
abbrev main_call0_call4_v14 : Ref sig .tc := ⟨.hbm, 214, rfl⟩
abbrev main_call0_v129 : Ref sig .tc := ⟨.hbm, 215, rfl⟩
abbrev main_call0_v130 : Ref sig .tc := ⟨.hbm, 216, rfl⟩
abbrev main_call0_v131 : Ref sig .tc := ⟨.hbm, 217, rfl⟩
abbrev main_call0_v132 : Ref sig .tc := ⟨.hbm, 218, rfl⟩
abbrev main_call0_v133 : Ref sig .tc := ⟨.hbm, 219, rfl⟩
abbrev main_call0_v134 : Ref sig .tc := ⟨.hbm, 220, rfl⟩
abbrev main_call0_v135 : Ref sig .tc := ⟨.hbm, 221, rfl⟩
abbrev main_call0_v136 : Ref sig .tc := ⟨.hbm, 222, rfl⟩
abbrev main_call0_v137 : Ref sig .tc := ⟨.hbm, 223, rfl⟩
abbrev main_call0_v138 : Ref sig .tc := ⟨.hbm, 224, rfl⟩
abbrev main_call0_v139 : Ref sig .tc := ⟨.hbm, 225, rfl⟩
abbrev main_call0_v140 : Ref sig .tc := ⟨.hbm, 226, rfl⟩
abbrev main_call0_v141 : Ref sig .tc := ⟨.hbm, 227, rfl⟩
abbrev main_call0_v142 : Ref sig .tc := ⟨.hbm, 228, rfl⟩
abbrev main_call0_v143 : Ref sig .tc := ⟨.hbm, 229, rfl⟩
abbrev main_call0_v144 : Ref sig .tc := ⟨.hbm, 230, rfl⟩
abbrev main_call0_v145 : Ref sig .tc := ⟨.hbm, 231, rfl⟩
abbrev main_call0_v146 : Ref sig .tc := ⟨.hbm, 232, rfl⟩
abbrev main_call0_v147 : Ref sig .tc := ⟨.hbm, 233, rfl⟩
abbrev main_call0_v148 : Ref sig .tc := ⟨.hbm, 234, rfl⟩
abbrev main_call0_v149 : Ref sig .tc := ⟨.hbm, 235, rfl⟩
abbrev main_call0_v150 : Ref sig .tc := ⟨.hbm, 236, rfl⟩
abbrev main_call0_v151 : Ref sig .tc := ⟨.hbm, 237, rfl⟩
abbrev main_call0_v152 : Ref sig .tc := ⟨.hbm, 238, rfl⟩
abbrev main_call0_v153 : Ref sig .tc := ⟨.hbm, 239, rfl⟩
abbrev main_call0_v154 : Ref sig .tc := ⟨.hbm, 240, rfl⟩
abbrev main_call0_v155 : Ref sig .tc := ⟨.hbm, 241, rfl⟩
abbrev main_call0_v156 : Ref sig .tc := ⟨.hbm, 242, rfl⟩
abbrev main_call0_v157 : Ref sig .tc := ⟨.hbm, 243, rfl⟩
abbrev main_call0_v158 : Ref sig .tc := ⟨.hbm, 244, rfl⟩
abbrev main_call0_v159 : Ref sig .tc := ⟨.hbm, 245, rfl⟩
abbrev main_call0_v160 : Ref sig .tc := ⟨.hbm, 246, rfl⟩
abbrev main_call0_v161 : Ref sig .tc := ⟨.hbm, 247, rfl⟩
abbrev main_call0_v162 : Ref sig .tc := ⟨.hbm, 248, rfl⟩
abbrev main_call0_v163 : Ref sig .tc := ⟨.hbm, 249, rfl⟩
abbrev main_call0_v164 : Ref sig .tc := ⟨.hbm, 250, rfl⟩
abbrev main_call0_v165 : Ref sig .tc := ⟨.hbm, 251, rfl⟩
abbrev main_call0_v166 : Ref sig .tc := ⟨.hbm, 252, rfl⟩
abbrev main_call0_c_27 : Ref sig .tc := ⟨.hbm, 253, rfl⟩
abbrev main_call0_v167 : Ref sig .tc := ⟨.hbm, 254, rfl⟩
abbrev main_call0_v168 : Ref sig .tc := ⟨.hbm, 255, rfl⟩
abbrev main_call0_c_28 : Ref sig .tc := ⟨.hbm, 256, rfl⟩
abbrev main_call0_v169 : Ref sig .tc := ⟨.hbm, 257, rfl⟩
abbrev main_call0_v170 : Ref sig .tc := ⟨.hbm, 258, rfl⟩
abbrev main_call0_v171 : Ref sig .tc := ⟨.hbm, 259, rfl⟩
abbrev main_call0_v172 : Ref sig .tc := ⟨.hbm, 260, rfl⟩
abbrev main_call0_v173 : Ref sig .tc := ⟨.hbm, 261, rfl⟩
abbrev main_call0_v174 : Ref sig .tc := ⟨.hbm, 262, rfl⟩
abbrev main_call0_v175 : Ref sig .tc := ⟨.hbm, 263, rfl⟩
abbrev main_call0_v176 : Ref sig .tc := ⟨.hbm, 264, rfl⟩
abbrev main_call0_v177 : Ref sig .tc := ⟨.hbm, 265, rfl⟩
abbrev main_call0_v178 : Ref sig .tc := ⟨.hbm, 266, rfl⟩
abbrev main_call0_v179 : Ref sig .tc := ⟨.hbm, 267, rfl⟩
abbrev main_call0_v180 : Ref sig .tc := ⟨.hbm, 268, rfl⟩
abbrev main_call0_v181 : Ref sig .tc := ⟨.hbm, 269, rfl⟩
abbrev main_call0_call5_v0 : Ref sig .tc := ⟨.hbm, 270, rfl⟩
abbrev main_call0_call5_cst : Ref sig .tc := ⟨.hbm, 271, rfl⟩
abbrev main_call0_call5_c : Ref sig .tc := ⟨.hbm, 272, rfl⟩
abbrev main_call0_call5_v1_0 : Ref sig .tc := ⟨.hbm, 273, rfl⟩
abbrev main_call0_v182 : Ref sig .tc := ⟨.hbm, 274, rfl⟩
abbrev main_call0_c_29 : Ref sig .tc := ⟨.hbm, 275, rfl⟩
abbrev main_call0_v183 : Ref sig .tc := ⟨.hbm, 276, rfl⟩
abbrev main_call0_v184 : Ref sig .tc := ⟨.hbm, 277, rfl⟩
abbrev main_call0_c_30 : Ref sig .tc := ⟨.hbm, 278, rfl⟩
abbrev main_call0_v185 : Ref sig .tc := ⟨.hbm, 279, rfl⟩
abbrev main_call0_v186 : Ref sig .tc := ⟨.hbm, 280, rfl⟩
abbrev main_call0_v187 : Ref sig .tc := ⟨.hbm, 281, rfl⟩
abbrev main_call0_c_31 : Ref sig .tc := ⟨.hbm, 282, rfl⟩
abbrev main_call0_v188 : Ref sig .tc := ⟨.hbm, 283, rfl⟩
abbrev main_call0_v189 : Ref sig .tc := ⟨.hbm, 284, rfl⟩
abbrev main_call0_c_32 : Ref sig .tc := ⟨.hbm, 285, rfl⟩
abbrev main_call0_v190 : Ref sig .tc := ⟨.hbm, 286, rfl⟩
abbrev main_call0_v191 : Ref sig .tc := ⟨.hbm, 287, rfl⟩
abbrev main_call0_v192 : Ref sig .tc := ⟨.hbm, 288, rfl⟩
abbrev main_call0_v193 : Ref sig .tc := ⟨.hbm, 289, rfl⟩
abbrev main_call0_v194 : Ref sig .tc := ⟨.hbm, 290, rfl⟩
abbrev main_call0_v195 : Ref sig .tc := ⟨.hbm, 291, rfl⟩
abbrev main_call0_c_33 : Ref sig .tc := ⟨.hbm, 292, rfl⟩
abbrev main_call0_v196 : Ref sig .tc := ⟨.hbm, 293, rfl⟩
abbrev main_call0_v197 : Ref sig .tc := ⟨.hbm, 294, rfl⟩
abbrev main_call0_v198 : Ref sig .tc := ⟨.hbm, 295, rfl⟩
abbrev main_call0_c_34 : Ref sig .tc := ⟨.hbm, 296, rfl⟩
abbrev main_call0_v199 : Ref sig .tc := ⟨.hbm, 297, rfl⟩
abbrev main_call0_v200 : Ref sig .tc := ⟨.hbm, 298, rfl⟩
abbrev main_call0_c_35 : Ref sig .tc := ⟨.hbm, 299, rfl⟩
abbrev main_call0_v201 : Ref sig .tc := ⟨.hbm, 300, rfl⟩
abbrev main_call0_v202 : Ref sig .tc := ⟨.hbm, 301, rfl⟩
abbrev main_call0_v203 : Ref sig .tc := ⟨.hbm, 302, rfl⟩
abbrev main_call0_c_36 : Ref sig .tc := ⟨.hbm, 303, rfl⟩
abbrev main_call0_v204 : Ref sig .tc := ⟨.hbm, 304, rfl⟩
abbrev main_call0_v205 : Ref sig .tc := ⟨.hbm, 305, rfl⟩
abbrev main_call0_c_37 : Ref sig .tc := ⟨.hbm, 306, rfl⟩
abbrev main_call0_v206 : Ref sig .tc := ⟨.hbm, 307, rfl⟩
abbrev main_call0_v207 : Ref sig .tc := ⟨.hbm, 308, rfl⟩
abbrev main_call0_v208 : Ref sig .tc := ⟨.hbm, 309, rfl⟩
abbrev main_call0_v209 : Ref sig .tc := ⟨.hbm, 310, rfl⟩
abbrev main_call0_v210 : Ref sig .tc := ⟨.hbm, 311, rfl⟩
abbrev main_call0_v211 : Ref sig .tc := ⟨.hbm, 312, rfl⟩
abbrev main_call0_v212 : Ref sig .tc := ⟨.hbm, 313, rfl⟩
abbrev main_call0_v213 : Ref sig .tc := ⟨.hbm, 314, rfl⟩
abbrev main_call0_v214 : Ref sig .tc := ⟨.hbm, 315, rfl⟩
abbrev main_call0_v215 : Ref sig .tc := ⟨.hbm, 316, rfl⟩
abbrev main_call0_v216 : Ref sig .tc := ⟨.hbm, 317, rfl⟩
abbrev main_call0_v217 : Ref sig .tc := ⟨.hbm, 318, rfl⟩
abbrev main_call0_v218 : Ref sig .tc := ⟨.hbm, 319, rfl⟩
abbrev main_call0_v219 : Ref sig .tc := ⟨.hbm, 320, rfl⟩
abbrev main_call0_v220 : Ref sig .tc := ⟨.hbm, 321, rfl⟩
abbrev main_call0_v221 : Ref sig .tc := ⟨.hbm, 322, rfl⟩
abbrev main_call0_v222 : Ref sig .tc := ⟨.hbm, 323, rfl⟩
abbrev main_call0_v223 : Ref sig .tc := ⟨.hbm, 324, rfl⟩
abbrev main_call0_v224 : Ref sig .tc := ⟨.hbm, 325, rfl⟩
abbrev main_call0_v225 : Ref sig .tc := ⟨.hbm, 326, rfl⟩
abbrev main_call0_v226 : Ref sig .tc := ⟨.hbm, 327, rfl⟩
abbrev main_call0_v227 : Ref sig .tc := ⟨.hbm, 328, rfl⟩
abbrev main_call0_v228 : Ref sig .tc := ⟨.hbm, 329, rfl⟩
abbrev main_call0_v229 : Ref sig .tc := ⟨.hbm, 330, rfl⟩
abbrev main_call0_v230 : Ref sig .tc := ⟨.hbm, 331, rfl⟩
abbrev main_call0_v231 : Ref sig .tc := ⟨.hbm, 332, rfl⟩
abbrev main_call0_v232 : Ref sig .tc := ⟨.hbm, 333, rfl⟩
abbrev main_call0_v233 : Ref sig .tc := ⟨.hbm, 334, rfl⟩
abbrev main_call0_cst_38 : Ref sig .tc := ⟨.hbm, 335, rfl⟩
abbrev main_call0_v234 : Ref sig .tc := ⟨.hbm, 336, rfl⟩
abbrev main_call0_v235 : Ref sig .tc := ⟨.hbm, 337, rfl⟩
abbrev main_call0_cst_39 : Ref sig .tc := ⟨.hbm, 338, rfl⟩
abbrev main_call0_v236 : Ref sig .tc := ⟨.hbm, 339, rfl⟩
abbrev main_call0_v237 : Ref sig .tc := ⟨.hbm, 340, rfl⟩
abbrev main_call0_cst_40 : Ref sig .tc := ⟨.hbm, 341, rfl⟩
abbrev main_call0_v238 : Ref sig .tc := ⟨.hbm, 342, rfl⟩
abbrev main_call0_v239 : Ref sig .tc := ⟨.hbm, 343, rfl⟩
abbrev main_call0_v240 : Ref sig .tc := ⟨.hbm, 344, rfl⟩
abbrev main_call0_cst_41 : Ref sig .tc := ⟨.hbm, 345, rfl⟩
abbrev main_call0_v241 : Ref sig .tc := ⟨.hbm, 346, rfl⟩
abbrev main_call0_v242 : Ref sig .tc := ⟨.hbm, 347, rfl⟩
abbrev main_call0_v243 : Ref sig .tc := ⟨.hbm, 348, rfl⟩
abbrev main_call0_v244 : Ref sig .tc := ⟨.hbm, 349, rfl⟩
abbrev main_call0_v245 : Ref sig .tc := ⟨.hbm, 350, rfl⟩
abbrev main_call0_v246 : Ref sig .tc := ⟨.hbm, 351, rfl⟩
abbrev main_call0_call6_c : Ref sig .tc := ⟨.hbm, 352, rfl⟩
abbrev main_call0_call6_v0 : Ref sig .tc := ⟨.hbm, 353, rfl⟩
abbrev main_call0_call6_v1 : Ref sig .tc := ⟨.hbm, 354, rfl⟩
abbrev main_call0_call6_c_0 : Ref sig .tc := ⟨.hbm, 355, rfl⟩
abbrev main_call0_call6_v2 : Ref sig .tc := ⟨.hbm, 356, rfl⟩
abbrev main_call0_call6_v3 : Ref sig .tc := ⟨.hbm, 357, rfl⟩
abbrev main_call0_call6_v4 : Ref sig .tc := ⟨.hbm, 358, rfl⟩
abbrev main_call0_call6_v5 : Ref sig .tc := ⟨.hbm, 359, rfl⟩
abbrev main_call0_call6_c_1 : Ref sig .tc := ⟨.hbm, 360, rfl⟩
abbrev main_call0_call6_c_2 : Ref sig .tc := ⟨.hbm, 361, rfl⟩
abbrev main_call0_call6_v6 : Ref sig .tc := ⟨.hbm, 362, rfl⟩
abbrev main_call0_call6_v7 : Ref sig .tc := ⟨.hbm, 363, rfl⟩
abbrev main_call0_call6_v8 : Ref sig .tc := ⟨.hbm, 364, rfl⟩
abbrev main_call0_call6_v9 : Ref sig .tc := ⟨.hbm, 365, rfl⟩
abbrev main_call0_call6_v10 : Ref sig .tc := ⟨.hbm, 366, rfl⟩
abbrev main_call0_call6_v11 : Ref sig .tc := ⟨.hbm, 367, rfl⟩
abbrev main_call0_call6_c_3 : Ref sig .tc := ⟨.hbm, 368, rfl⟩
abbrev main_call0_call6_v12 : Ref sig .tc := ⟨.hbm, 369, rfl⟩
abbrev main_call0_call6_v13 : Ref sig .tc := ⟨.hbm, 370, rfl⟩
abbrev main_call0_call6_cst : Ref sig .tc := ⟨.hbm, 371, rfl⟩
abbrev main_call0_call6_v14 : Ref sig .tc := ⟨.hbm, 372, rfl⟩
abbrev main_call0_v247 : Ref sig .tc := ⟨.hbm, 373, rfl⟩
abbrev main_call0_v248 : Ref sig .tc := ⟨.hbm, 374, rfl⟩
abbrev main_call0_v249 : Ref sig .tc := ⟨.hbm, 375, rfl⟩
abbrev main_call0_v250 : Ref sig .tc := ⟨.hbm, 376, rfl⟩
abbrev main_call0_v251 : Ref sig .tc := ⟨.hbm, 377, rfl⟩
abbrev main_call0_v252 : Ref sig .tc := ⟨.hbm, 378, rfl⟩
abbrev main_call0_v253 : Ref sig .tc := ⟨.hbm, 379, rfl⟩
abbrev main_call0_v254 : Ref sig .tc := ⟨.hbm, 380, rfl⟩
abbrev main_call0_v255 : Ref sig .tc := ⟨.hbm, 381, rfl⟩
abbrev main_call0_v256 : Ref sig .tc := ⟨.hbm, 382, rfl⟩
abbrev main_call0_v257 : Ref sig .tc := ⟨.hbm, 383, rfl⟩
abbrev main_call0_v258 : Ref sig .tc := ⟨.hbm, 384, rfl⟩
abbrev main_call0_v259 : Ref sig .tc := ⟨.hbm, 385, rfl⟩
abbrev main_call0_v260 : Ref sig .tc := ⟨.hbm, 386, rfl⟩
abbrev main_call0_v261 : Ref sig .tc := ⟨.hbm, 387, rfl⟩
abbrev main_call0_v262 : Ref sig .tc := ⟨.hbm, 388, rfl⟩
abbrev main_call0_v263 : Ref sig .tc := ⟨.hbm, 389, rfl⟩
abbrev main_call0_v264 : Ref sig .tc := ⟨.hbm, 390, rfl⟩
abbrev main_call0_v265 : Ref sig .tc := ⟨.hbm, 391, rfl⟩
abbrev main_call0_v266 : Ref sig .tc := ⟨.hbm, 392, rfl⟩
abbrev main_call0_v267 : Ref sig .tc := ⟨.hbm, 393, rfl⟩
abbrev main_call0_v268 : Ref sig .tc := ⟨.hbm, 394, rfl⟩
abbrev main_call0_v269 : Ref sig .tc := ⟨.hbm, 395, rfl⟩
abbrev main_call0_v270 : Ref sig .tc := ⟨.hbm, 396, rfl⟩
abbrev main_call0_v271 : Ref sig .tc := ⟨.hbm, 397, rfl⟩
abbrev main_call0_v272 : Ref sig .tc := ⟨.hbm, 398, rfl⟩
abbrev main_call0_v273 : Ref sig .tc := ⟨.hbm, 399, rfl⟩
abbrev main_call0_v274 : Ref sig .tc := ⟨.hbm, 400, rfl⟩
abbrev main_call0_v275 : Ref sig .tc := ⟨.hbm, 401, rfl⟩
abbrev main_call0_v276 : Ref sig .tc := ⟨.hbm, 402, rfl⟩
abbrev main_call0_v277 : Ref sig .tc := ⟨.hbm, 403, rfl⟩
abbrev main_call0_v278 : Ref sig .tc := ⟨.hbm, 404, rfl⟩
abbrev main_call0_v279 : Ref sig .tc := ⟨.hbm, 405, rfl⟩
abbrev main_call0_v280 : Ref sig .tc := ⟨.hbm, 406, rfl⟩
abbrev main_call0_v281 : Ref sig .tc := ⟨.hbm, 407, rfl⟩
abbrev main_call0_v282 : Ref sig .tc := ⟨.hbm, 408, rfl⟩
abbrev main_call0_v283 : Ref sig .tc := ⟨.hbm, 409, rfl⟩
abbrev main_call0_v284 : Ref sig .tc := ⟨.hbm, 410, rfl⟩
abbrev main_call0_v285 : Ref sig .tc := ⟨.hbm, 411, rfl⟩
abbrev main_call0_v286 : Ref sig .tc := ⟨.hbm, 412, rfl⟩
abbrev main_call0_v287 : Ref sig .tc := ⟨.hbm, 413, rfl⟩
abbrev main_call0_v288 : Ref sig .tc := ⟨.hbm, 414, rfl⟩
abbrev main_call0_v289 : Ref sig .tc := ⟨.hbm, 415, rfl⟩
abbrev main_call0_v290 : Ref sig .tc := ⟨.hbm, 416, rfl⟩
abbrev main_call0_v291 : Ref sig .tc := ⟨.hbm, 417, rfl⟩
abbrev main_call0_v292 : Ref sig .tc := ⟨.hbm, 418, rfl⟩
abbrev main_call0_v293 : Ref sig .tc := ⟨.hbm, 419, rfl⟩
abbrev main_call0_v294 : Ref sig .tc := ⟨.hbm, 420, rfl⟩
abbrev main_call0_v295 : Ref sig .tc := ⟨.hbm, 421, rfl⟩
abbrev main_call0_v296 : Ref sig .tc := ⟨.hbm, 422, rfl⟩
abbrev main_call0_v297 : Ref sig .tc := ⟨.hbm, 423, rfl⟩
abbrev main_call0_v298 : Ref sig .tc := ⟨.hbm, 424, rfl⟩
abbrev main_call0_v299 : Ref sig .tc := ⟨.hbm, 425, rfl⟩
abbrev main_call0_v300 : Ref sig .tc := ⟨.hbm, 426, rfl⟩
abbrev main_call0_v301 : Ref sig .tc := ⟨.hbm, 427, rfl⟩
abbrev main_call0_v302 : Ref sig .tc := ⟨.hbm, 428, rfl⟩
abbrev main_call0_v303 : Ref sig .tc := ⟨.hbm, 429, rfl⟩
abbrev main_call0_v304 : Ref sig .tc := ⟨.hbm, 430, rfl⟩
abbrev main_call0_v305 : Ref sig .tc := ⟨.hbm, 431, rfl⟩
abbrev main_call0_v306 : Ref sig .tc := ⟨.hbm, 432, rfl⟩
abbrev main_call0_v307 : Ref sig .tc := ⟨.hbm, 433, rfl⟩
abbrev main_call0_v308 : Ref sig .tc := ⟨.hbm, 434, rfl⟩
abbrev main_call0_v309 : Ref sig .tc := ⟨.hbm, 435, rfl⟩
abbrev main_call0_v310 : Ref sig .tc := ⟨.hbm, 436, rfl⟩
abbrev main_call0_v311 : Ref sig .tc := ⟨.hbm, 437, rfl⟩
abbrev main_call0_v312 : Ref sig .tc := ⟨.hbm, 438, rfl⟩
abbrev main_call0_c_42 : Ref sig .tc := ⟨.hbm, 439, rfl⟩
abbrev main_call0_v313 : Ref sig .tc := ⟨.hbm, 440, rfl⟩
abbrev main_call0_v314 : Ref sig .tc := ⟨.hbm, 441, rfl⟩
abbrev main_call0_c_43 : Ref sig .tc := ⟨.hbm, 442, rfl⟩
abbrev main_call0_v315 : Ref sig .tc := ⟨.hbm, 443, rfl⟩
abbrev main_call0_v316 : Ref sig .tc := ⟨.hbm, 444, rfl⟩
abbrev main_call0_v317 : Ref sig .tc := ⟨.hbm, 445, rfl⟩
abbrev main_call0_v318 : Ref sig .tc := ⟨.hbm, 446, rfl⟩
abbrev main_call0_v319 : Ref sig .tc := ⟨.hbm, 447, rfl⟩
abbrev main_call0_v320 : Ref sig .tc := ⟨.hbm, 448, rfl⟩
abbrev main_call0_v321 : Ref sig .tc := ⟨.hbm, 449, rfl⟩
abbrev main_call0_v322 : Ref sig .tc := ⟨.hbm, 450, rfl⟩
abbrev main_call0_v323 : Ref sig .tc := ⟨.hbm, 451, rfl⟩
abbrev main_call0_v324 : Ref sig .tc := ⟨.hbm, 452, rfl⟩
abbrev main_call0_v325 : Ref sig .tc := ⟨.hbm, 453, rfl⟩
abbrev main_call0_v326 : Ref sig .tc := ⟨.hbm, 454, rfl⟩
abbrev main_call0_v327 : Ref sig .tc := ⟨.hbm, 455, rfl⟩
abbrev main_call0_call7_v0 : Ref sig .tc := ⟨.hbm, 456, rfl⟩
abbrev main_call0_call7_cst : Ref sig .tc := ⟨.hbm, 457, rfl⟩
abbrev main_call0_call7_c : Ref sig .tc := ⟨.hbm, 458, rfl⟩
abbrev main_call0_call7_v1_0 : Ref sig .tc := ⟨.hbm, 459, rfl⟩
abbrev main_call0_v328 : Ref sig .tc := ⟨.hbm, 460, rfl⟩
abbrev main_call0_c_44 : Ref sig .tc := ⟨.hbm, 461, rfl⟩
abbrev main_call0_v329 : Ref sig .tc := ⟨.hbm, 462, rfl⟩
abbrev main_call0_v330 : Ref sig .tc := ⟨.hbm, 463, rfl⟩
abbrev main_call0_c_45 : Ref sig .tc := ⟨.hbm, 464, rfl⟩
abbrev main_call0_v331 : Ref sig .tc := ⟨.hbm, 465, rfl⟩
abbrev main_call0_v332 : Ref sig .tc := ⟨.hbm, 466, rfl⟩
abbrev main_call0_v333 : Ref sig .tc := ⟨.hbm, 467, rfl⟩
abbrev main_call0_c_46 : Ref sig .tc := ⟨.hbm, 468, rfl⟩
abbrev main_call0_v334 : Ref sig .tc := ⟨.hbm, 469, rfl⟩
abbrev main_call0_v335 : Ref sig .tc := ⟨.hbm, 470, rfl⟩
abbrev main_call0_c_47 : Ref sig .tc := ⟨.hbm, 471, rfl⟩
abbrev main_call0_v336 : Ref sig .tc := ⟨.hbm, 472, rfl⟩
abbrev main_call0_v337 : Ref sig .tc := ⟨.hbm, 473, rfl⟩
abbrev main_call0_v338 : Ref sig .tc := ⟨.hbm, 474, rfl⟩
abbrev main_call0_v339 : Ref sig .tc := ⟨.hbm, 475, rfl⟩
abbrev main_call0_v340 : Ref sig .tc := ⟨.hbm, 476, rfl⟩
abbrev main_call0_v341 : Ref sig .tc := ⟨.hbm, 477, rfl⟩
abbrev main_call0_c_48 : Ref sig .tc := ⟨.hbm, 478, rfl⟩
abbrev main_call0_v342 : Ref sig .tc := ⟨.hbm, 479, rfl⟩
abbrev main_call0_v343 : Ref sig .tc := ⟨.hbm, 480, rfl⟩
abbrev main_call0_v344 : Ref sig .tc := ⟨.hbm, 481, rfl⟩
abbrev main_call0_c_49 : Ref sig .tc := ⟨.hbm, 482, rfl⟩
abbrev main_call0_v345 : Ref sig .tc := ⟨.hbm, 483, rfl⟩
abbrev main_call0_v346 : Ref sig .tc := ⟨.hbm, 484, rfl⟩
abbrev main_call0_c_50 : Ref sig .tc := ⟨.hbm, 485, rfl⟩
abbrev main_call0_v347 : Ref sig .tc := ⟨.hbm, 486, rfl⟩
abbrev main_call0_v348 : Ref sig .tc := ⟨.hbm, 487, rfl⟩
abbrev main_call0_v349 : Ref sig .tc := ⟨.hbm, 488, rfl⟩
abbrev main_call0_c_51 : Ref sig .tc := ⟨.hbm, 489, rfl⟩
abbrev main_call0_v350 : Ref sig .tc := ⟨.hbm, 490, rfl⟩
abbrev main_call0_v351 : Ref sig .tc := ⟨.hbm, 491, rfl⟩
abbrev main_call0_c_52 : Ref sig .tc := ⟨.hbm, 492, rfl⟩
abbrev main_call0_v352 : Ref sig .tc := ⟨.hbm, 493, rfl⟩
abbrev main_call0_v353 : Ref sig .tc := ⟨.hbm, 494, rfl⟩
abbrev main_call0_v354 : Ref sig .tc := ⟨.hbm, 495, rfl⟩
abbrev main_call0_v355 : Ref sig .tc := ⟨.hbm, 496, rfl⟩
abbrev main_call0_v356 : Ref sig .tc := ⟨.hbm, 497, rfl⟩
abbrev main_call0_v357 : Ref sig .tc := ⟨.hbm, 498, rfl⟩
abbrev main_call0_v358 : Ref sig .tc := ⟨.hbm, 499, rfl⟩
abbrev main_call0_v359 : Ref sig .tc := ⟨.hbm, 500, rfl⟩
abbrev main_call0_v360 : Ref sig .tc := ⟨.hbm, 501, rfl⟩
abbrev main_call0_v361 : Ref sig .tc := ⟨.hbm, 502, rfl⟩
abbrev main_call0_v362 : Ref sig .tc := ⟨.hbm, 503, rfl⟩
abbrev main_call0_v363 : Ref sig .tc := ⟨.hbm, 504, rfl⟩
abbrev main_call0_v364 : Ref sig .tc := ⟨.hbm, 505, rfl⟩
abbrev main_call0_v365 : Ref sig .tc := ⟨.hbm, 506, rfl⟩
abbrev main_call0_v366 : Ref sig .tc := ⟨.hbm, 507, rfl⟩
abbrev main_call0_v367 : Ref sig .tc := ⟨.hbm, 508, rfl⟩
abbrev main_call0_v368 : Ref sig .tc := ⟨.hbm, 509, rfl⟩
abbrev main_call0_v369 : Ref sig .tc := ⟨.hbm, 510, rfl⟩
abbrev main_call0_v370 : Ref sig .tc := ⟨.hbm, 511, rfl⟩
abbrev main_call0_v371 : Ref sig .tc := ⟨.hbm, 512, rfl⟩
abbrev main_call0_v372 : Ref sig .tc := ⟨.hbm, 513, rfl⟩
abbrev main_call0_v373 : Ref sig .tc := ⟨.hbm, 514, rfl⟩
abbrev main_call0_v374 : Ref sig .tc := ⟨.hbm, 515, rfl⟩
abbrev main_call0_v375 : Ref sig .tc := ⟨.hbm, 516, rfl⟩
abbrev main_call0_v376 : Ref sig .tc := ⟨.hbm, 517, rfl⟩
abbrev main_call0_v377 : Ref sig .tc := ⟨.hbm, 518, rfl⟩
abbrev main_call0_v378 : Ref sig .tc := ⟨.hbm, 519, rfl⟩
abbrev main_call0_v379 : Ref sig .tc := ⟨.hbm, 520, rfl⟩
abbrev main_call0_v380 : Ref sig .tc := ⟨.hbm, 521, rfl⟩
abbrev main_call0_v381 : Ref sig .tc := ⟨.hbm, 522, rfl⟩
abbrev main_call0_v382 : Ref sig .tc := ⟨.hbm, 523, rfl⟩
abbrev main_call0_v383 : Ref sig .tc := ⟨.hbm, 524, rfl⟩
abbrev main_call0_v384 : Ref sig .tc := ⟨.hbm, 525, rfl⟩
abbrev main_call0_v385 : Ref sig .tc := ⟨.hbm, 526, rfl⟩
abbrev main_call0_v386 : Ref sig .tc := ⟨.hbm, 527, rfl⟩
abbrev main_call0_v387 : Ref sig .tc := ⟨.hbm, 528, rfl⟩
abbrev main_call0_v388 : Ref sig .tc := ⟨.hbm, 529, rfl⟩
abbrev main_call0_v389 : Ref sig .tc := ⟨.hbm, 530, rfl⟩
abbrev main_call0_v390 : Ref sig .tc := ⟨.hbm, 531, rfl⟩
abbrev main_call0_v391 : Ref sig .tc := ⟨.hbm, 532, rfl⟩
abbrev main_call0_v392 : Ref sig .tc := ⟨.hbm, 533, rfl⟩
abbrev main_call0_v393 : Ref sig .tc := ⟨.hbm, 534, rfl⟩
abbrev main_call0_cst_53 : Ref sig .tc := ⟨.hbm, 535, rfl⟩
abbrev main_call0_v394 : Ref sig .tc := ⟨.hbm, 536, rfl⟩
abbrev main_call0_v395 : Ref sig .tc := ⟨.hbm, 537, rfl⟩
abbrev main_call0_cst_54 : Ref sig .tc := ⟨.hbm, 538, rfl⟩
abbrev main_call0_v396 : Ref sig .tc := ⟨.hbm, 539, rfl⟩
abbrev main_call0_v397 : Ref sig .tc := ⟨.hbm, 540, rfl⟩
abbrev main_call0_cst_55 : Ref sig .tc := ⟨.hbm, 541, rfl⟩
abbrev main_call0_v398 : Ref sig .tc := ⟨.hbm, 542, rfl⟩
abbrev main_call0_v399 : Ref sig .tc := ⟨.hbm, 543, rfl⟩
abbrev main_call0_v400 : Ref sig .tc := ⟨.hbm, 544, rfl⟩
abbrev main_call0_cst_56 : Ref sig .tc := ⟨.hbm, 545, rfl⟩
abbrev main_call0_v401 : Ref sig .tc := ⟨.hbm, 546, rfl⟩
abbrev main_call0_v402 : Ref sig .tc := ⟨.hbm, 547, rfl⟩
abbrev main_call0_v403 : Ref sig .tc := ⟨.hbm, 548, rfl⟩
abbrev main_call0_v404 : Ref sig .tc := ⟨.hbm, 549, rfl⟩
abbrev main_call0_v405 : Ref sig .tc := ⟨.hbm, 550, rfl⟩
abbrev main_call0_v406 : Ref sig .tc := ⟨.hbm, 551, rfl⟩
abbrev main_call0_call8_c : Ref sig .tc := ⟨.hbm, 552, rfl⟩
abbrev main_call0_call8_v0 : Ref sig .tc := ⟨.hbm, 553, rfl⟩
abbrev main_call0_call8_v1 : Ref sig .tc := ⟨.hbm, 554, rfl⟩
abbrev main_call0_call8_c_0 : Ref sig .tc := ⟨.hbm, 555, rfl⟩
abbrev main_call0_call8_v2 : Ref sig .tc := ⟨.hbm, 556, rfl⟩
abbrev main_call0_call8_v3 : Ref sig .tc := ⟨.hbm, 557, rfl⟩
abbrev main_call0_call8_v4 : Ref sig .tc := ⟨.hbm, 558, rfl⟩
abbrev main_call0_call8_v5 : Ref sig .tc := ⟨.hbm, 559, rfl⟩
abbrev main_call0_call8_c_1 : Ref sig .tc := ⟨.hbm, 560, rfl⟩
abbrev main_call0_call8_c_2 : Ref sig .tc := ⟨.hbm, 561, rfl⟩
abbrev main_call0_call8_v6 : Ref sig .tc := ⟨.hbm, 562, rfl⟩
abbrev main_call0_call8_v7 : Ref sig .tc := ⟨.hbm, 563, rfl⟩
abbrev main_call0_call8_v8 : Ref sig .tc := ⟨.hbm, 564, rfl⟩
abbrev main_call0_call8_v9 : Ref sig .tc := ⟨.hbm, 565, rfl⟩
abbrev main_call0_call8_v10 : Ref sig .tc := ⟨.hbm, 566, rfl⟩
abbrev main_call0_call8_v11 : Ref sig .tc := ⟨.hbm, 567, rfl⟩
abbrev main_call0_call8_c_3 : Ref sig .tc := ⟨.hbm, 568, rfl⟩
abbrev main_call0_call8_v12 : Ref sig .tc := ⟨.hbm, 569, rfl⟩
abbrev main_call0_call8_v13 : Ref sig .tc := ⟨.hbm, 570, rfl⟩
abbrev main_call0_call8_cst : Ref sig .tc := ⟨.hbm, 571, rfl⟩
abbrev main_call0_call8_v14 : Ref sig .tc := ⟨.hbm, 572, rfl⟩
abbrev main_call0_v407 : Ref sig .tc := ⟨.hbm, 573, rfl⟩
abbrev main_call0_v408 : Ref sig .tc := ⟨.hbm, 574, rfl⟩
abbrev main_call0_v409 : Ref sig .tc := ⟨.hbm, 575, rfl⟩
abbrev main_call0_v410 : Ref sig .tc := ⟨.hbm, 576, rfl⟩
abbrev main_call0_v411 : Ref sig .tc := ⟨.hbm, 577, rfl⟩
abbrev main_call0_v412 : Ref sig .tc := ⟨.hbm, 578, rfl⟩
abbrev main_call0_v413 : Ref sig .tc := ⟨.hbm, 579, rfl⟩
abbrev main_call0_v414 : Ref sig .tc := ⟨.hbm, 580, rfl⟩
abbrev main_call0_v415 : Ref sig .tc := ⟨.hbm, 581, rfl⟩
abbrev main_call0_v416 : Ref sig .tc := ⟨.hbm, 582, rfl⟩
abbrev main_call0_v417 : Ref sig .tc := ⟨.hbm, 583, rfl⟩
abbrev main_call0_v418 : Ref sig .tc := ⟨.hbm, 584, rfl⟩
abbrev main_call0_v419 : Ref sig .tc := ⟨.hbm, 585, rfl⟩
abbrev main_call0_v420 : Ref sig .tc := ⟨.hbm, 586, rfl⟩
abbrev main_call0_v421 : Ref sig .tc := ⟨.hbm, 587, rfl⟩
abbrev main_call0_v422 : Ref sig .tc := ⟨.hbm, 588, rfl⟩
abbrev main_call0_v423 : Ref sig .tc := ⟨.hbm, 589, rfl⟩
abbrev main_call0_v424 : Ref sig .tc := ⟨.hbm, 590, rfl⟩
abbrev main_call0_v425 : Ref sig .tc := ⟨.hbm, 591, rfl⟩
abbrev main_call0_v426 : Ref sig .tc := ⟨.hbm, 592, rfl⟩
abbrev main_call0_v427 : Ref sig .tc := ⟨.hbm, 593, rfl⟩
abbrev main_call0_v428 : Ref sig .tc := ⟨.hbm, 594, rfl⟩
abbrev main_call0_v429 : Ref sig .tc := ⟨.hbm, 595, rfl⟩
abbrev main_call0_v430 : Ref sig .tc := ⟨.hbm, 596, rfl⟩
abbrev main_call0_v431 : Ref sig .tc := ⟨.hbm, 597, rfl⟩
abbrev main_call0_v432 : Ref sig .tc := ⟨.hbm, 598, rfl⟩
abbrev main_call0_v433 : Ref sig .tc := ⟨.hbm, 599, rfl⟩
abbrev main_call0_v434 : Ref sig .tc := ⟨.hbm, 600, rfl⟩
abbrev main_call0_v435 : Ref sig .tc := ⟨.hbm, 601, rfl⟩
abbrev main_call0_v436 : Ref sig .tc := ⟨.hbm, 602, rfl⟩
abbrev main_call0_v437 : Ref sig .tc := ⟨.hbm, 603, rfl⟩
abbrev main_call0_v438 : Ref sig .tc := ⟨.hbm, 604, rfl⟩
abbrev main_call0_v439 : Ref sig .tc := ⟨.hbm, 605, rfl⟩
abbrev main_call0_v440 : Ref sig .tc := ⟨.hbm, 606, rfl⟩
abbrev main_call0_v441 : Ref sig .tc := ⟨.hbm, 607, rfl⟩
abbrev main_call0_v442 : Ref sig .tc := ⟨.hbm, 608, rfl⟩
abbrev main_call0_v443 : Ref sig .tc := ⟨.hbm, 609, rfl⟩
abbrev main_call0_v444 : Ref sig .tc := ⟨.hbm, 610, rfl⟩
abbrev main_call0_v445 : Ref sig .tc := ⟨.hbm, 611, rfl⟩
abbrev main_call0_v446 : Ref sig .tc := ⟨.hbm, 612, rfl⟩
abbrev main_call0_v447 : Ref sig .tc := ⟨.hbm, 613, rfl⟩
abbrev main_call0_v448 : Ref sig .tc := ⟨.hbm, 614, rfl⟩
abbrev main_call0_v449 : Ref sig .tc := ⟨.hbm, 615, rfl⟩
abbrev main_call0_v450 : Ref sig .tc := ⟨.hbm, 616, rfl⟩
abbrev main_call0_v451 : Ref sig .tc := ⟨.hbm, 617, rfl⟩
abbrev main_call0_v452 : Ref sig .tc := ⟨.hbm, 618, rfl⟩
abbrev main_call0_v453 : Ref sig .tc := ⟨.hbm, 619, rfl⟩
abbrev main_call0_v454 : Ref sig .tc := ⟨.hbm, 620, rfl⟩
abbrev main_call0_v455 : Ref sig .tc := ⟨.hbm, 621, rfl⟩
abbrev main_call0_v456 : Ref sig .tc := ⟨.hbm, 622, rfl⟩
abbrev main_call0_v457 : Ref sig .tc := ⟨.hbm, 623, rfl⟩
abbrev main_call0_v458 : Ref sig .tc := ⟨.hbm, 624, rfl⟩
abbrev main_call0_v459 : Ref sig .tc := ⟨.hbm, 625, rfl⟩
abbrev main_call0_v460 : Ref sig .tc := ⟨.hbm, 626, rfl⟩
abbrev main_call0_v461 : Ref sig .tc := ⟨.hbm, 627, rfl⟩
abbrev main_call0_v462 : Ref sig .tc := ⟨.hbm, 628, rfl⟩
abbrev main_call0_v463 : Ref sig .tc := ⟨.hbm, 629, rfl⟩
abbrev main_call0_v464 : Ref sig .tc := ⟨.hbm, 630, rfl⟩
abbrev main_call0_v465 : Ref sig .tc := ⟨.hbm, 631, rfl⟩
abbrev main_call0_v466 : Ref sig .tc := ⟨.hbm, 632, rfl⟩
abbrev main_call0_v467 : Ref sig .tc := ⟨.hbm, 633, rfl⟩
abbrev main_call0_v468 : Ref sig .tc := ⟨.hbm, 634, rfl⟩
abbrev main_call0_v469 : Ref sig .tc := ⟨.hbm, 635, rfl⟩
abbrev main_call0_v470 : Ref sig .tc := ⟨.hbm, 636, rfl⟩
abbrev main_call0_v471 : Ref sig .tc := ⟨.hbm, 637, rfl⟩
abbrev main_call0_v472 : Ref sig .tc := ⟨.hbm, 638, rfl⟩
abbrev main_call0_v473 : Ref sig .tc := ⟨.hbm, 639, rfl⟩
abbrev main_call0_v474 : Ref sig .tc := ⟨.hbm, 640, rfl⟩
abbrev main_call0_v475 : Ref sig .tc := ⟨.hbm, 641, rfl⟩
abbrev main_call0_v476 : Ref sig .tc := ⟨.hbm, 642, rfl⟩
abbrev main_call0_v477 : Ref sig .tc := ⟨.hbm, 643, rfl⟩
abbrev main_call0_v478 : Ref sig .tc := ⟨.hbm, 644, rfl⟩
abbrev main_call0_v479 : Ref sig .tc := ⟨.hbm, 645, rfl⟩
abbrev main_call0_v480 : Ref sig .tc := ⟨.hbm, 646, rfl⟩
abbrev main_call0_v481 : Ref sig .tc := ⟨.hbm, 647, rfl⟩
abbrev main_call0_v482 : Ref sig .tc := ⟨.hbm, 648, rfl⟩
abbrev main_call0_v483 : Ref sig .tc := ⟨.hbm, 649, rfl⟩
abbrev main_call0_v484 : Ref sig .tc := ⟨.hbm, 650, rfl⟩
abbrev main_call0_v485 : Ref sig .tc := ⟨.hbm, 651, rfl⟩
abbrev main_call0_v486 : Ref sig .tc := ⟨.hbm, 652, rfl⟩
abbrev main_call0_v487 : Ref sig .tc := ⟨.hbm, 653, rfl⟩
abbrev main_call0_v488 : Ref sig .tc := ⟨.hbm, 654, rfl⟩
abbrev main_call0_v489 : Ref sig .tc := ⟨.hbm, 655, rfl⟩
abbrev main_call0_v490 : Ref sig .tc := ⟨.hbm, 656, rfl⟩
abbrev main_call0_v491 : Ref sig .tc := ⟨.hbm, 657, rfl⟩
abbrev main_call0_v492 : Ref sig .tc := ⟨.hbm, 658, rfl⟩
abbrev main_call0_v493 : Ref sig .tc := ⟨.hbm, 659, rfl⟩
abbrev main_call0_v494 : Ref sig .tc := ⟨.hbm, 660, rfl⟩
abbrev main_call0_v495 : Ref sig .tc := ⟨.hbm, 661, rfl⟩
abbrev main_call0_v496 : Ref sig .tc := ⟨.hbm, 662, rfl⟩
abbrev main_call0_v497 : Ref sig .tc := ⟨.hbm, 663, rfl⟩
abbrev main_call0_v498 : Ref sig .tc := ⟨.hbm, 664, rfl⟩
abbrev main_call0_v499 : Ref sig .tc := ⟨.hbm, 665, rfl⟩
abbrev main_call0_v500 : Ref sig .tc := ⟨.hbm, 666, rfl⟩
abbrev main_call0_v501 : Ref sig .tc := ⟨.hbm, 667, rfl⟩
abbrev main_call0_v502 : Ref sig .tc := ⟨.hbm, 668, rfl⟩
abbrev main_call0_v503 : Ref sig .tc := ⟨.hbm, 669, rfl⟩
abbrev main_call0_v504 : Ref sig .tc := ⟨.hbm, 670, rfl⟩
abbrev main_call0_v505 : Ref sig .tc := ⟨.hbm, 671, rfl⟩
abbrev main_call0_v506 : Ref sig .tc := ⟨.hbm, 672, rfl⟩
abbrev main_call0_v507 : Ref sig .tc := ⟨.hbm, 673, rfl⟩
abbrev main_call0_v508 : Ref sig .tc := ⟨.hbm, 674, rfl⟩
abbrev main_call0_c_57 : Ref sig .tc := ⟨.hbm, 675, rfl⟩
abbrev main_call0_v509 : Ref sig .tc := ⟨.hbm, 676, rfl⟩
abbrev main_call0_v510 : Ref sig .tc := ⟨.hbm, 677, rfl⟩
abbrev main_call0_c_58 : Ref sig .tc := ⟨.hbm, 678, rfl⟩
abbrev main_call0_v511 : Ref sig .tc := ⟨.hbm, 679, rfl⟩
abbrev main_call0_v512 : Ref sig .tc := ⟨.hbm, 680, rfl⟩
abbrev main_call0_v513 : Ref sig .tc := ⟨.hbm, 681, rfl⟩
abbrev main_call0_v514 : Ref sig .tc := ⟨.hbm, 682, rfl⟩
abbrev main_call0_v515 : Ref sig .tc := ⟨.hbm, 683, rfl⟩
abbrev main_call0_v516 : Ref sig .tc := ⟨.hbm, 684, rfl⟩
abbrev main_call0_v517 : Ref sig .tc := ⟨.hbm, 685, rfl⟩
abbrev main_call0_v518 : Ref sig .tc := ⟨.hbm, 686, rfl⟩
abbrev main_call0_v519 : Ref sig .tc := ⟨.hbm, 687, rfl⟩
abbrev main_call0_v520 : Ref sig .tc := ⟨.hbm, 688, rfl⟩
abbrev main_call0_v521 : Ref sig .tc := ⟨.hbm, 689, rfl⟩
abbrev main_call0_v522 : Ref sig .tc := ⟨.hbm, 690, rfl⟩
abbrev main_call0_v523 : Ref sig .tc := ⟨.hbm, 691, rfl⟩
abbrev main_call0_call9_v0 : Ref sig .tc := ⟨.hbm, 692, rfl⟩
abbrev main_call0_call9_cst : Ref sig .tc := ⟨.hbm, 693, rfl⟩
abbrev main_call0_call9_c : Ref sig .tc := ⟨.hbm, 694, rfl⟩
abbrev main_call0_call9_v1_0 : Ref sig .tc := ⟨.hbm, 695, rfl⟩
abbrev main_call0_v524 : Ref sig .tc := ⟨.hbm, 696, rfl⟩
abbrev main_call0_c_59 : Ref sig .tc := ⟨.hbm, 697, rfl⟩
abbrev main_call0_v525 : Ref sig .tc := ⟨.hbm, 698, rfl⟩
abbrev main_call0_v526 : Ref sig .tc := ⟨.hbm, 699, rfl⟩
abbrev main_call0_c_60 : Ref sig .tc := ⟨.hbm, 700, rfl⟩
abbrev main_call0_v527 : Ref sig .tc := ⟨.hbm, 701, rfl⟩
abbrev main_call0_v528 : Ref sig .tc := ⟨.hbm, 702, rfl⟩
abbrev main_call0_v529 : Ref sig .tc := ⟨.hbm, 703, rfl⟩
abbrev main_call0_c_61 : Ref sig .tc := ⟨.hbm, 704, rfl⟩
abbrev main_call0_v530 : Ref sig .tc := ⟨.hbm, 705, rfl⟩
abbrev main_call0_v531 : Ref sig .tc := ⟨.hbm, 706, rfl⟩
abbrev main_call0_c_62 : Ref sig .tc := ⟨.hbm, 707, rfl⟩
abbrev main_call0_v532 : Ref sig .tc := ⟨.hbm, 708, rfl⟩
abbrev main_call0_v533 : Ref sig .tc := ⟨.hbm, 709, rfl⟩
abbrev main_call0_v534 : Ref sig .tc := ⟨.hbm, 710, rfl⟩
abbrev main_call0_v535 : Ref sig .tc := ⟨.hbm, 711, rfl⟩
abbrev main_call0_v536 : Ref sig .tc := ⟨.hbm, 712, rfl⟩
abbrev main_call0_v537 : Ref sig .tc := ⟨.hbm, 713, rfl⟩
abbrev main_call0_c_63 : Ref sig .tc := ⟨.hbm, 714, rfl⟩
abbrev main_call0_v538 : Ref sig .tc := ⟨.hbm, 715, rfl⟩
abbrev main_call0_v539 : Ref sig .tc := ⟨.hbm, 716, rfl⟩
abbrev main_call0_v540 : Ref sig .tc := ⟨.hbm, 717, rfl⟩
abbrev main_call0_c_64 : Ref sig .tc := ⟨.hbm, 718, rfl⟩
abbrev main_call0_v541 : Ref sig .tc := ⟨.hbm, 719, rfl⟩
abbrev main_call0_v542 : Ref sig .tc := ⟨.hbm, 720, rfl⟩
abbrev main_call0_c_65 : Ref sig .tc := ⟨.hbm, 721, rfl⟩
abbrev main_call0_v543 : Ref sig .tc := ⟨.hbm, 722, rfl⟩
abbrev main_call0_v544 : Ref sig .tc := ⟨.hbm, 723, rfl⟩
abbrev main_call0_v545 : Ref sig .tc := ⟨.hbm, 724, rfl⟩
abbrev main_call0_c_66 : Ref sig .tc := ⟨.hbm, 725, rfl⟩
abbrev main_call0_v546 : Ref sig .tc := ⟨.hbm, 726, rfl⟩
abbrev main_call0_v547 : Ref sig .tc := ⟨.hbm, 727, rfl⟩
abbrev main_call0_c_67 : Ref sig .tc := ⟨.hbm, 728, rfl⟩
abbrev main_call0_v548 : Ref sig .tc := ⟨.hbm, 729, rfl⟩
abbrev main_call0_v549 : Ref sig .tc := ⟨.hbm, 730, rfl⟩
abbrev main_call0_v550 : Ref sig .tc := ⟨.hbm, 731, rfl⟩
abbrev main_call0_v551 : Ref sig .tc := ⟨.hbm, 732, rfl⟩
abbrev main_call0_v552 : Ref sig .tc := ⟨.hbm, 733, rfl⟩
abbrev main_call0_v553 : Ref sig .tc := ⟨.hbm, 734, rfl⟩
abbrev main_call0_v554 : Ref sig .tc := ⟨.hbm, 735, rfl⟩
abbrev main_call0_v555 : Ref sig .tc := ⟨.hbm, 736, rfl⟩
abbrev main_call0_v556 : Ref sig .tc := ⟨.hbm, 737, rfl⟩
abbrev main_call0_v557 : Ref sig .tc := ⟨.hbm, 738, rfl⟩
abbrev main_call0_v558 : Ref sig .tc := ⟨.hbm, 739, rfl⟩
abbrev main_call0_v559 : Ref sig .tc := ⟨.hbm, 740, rfl⟩
abbrev main_call0_v560 : Ref sig .tc := ⟨.hbm, 741, rfl⟩
abbrev main_call0_v561 : Ref sig .tc := ⟨.hbm, 742, rfl⟩
abbrev main_call0_v562 : Ref sig .tc := ⟨.hbm, 743, rfl⟩
abbrev main_call0_v563 : Ref sig .tc := ⟨.hbm, 744, rfl⟩
abbrev main_call0_v564 : Ref sig .tc := ⟨.hbm, 745, rfl⟩
abbrev main_call0_v565 : Ref sig .tc := ⟨.hbm, 746, rfl⟩
abbrev main_call0_v566 : Ref sig .tc := ⟨.hbm, 747, rfl⟩
abbrev main_call0_v567 : Ref sig .tc := ⟨.hbm, 748, rfl⟩
abbrev main_call0_v568 : Ref sig .tc := ⟨.hbm, 749, rfl⟩
abbrev main_call0_v569 : Ref sig .tc := ⟨.hbm, 750, rfl⟩
abbrev main_call0_v570 : Ref sig .tc := ⟨.hbm, 751, rfl⟩
abbrev main_call0_v571 : Ref sig .tc := ⟨.hbm, 752, rfl⟩
abbrev main_call0_v572 : Ref sig .tc := ⟨.hbm, 753, rfl⟩
abbrev main_call0_v573 : Ref sig .tc := ⟨.hbm, 754, rfl⟩
abbrev main_call0_v574 : Ref sig .tc := ⟨.hbm, 755, rfl⟩
abbrev main_call0_v575 : Ref sig .tc := ⟨.hbm, 756, rfl⟩
abbrev main_call0_v576 : Ref sig .tc := ⟨.hbm, 757, rfl⟩
abbrev main_call0_v577 : Ref sig .tc := ⟨.hbm, 758, rfl⟩
abbrev main_call0_v578 : Ref sig .tc := ⟨.hbm, 759, rfl⟩
abbrev main_call0_v579 : Ref sig .tc := ⟨.hbm, 760, rfl⟩
abbrev main_call0_v580 : Ref sig .tc := ⟨.hbm, 761, rfl⟩
abbrev main_call0_v581 : Ref sig .tc := ⟨.hbm, 762, rfl⟩
abbrev main_call0_v582 : Ref sig .tc := ⟨.hbm, 763, rfl⟩
abbrev main_call0_v583 : Ref sig .tc := ⟨.hbm, 764, rfl⟩
abbrev main_call0_v584 : Ref sig .tc := ⟨.hbm, 765, rfl⟩
abbrev main_call0_v585 : Ref sig .tc := ⟨.hbm, 766, rfl⟩
abbrev main_call0_v586 : Ref sig .tc := ⟨.hbm, 767, rfl⟩
abbrev main_call0_v587 : Ref sig .tc := ⟨.hbm, 768, rfl⟩
abbrev main_call0_v588 : Ref sig .tc := ⟨.hbm, 769, rfl⟩
abbrev main_call0_v589 : Ref sig .tc := ⟨.hbm, 770, rfl⟩
abbrev main_call0_v590 : Ref sig .tc := ⟨.hbm, 771, rfl⟩
abbrev main_call0_v591 : Ref sig .tc := ⟨.hbm, 772, rfl⟩
abbrev main_call0_v592 : Ref sig .tc := ⟨.hbm, 773, rfl⟩
abbrev main_call0_v593 : Ref sig .tc := ⟨.hbm, 774, rfl⟩
abbrev main_call0_v594 : Ref sig .tc := ⟨.hbm, 775, rfl⟩
abbrev main_call0_v595 : Ref sig .tc := ⟨.hbm, 776, rfl⟩
abbrev main_call0_v596 : Ref sig .tc := ⟨.hbm, 777, rfl⟩
abbrev main_call0_v597 : Ref sig .tc := ⟨.hbm, 778, rfl⟩
abbrev main_call0_v598 : Ref sig .tc := ⟨.hbm, 779, rfl⟩
abbrev main_call0_v599 : Ref sig .tc := ⟨.hbm, 780, rfl⟩
abbrev main_call0_v600 : Ref sig .tc := ⟨.hbm, 781, rfl⟩
abbrev main_call0_v601 : Ref sig .tc := ⟨.hbm, 782, rfl⟩
abbrev main_call0_v602 : Ref sig .tc := ⟨.hbm, 783, rfl⟩
abbrev main_call0_v603 : Ref sig .tc := ⟨.hbm, 784, rfl⟩
abbrev main_call0_v604 : Ref sig .tc := ⟨.hbm, 785, rfl⟩
abbrev main_call0_v605 : Ref sig .tc := ⟨.hbm, 786, rfl⟩
abbrev main_call0_v606 : Ref sig .tc := ⟨.hbm, 787, rfl⟩
abbrev main_call0_v607 : Ref sig .tc := ⟨.hbm, 788, rfl⟩
abbrev main_call0_cst_68 : Ref sig .tc := ⟨.hbm, 789, rfl⟩
abbrev main_call0_v608 : Ref sig .tc := ⟨.hbm, 790, rfl⟩
abbrev main_call0_v609 : Ref sig .tc := ⟨.hbm, 791, rfl⟩
abbrev main_call0_cst_69 : Ref sig .tc := ⟨.hbm, 792, rfl⟩
abbrev main_call0_v610 : Ref sig .tc := ⟨.hbm, 793, rfl⟩
abbrev main_call0_v611 : Ref sig .tc := ⟨.hbm, 794, rfl⟩
abbrev main_call0_cst_70 : Ref sig .tc := ⟨.hbm, 795, rfl⟩
abbrev main_call0_v612 : Ref sig .tc := ⟨.hbm, 796, rfl⟩
abbrev main_call0_v613 : Ref sig .tc := ⟨.hbm, 797, rfl⟩
abbrev main_call0_v614 : Ref sig .tc := ⟨.hbm, 798, rfl⟩
abbrev main_call0_cst_71 : Ref sig .tc := ⟨.hbm, 799, rfl⟩
abbrev main_call0_v615 : Ref sig .tc := ⟨.hbm, 800, rfl⟩
abbrev main_call0_v616 : Ref sig .tc := ⟨.hbm, 801, rfl⟩
abbrev main_call0_v617 : Ref sig .tc := ⟨.hbm, 802, rfl⟩
abbrev main_call0_v618 : Ref sig .tc := ⟨.hbm, 803, rfl⟩
abbrev main_call0_v619 : Ref sig .tc := ⟨.hbm, 804, rfl⟩
abbrev main_call0_v620 : Ref sig .tc := ⟨.hbm, 805, rfl⟩
abbrev main_call0_call10_c : Ref sig .tc := ⟨.hbm, 806, rfl⟩
abbrev main_call0_call10_v0 : Ref sig .tc := ⟨.hbm, 807, rfl⟩
abbrev main_call0_call10_v1 : Ref sig .tc := ⟨.hbm, 808, rfl⟩
abbrev main_call0_call10_c_0 : Ref sig .tc := ⟨.hbm, 809, rfl⟩
abbrev main_call0_call10_v2 : Ref sig .tc := ⟨.hbm, 810, rfl⟩
abbrev main_call0_call10_v3 : Ref sig .tc := ⟨.hbm, 811, rfl⟩
abbrev main_call0_call10_v4 : Ref sig .tc := ⟨.hbm, 812, rfl⟩
abbrev main_call0_call10_v5 : Ref sig .tc := ⟨.hbm, 813, rfl⟩
abbrev main_call0_call10_c_1 : Ref sig .tc := ⟨.hbm, 814, rfl⟩
abbrev main_call0_call10_c_2 : Ref sig .tc := ⟨.hbm, 815, rfl⟩
abbrev main_call0_call10_v6 : Ref sig .tc := ⟨.hbm, 816, rfl⟩
abbrev main_call0_call10_v7 : Ref sig .tc := ⟨.hbm, 817, rfl⟩
abbrev main_call0_call10_v8 : Ref sig .tc := ⟨.hbm, 818, rfl⟩
abbrev main_call0_call10_v9 : Ref sig .tc := ⟨.hbm, 819, rfl⟩
abbrev main_call0_call10_v10 : Ref sig .tc := ⟨.hbm, 820, rfl⟩
abbrev main_call0_call10_v11 : Ref sig .tc := ⟨.hbm, 821, rfl⟩
abbrev main_call0_call10_c_3 : Ref sig .tc := ⟨.hbm, 822, rfl⟩
abbrev main_call0_call10_v12 : Ref sig .tc := ⟨.hbm, 823, rfl⟩
abbrev main_call0_call10_v13 : Ref sig .tc := ⟨.hbm, 824, rfl⟩
abbrev main_call0_call10_cst : Ref sig .tc := ⟨.hbm, 825, rfl⟩
abbrev main_call0_call10_v14 : Ref sig .tc := ⟨.hbm, 826, rfl⟩
abbrev main_call0_v621 : Ref sig .tc := ⟨.hbm, 827, rfl⟩
abbrev main_call0_v622 : Ref sig .tc := ⟨.hbm, 828, rfl⟩
abbrev main_call0_v623 : Ref sig .tc := ⟨.hbm, 829, rfl⟩
abbrev main_call0_v624 : Ref sig .tc := ⟨.hbm, 830, rfl⟩
abbrev main_call0_v625 : Ref sig .tc := ⟨.hbm, 831, rfl⟩
abbrev main_call0_v626 : Ref sig .tc := ⟨.hbm, 832, rfl⟩
abbrev main_call0_v627 : Ref sig .tc := ⟨.hbm, 833, rfl⟩
abbrev main_call0_v628 : Ref sig .tc := ⟨.hbm, 834, rfl⟩
abbrev main_call0_v629 : Ref sig .tc := ⟨.hbm, 835, rfl⟩
abbrev main_call0_v630 : Ref sig .tc := ⟨.hbm, 836, rfl⟩
abbrev main_call0_v631 : Ref sig .tc := ⟨.hbm, 837, rfl⟩
abbrev main_call0_v632 : Ref sig .tc := ⟨.hbm, 838, rfl⟩
abbrev main_call0_v633 : Ref sig .tc := ⟨.hbm, 839, rfl⟩
abbrev main_call0_v634 : Ref sig .tc := ⟨.hbm, 840, rfl⟩
abbrev main_call0_v635 : Ref sig .tc := ⟨.hbm, 841, rfl⟩
abbrev main_call0_v636 : Ref sig .tc := ⟨.hbm, 842, rfl⟩
abbrev main_call0_v637 : Ref sig .tc := ⟨.hbm, 843, rfl⟩
abbrev main_call0_v638 : Ref sig .tc := ⟨.hbm, 844, rfl⟩
abbrev main_call0_v639 : Ref sig .tc := ⟨.hbm, 845, rfl⟩
abbrev main_call0_v640 : Ref sig .tc := ⟨.hbm, 846, rfl⟩
abbrev main_call0_v641 : Ref sig .tc := ⟨.hbm, 847, rfl⟩
abbrev main_call0_v642 : Ref sig .tc := ⟨.hbm, 848, rfl⟩
abbrev main_call0_v643 : Ref sig .tc := ⟨.hbm, 849, rfl⟩
abbrev main_call0_v644 : Ref sig .tc := ⟨.hbm, 850, rfl⟩
abbrev main_call0_v645 : Ref sig .tc := ⟨.hbm, 851, rfl⟩
abbrev main_call0_v646 : Ref sig .tc := ⟨.hbm, 852, rfl⟩
abbrev main_call0_v647 : Ref sig .tc := ⟨.hbm, 853, rfl⟩
abbrev main_call0_v648 : Ref sig .tc := ⟨.hbm, 854, rfl⟩
abbrev main_call0_v649 : Ref sig .tc := ⟨.hbm, 855, rfl⟩
abbrev main_call0_v650 : Ref sig .tc := ⟨.hbm, 856, rfl⟩
abbrev main_call0_v651 : Ref sig .tc := ⟨.hbm, 857, rfl⟩
abbrev main_call0_v652 : Ref sig .tc := ⟨.hbm, 858, rfl⟩
abbrev main_call0_v653 : Ref sig .tc := ⟨.hbm, 859, rfl⟩
abbrev main_call0_v654 : Ref sig .tc := ⟨.hbm, 860, rfl⟩
abbrev main_call0_v655 : Ref sig .tc := ⟨.hbm, 861, rfl⟩
abbrev main_call0_v656 : Ref sig .tc := ⟨.hbm, 862, rfl⟩
abbrev main_call0_v657 : Ref sig .tc := ⟨.hbm, 863, rfl⟩
abbrev main_call0_v658 : Ref sig .tc := ⟨.hbm, 864, rfl⟩
abbrev main_call0_v659 : Ref sig .tc := ⟨.hbm, 865, rfl⟩
abbrev main_call0_v660 : Ref sig .tc := ⟨.hbm, 866, rfl⟩
abbrev main_call0_v661 : Ref sig .tc := ⟨.hbm, 867, rfl⟩
abbrev main_call0_v662 : Ref sig .tc := ⟨.hbm, 868, rfl⟩
abbrev main_call0_v663 : Ref sig .tc := ⟨.hbm, 869, rfl⟩
abbrev main_call0_v664 : Ref sig .tc := ⟨.hbm, 870, rfl⟩
abbrev main_call0_v665 : Ref sig .tc := ⟨.hbm, 871, rfl⟩
abbrev main_call0_v666 : Ref sig .tc := ⟨.hbm, 872, rfl⟩
abbrev main_call0_v667 : Ref sig .tc := ⟨.hbm, 873, rfl⟩
abbrev main_call0_v668 : Ref sig .tc := ⟨.hbm, 874, rfl⟩
abbrev main_call0_v669 : Ref sig .tc := ⟨.hbm, 875, rfl⟩
abbrev main_call0_v670 : Ref sig .tc := ⟨.hbm, 876, rfl⟩
abbrev main_call0_v671 : Ref sig .tc := ⟨.hbm, 877, rfl⟩
abbrev main_call0_v672 : Ref sig .tc := ⟨.hbm, 878, rfl⟩
abbrev main_call0_v673 : Ref sig .tc := ⟨.hbm, 879, rfl⟩
abbrev main_call0_v674 : Ref sig .tc := ⟨.hbm, 880, rfl⟩
abbrev main_call0_v675 : Ref sig .tc := ⟨.hbm, 881, rfl⟩
abbrev main_call0_v676 : Ref sig .tc := ⟨.hbm, 882, rfl⟩
abbrev main_call0_v677 : Ref sig .tc := ⟨.hbm, 883, rfl⟩
abbrev main_call0_v678 : Ref sig .tc := ⟨.hbm, 884, rfl⟩
abbrev main_call0_v679 : Ref sig .tc := ⟨.hbm, 885, rfl⟩
abbrev main_call0_v680 : Ref sig .tc := ⟨.hbm, 886, rfl⟩
abbrev main_call0_v681 : Ref sig .tc := ⟨.hbm, 887, rfl⟩
abbrev main_call0_v682 : Ref sig .tc := ⟨.hbm, 888, rfl⟩
abbrev main_call0_v683 : Ref sig .tc := ⟨.hbm, 889, rfl⟩
abbrev main_call0_v684 : Ref sig .tc := ⟨.hbm, 890, rfl⟩
abbrev main_call0_v685 : Ref sig .tc := ⟨.hbm, 891, rfl⟩
abbrev main_call0_v686 : Ref sig .tc := ⟨.hbm, 892, rfl⟩
abbrev main_call0_v687 : Ref sig .tc := ⟨.hbm, 893, rfl⟩
abbrev main_call0_v688 : Ref sig .tc := ⟨.hbm, 894, rfl⟩
abbrev main_call0_v689 : Ref sig .tc := ⟨.hbm, 895, rfl⟩
abbrev main_call0_v690 : Ref sig .tc := ⟨.hbm, 896, rfl⟩
abbrev main_call0_v691 : Ref sig .tc := ⟨.hbm, 897, rfl⟩
abbrev main_call0_v692 : Ref sig .tc := ⟨.hbm, 898, rfl⟩
abbrev main_call0_v693 : Ref sig .tc := ⟨.hbm, 899, rfl⟩
abbrev main_call0_v694 : Ref sig .tc := ⟨.hbm, 900, rfl⟩
abbrev main_call0_v695 : Ref sig .tc := ⟨.hbm, 901, rfl⟩
abbrev main_call0_v696 : Ref sig .tc := ⟨.hbm, 902, rfl⟩
abbrev main_call0_v697 : Ref sig .tc := ⟨.hbm, 903, rfl⟩
abbrev main_call0_v698 : Ref sig .tc := ⟨.hbm, 904, rfl⟩
abbrev main_call0_v699 : Ref sig .tc := ⟨.hbm, 905, rfl⟩
abbrev main_call0_v700 : Ref sig .tc := ⟨.hbm, 906, rfl⟩
abbrev main_call0_v701 : Ref sig .tc := ⟨.hbm, 907, rfl⟩
abbrev main_call0_v702 : Ref sig .tc := ⟨.hbm, 908, rfl⟩
abbrev main_call0_v703 : Ref sig .tc := ⟨.hbm, 909, rfl⟩
abbrev main_call0_v704 : Ref sig .tc := ⟨.hbm, 910, rfl⟩
abbrev main_call0_v705 : Ref sig .tc := ⟨.hbm, 911, rfl⟩
abbrev main_call0_v706 : Ref sig .tc := ⟨.hbm, 912, rfl⟩
abbrev main_call0_v707 : Ref sig .tc := ⟨.hbm, 913, rfl⟩
abbrev main_call0_v708 : Ref sig .tc := ⟨.hbm, 914, rfl⟩
abbrev main_call0_v709 : Ref sig .tc := ⟨.hbm, 915, rfl⟩
abbrev main_call0_v710 : Ref sig .tc := ⟨.hbm, 916, rfl⟩
abbrev main_call0_v711 : Ref sig .tc := ⟨.hbm, 917, rfl⟩
abbrev main_call0_v712 : Ref sig .tc := ⟨.hbm, 918, rfl⟩
abbrev main_call0_v713 : Ref sig .tc := ⟨.hbm, 919, rfl⟩
abbrev main_call0_v714 : Ref sig .tc := ⟨.hbm, 920, rfl⟩
abbrev main_call0_v715 : Ref sig .tc := ⟨.hbm, 921, rfl⟩
abbrev main_call0_v716 : Ref sig .tc := ⟨.hbm, 922, rfl⟩
abbrev main_call0_v717 : Ref sig .tc := ⟨.hbm, 923, rfl⟩
abbrev main_call0_v718 : Ref sig .tc := ⟨.hbm, 924, rfl⟩
abbrev main_call0_v719 : Ref sig .tc := ⟨.hbm, 925, rfl⟩
abbrev main_call0_v720 : Ref sig .tc := ⟨.hbm, 926, rfl⟩
abbrev main_call0_v721 : Ref sig .tc := ⟨.hbm, 927, rfl⟩
abbrev main_call0_v722 : Ref sig .tc := ⟨.hbm, 928, rfl⟩
abbrev main_call0_v723 : Ref sig .tc := ⟨.hbm, 929, rfl⟩
abbrev main_call0_v724 : Ref sig .tc := ⟨.hbm, 930, rfl⟩
abbrev main_call0_v725 : Ref sig .tc := ⟨.hbm, 931, rfl⟩
abbrev main_call0_v726 : Ref sig .tc := ⟨.hbm, 932, rfl⟩
abbrev main_call0_v727 : Ref sig .tc := ⟨.hbm, 933, rfl⟩
abbrev main_call0_v728 : Ref sig .tc := ⟨.hbm, 934, rfl⟩
abbrev main_call0_v729 : Ref sig .tc := ⟨.hbm, 935, rfl⟩
abbrev main_call0_v730 : Ref sig .tc := ⟨.hbm, 936, rfl⟩
abbrev main_call0_v731 : Ref sig .tc := ⟨.hbm, 937, rfl⟩
abbrev main_call0_v732 : Ref sig .tc := ⟨.hbm, 938, rfl⟩
abbrev main_call0_v733 : Ref sig .tc := ⟨.hbm, 939, rfl⟩
abbrev main_call0_v734 : Ref sig .tc := ⟨.hbm, 940, rfl⟩
abbrev main_call0_v735 : Ref sig .tc := ⟨.hbm, 941, rfl⟩
abbrev main_call0_v736 : Ref sig .tc := ⟨.hbm, 942, rfl⟩
abbrev main_call0_v737 : Ref sig .tc := ⟨.hbm, 943, rfl⟩
abbrev main_call0_v738 : Ref sig .tc := ⟨.hbm, 944, rfl⟩
abbrev main_call0_v739 : Ref sig .tc := ⟨.hbm, 945, rfl⟩
abbrev main_call0_v740 : Ref sig .tc := ⟨.hbm, 946, rfl⟩
abbrev main_call0_v741 : Ref sig .tc := ⟨.hbm, 947, rfl⟩
abbrev main_call0_v742 : Ref sig .tc := ⟨.hbm, 948, rfl⟩
abbrev main_call0_v743 : Ref sig .tc := ⟨.hbm, 949, rfl⟩
abbrev main_call0_v744 : Ref sig .tc := ⟨.hbm, 950, rfl⟩
abbrev main_call0_v745 : Ref sig .tc := ⟨.hbm, 951, rfl⟩
abbrev main_call0_v746 : Ref sig .tc := ⟨.hbm, 952, rfl⟩
abbrev main_call0_v747 : Ref sig .tc := ⟨.hbm, 953, rfl⟩
abbrev main_call0_v748 : Ref sig .tc := ⟨.hbm, 954, rfl⟩
abbrev main_call0_v749 : Ref sig .tc := ⟨.hbm, 955, rfl⟩
abbrev main_call0_v750 : Ref sig .tc := ⟨.hbm, 956, rfl⟩
abbrev main_call0_v751 : Ref sig .tc := ⟨.hbm, 957, rfl⟩
abbrev main_call0_v752 : Ref sig .tc := ⟨.hbm, 958, rfl⟩
abbrev main_call0_v753 : Ref sig .tc := ⟨.hbm, 959, rfl⟩
abbrev main_call0_v754 : Ref sig .tc := ⟨.hbm, 960, rfl⟩
abbrev main_call0_v755 : Ref sig .tc := ⟨.hbm, 961, rfl⟩
abbrev main_call0_v756 : Ref sig .tc := ⟨.hbm, 962, rfl⟩
abbrev main_call0_v757 : Ref sig .tc := ⟨.hbm, 963, rfl⟩
abbrev main_call0_v758 : Ref sig .tc := ⟨.hbm, 964, rfl⟩
abbrev main_call0_v759 : Ref sig .tc := ⟨.hbm, 965, rfl⟩
abbrev main_call0_v760 : Ref sig .tc := ⟨.hbm, 966, rfl⟩
abbrev main_call0_v761 : Ref sig .tc := ⟨.hbm, 967, rfl⟩
abbrev main_call0_v762 : Ref sig .tc := ⟨.hbm, 968, rfl⟩
abbrev main_call0_v763 : Ref sig .tc := ⟨.hbm, 969, rfl⟩
abbrev main_call0_v764 : Ref sig .tc := ⟨.hbm, 970, rfl⟩
abbrev main_call0_v765 : Ref sig .tc := ⟨.hbm, 971, rfl⟩
abbrev main_call0_v766 : Ref sig .tc := ⟨.hbm, 972, rfl⟩
abbrev main_call0_c_72 : Ref sig .tc := ⟨.hbm, 973, rfl⟩
abbrev main_call0_v767 : Ref sig .tc := ⟨.hbm, 974, rfl⟩
abbrev main_call0_v768 : Ref sig .tc := ⟨.hbm, 975, rfl⟩
abbrev main_call0_c_73 : Ref sig .tc := ⟨.hbm, 976, rfl⟩
abbrev main_call0_v769 : Ref sig .tc := ⟨.hbm, 977, rfl⟩
abbrev main_call0_v770 : Ref sig .tc := ⟨.hbm, 978, rfl⟩
abbrev main_call0_v771 : Ref sig .tc := ⟨.hbm, 979, rfl⟩
abbrev main_call0_v772 : Ref sig .tc := ⟨.hbm, 980, rfl⟩
abbrev main_call0_v773 : Ref sig .tc := ⟨.hbm, 981, rfl⟩
abbrev main_call0_v774 : Ref sig .tc := ⟨.hbm, 982, rfl⟩
abbrev main_call0_v775 : Ref sig .tc := ⟨.hbm, 983, rfl⟩
abbrev main_call0_v776 : Ref sig .tc := ⟨.hbm, 984, rfl⟩
abbrev main_call0_v777 : Ref sig .tc := ⟨.hbm, 985, rfl⟩
abbrev main_call0_c_74 : Ref sig .tc := ⟨.hbm, 986, rfl⟩
abbrev main_call0_v778 : Ref sig .tc := ⟨.hbm, 987, rfl⟩
abbrev main_call0_v779 : Ref sig .tc := ⟨.hbm, 988, rfl⟩
abbrev main_call0_c_75 : Ref sig .tc := ⟨.hbm, 989, rfl⟩
abbrev main_call0_v780 : Ref sig .tc := ⟨.hbm, 990, rfl⟩
abbrev main_call0_v781 : Ref sig .tc := ⟨.hbm, 991, rfl⟩
abbrev main_call0_v782 : Ref sig .tc := ⟨.hbm, 992, rfl⟩
abbrev main_call0_v783 : Ref sig .tc := ⟨.hbm, 993, rfl⟩
abbrev main_call0_v784 : Ref sig .tc := ⟨.hbm, 994, rfl⟩
abbrev main_call0_v785 : Ref sig .tc := ⟨.hbm, 995, rfl⟩
abbrev main_call0_v786 : Ref sig .tc := ⟨.hbm, 996, rfl⟩
abbrev main_call0_v787 : Ref sig .tc := ⟨.hbm, 997, rfl⟩
abbrev main_call0_cst_76 : Ref sig .tc := ⟨.hbm, 998, rfl⟩
abbrev main_call0_v788 : Ref sig .tc := ⟨.hbm, 999, rfl⟩
abbrev main_call0_cst_77 : Ref sig .tc := ⟨.hbm, 1000, rfl⟩
abbrev main_call0_v789 : Ref sig .tc := ⟨.hbm, 1001, rfl⟩
abbrev main_call0_cst_78 : Ref sig .tc := ⟨.hbm, 1002, rfl⟩
abbrev main_call0_v790 : Ref sig .tc := ⟨.hbm, 1003, rfl⟩
abbrev main_call0_v791 : Ref sig .tc := ⟨.hbm, 1004, rfl⟩
abbrev main_call0_v792 : Ref sig .tc := ⟨.hbm, 1005, rfl⟩
abbrev main_call0_cst_79 : Ref sig .tc := ⟨.hbm, 1006, rfl⟩
abbrev main_call0_v793 : Ref sig .tc := ⟨.hbm, 1007, rfl⟩
abbrev main_call0_cst_80 : Ref sig .tc := ⟨.hbm, 1008, rfl⟩
abbrev main_call0_v794 : Ref sig .tc := ⟨.hbm, 1009, rfl⟩
abbrev main_v0_1 : Ref sig .tc := ⟨.hbm, 1010, rfl⟩
abbrev main_call0_v796 : Ref sig .tc := ⟨.hbm, 1011, rfl⟩
abbrev main_call0_v797 : Ref sig .tc := ⟨.hbm, 1012, rfl⟩
abbrev main_call0_v798 : Ref sig .tc := ⟨.hbm, 1013, rfl⟩
abbrev main_call0_v799 : Ref sig .tc := ⟨.hbm, 1014, rfl⟩
abbrev main_v0_0 : Ref sig .tc := ⟨.hbm, 1015, rfl⟩

abbrev nD : Nat := 1
abbrev τ : Topo := Topo.v7x

variable {F : FTy → Type} [FloatOps F]
-- ==== Proof.KernelRun.lean ====
/-
  The kernel program's run: every unscoped buffer ends at the contents `W5`, the fold of the host's operations and of the two
  launches over the launch contents. The arguments are read off it as well.
-/
module

public import proofs.«01_k».proof.Proof.Gen.KernelIdeal.Frame

@[expose] public section

set_option maxRecDepth 16384

noncomputable section

namespace Cert.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program runs to its end from any memory, every unscoped buffer at `W5` and every counter at zero. -/
theorem kernel_run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.Vq

end
-- ==== Proof.Lockstep.lean ====
/-
  Two lines of host operations, of two programs with buffers of their own, that do the same thing operation for
  operation. `Agree` says that two buffers hold the same array, `Twin` that two operations turn agreeing operands into
  agreeing results, `Lock` pairs the operations of two lines (the second may have some of its own in between), and
  `Lock.after` concludes that the paired results agree after the lines. That no later operation overwrites a paired
  buffer is read off the numbers of the buffers, which increase along a printed program (`Fits`).
-/
module

public import Idealize.ShloMosaic.Lib.StableHlo.Run

@[expose] public section

noncomputable section

namespace Cert.Vq

open Idealize.ShloMosaic Idealize.ShloMosaic.StableHlo

variable {τ₁ τ₂ : Topo} {sig₁ sig₂ : RefSig} {Val : EltTy → Type}

/-- The two buffers of the pair hold one and the same array. -/
def Agree (V₁ : Valuation τ₁ sig₁ Val) (V₂ : Valuation τ₂ sig₂ Val) (p : Ref sig₁ .tc × Ref sig₂ .tc) : Prop :=
  HEq (V₁ (Proc.devRef .tc p.1)) (V₂ (Proc.devRef .tc p.2))

/-- What a typed reference's buffer holds, at the value's own type. -/
def val {τ : Topo} {sig : RefSig} {T : BufTy} (x : TRef sig T) (V : Valuation τ sig Val) : T.Contents Val :=
  x.ofBuf (V (Proc.devRef .tc x.ref))

/-- Agreement of two buffers of one type, read at that type. -/
theorem Agree.val_eq {T : BufTy} {V₁ : Valuation τ₁ sig₁ Val} {V₂ : Valuation τ₂ sig₂ Val} {x : TRef sig₁ T} {y : TRef sig₂ T}
    (h : Agree V₁ V₂ (x.ref, y.ref)) : val x V₁ = val y V₂ :=
  eq_of_heq ((cast_heq _ _).trans (HEq.trans h (cast_heq _ _).symm))

/-- And back: equal arrays at the common type are agreement. -/
theorem Agree.of_val_eq {T : BufTy} {V₁ : Valuation τ₁ sig₁ Val} {V₂ : Valuation τ₂ sig₂ Val} {x : TRef sig₁ T} {y : TRef sig₂ T}
    (h : val x V₁ = val y V₂) : Agree V₁ V₂ (x.ref, y.ref) :=
  ((cast_heq _ _).symm.trans (heq_of_eq h)).trans (cast_heq _ _)

/-! ### What one operation leaves at its result, read at the value's type -/

section Results

variable {τ : Topo} {sig : RefSig} {T Ta Tb Tc Te : BufTy}

theorem val_toBuf (y : TRef sig T) (v : T.Contents Val) : y.ofBuf (y.toBuf v) = v :=
  eq_of_heq ((cast_heq _ _).trans (cast_heq _ _))

theorem val_nullary (y : TRef sig T) (v : T.Contents Val) (V : Valuation τ sig Val) :
    val y ((TRef.nullary y v : HloOp τ sig Val).result V) = v := by
  unfold val; rw [nullary_result]; exact val_toBuf y v

theorem val_unary (x : TRef sig Ta) (y : TRef sig T) (f : Ta.Contents Val → T.Contents Val) (V : Valuation τ sig Val) :
    val y ((TRef.unary x y f : HloOp τ sig Val).result V) = f (val x V) := by
  unfold val; rw [unary_result]; exact val_toBuf y _

theorem val_binary (a : TRef sig Ta) (b : TRef sig Tb) (y : TRef sig T) (f : Ta.Contents Val → Tb.Contents Val → T.Contents Val)
    (V : Valuation τ sig Val) : val y ((TRef.binary a b y f : HloOp τ sig Val).result V) = f (val a V) (val b V) := by
  unfold val; rw [binary_result]; exact val_toBuf y _

theorem val_ternary (c : TRef sig Tc) (a : TRef sig Ta) (b : TRef sig Tb) (y : TRef sig T)
    (f : Tc.Contents Val → Ta.Contents Val → Tb.Contents Val → T.Contents Val) (V : Valuation τ sig Val) :
    val y ((TRef.ternary c a b y f : HloOp τ sig Val).result V) = f (val c V) (val a V) (val b V) := by
  unfold val; rw [ternary_result]; exact val_toBuf y _

theorem val_quaternary (a : TRef sig Ta) (b : TRef sig Tb) (c : TRef sig Tc) (e : TRef sig Te) (y : TRef sig T)
    (f : Ta.Contents Val → Tb.Contents Val → Tc.Contents Val → Te.Contents Val → T.Contents Val) (V : Valuation τ sig Val) :
    val y ((TRef.quaternary a b c e y f : HloOp τ sig Val).result V) = f (val a V) (val b V) (val c V) (val e V) := by
  unfold val; rw [quaternary_result]; exact val_toBuf y _

theorem val_nary {n : Nat} {Ts : Fin n → BufTy} (xs : (k : Fin n) → TRef sig (Ts k)) (y : TRef sig T)
    (f : ((k : Fin n) → (Ts k).Contents Val) → T.Contents Val) (V : Valuation τ sig Val) :
    val y ((TRef.nary xs y f : HloOp τ sig Val).result V) = f fun k => val (xs k) V := by
  unfold val; rw [nary_result]; exact val_toBuf y _

theorem val_reshape (x : TRef sig Ta) (y : TRef sig T) (he : Ta.elt = T.elt) (hn : Ta.shape.ShapeCasts T.shape)
    (V : Valuation τ sig Val) :
    val y ((TRef.reshape x y he hn : HloOp τ sig Val).result V)
      = (fun i => he ▸ shapeCast T.shape (val x V) hn i : T.Contents Val) := by
  obtain ⟨x, hx, -, -⟩ := x
  obtain ⟨y, hy, -, -⟩ := y
  subst hx; subst hy
  unfold val; rw [reshape_result]; rfl

end Results

/-! ### Twin operations -/

/-- The two operations write one buffer each, `out`, and leave the same array there wherever the pairs `ins` agree. -/
structure Twin (o₁ : HloOp τ₁ sig₁ Val) (o₂ : HloOp τ₂ sig₂ Val) (ins : List (Ref sig₁ .tc × Ref sig₂ .tc))
    (out : Ref sig₁ .tc × Ref sig₂ .tc) : Prop where
  left : o₁.writes = {Proc.devRef .tc out.1}
  right : o₂.writes = {Proc.devRef .tc out.2}
  agree : ∀ V₁ V₂, (∀ p ∈ ins, Agree V₁ V₂ p) → Agree (o₁.result V₁) (o₂.result V₂) out

section Twins

variable {T Ta Tb Tc Te : BufTy}

theorem Twin.nullary (y₁ : TRef sig₁ T) (y₂ : TRef sig₂ T) (v w : T.Contents Val) (h : w = v) :
    Twin (TRef.nullary y₁ v : HloOp τ₁ sig₁ Val) (TRef.nullary y₂ w : HloOp τ₂ sig₂ Val) [] (y₁.ref, y₂.ref) :=
  ⟨rfl, rfl, fun V₁ V₂ _ => .of_val_eq (by rw [val_nullary, val_nullary, h])⟩

theorem Twin.unary (x₁ : TRef sig₁ Ta) (y₁ : TRef sig₁ T) (x₂ : TRef sig₂ Ta) (y₂ : TRef sig₂ T)
    (f g : Ta.Contents Val → T.Contents Val) (h : g = f) :
    Twin (TRef.unary x₁ y₁ f : HloOp τ₁ sig₁ Val) (TRef.unary x₂ y₂ g : HloOp τ₂ sig₂ Val) [(x₁.ref, x₂.ref)]
      (y₁.ref, y₂.ref) :=
  ⟨rfl, rfl, fun V₁ V₂ hin => .of_val_eq (by rw [val_unary, val_unary, h, (hin (x₁.ref, x₂.ref) (by simp)).val_eq])⟩

theorem Twin.binary (a₁ : TRef sig₁ Ta) (b₁ : TRef sig₁ Tb) (y₁ : TRef sig₁ T) (a₂ : TRef sig₂ Ta) (b₂ : TRef sig₂ Tb)
    (y₂ : TRef sig₂ T) (f g : Ta.Contents Val → Tb.Contents Val → T.Contents Val) (h : g = f) :
    Twin (TRef.binary a₁ b₁ y₁ f : HloOp τ₁ sig₁ Val) (TRef.binary a₂ b₂ y₂ g : HloOp τ₂ sig₂ Val)
      [(a₁.ref, a₂.ref), (b₁.ref, b₂.ref)] (y₁.ref, y₂.ref) :=
  ⟨rfl, rfl, fun V₁ V₂ hin => .of_val_eq (by
    rw [val_binary, val_binary, h, (hin (a₁.ref, a₂.ref) (by simp)).val_eq, (hin (b₁.ref, b₂.ref) (by simp)).val_eq])⟩

theorem Twin.ternary (a₁ : TRef sig₁ Ta) (b₁ : TRef sig₁ Tb) (c₁ : TRef sig₁ Tc) (y₁ : TRef sig₁ T) (a₂ : TRef sig₂ Ta)
    (b₂ : TRef sig₂ Tb) (c₂ : TRef sig₂ Tc) (y₂ : TRef sig₂ T)
    (f g : Ta.Contents Val → Tb.Contents Val → Tc.Contents Val → T.Contents Val) (h : g = f) :
    Twin (TRef.ternary a₁ b₁ c₁ y₁ f : HloOp τ₁ sig₁ Val) (TRef.ternary a₂ b₂ c₂ y₂ g : HloOp τ₂ sig₂ Val)
      [(a₁.ref, a₂.ref), (b₁.ref, b₂.ref), (c₁.ref, c₂.ref)] (y₁.ref, y₂.ref) :=
  ⟨rfl, rfl, fun V₁ V₂ hin => .of_val_eq (by
    rw [val_ternary, val_ternary, h, (hin (a₁.ref, a₂.ref) (by simp)).val_eq, (hin (b₁.ref, b₂.ref) (by simp)).val_eq,
      (hin (c₁.ref, c₂.ref) (by simp)).val_eq])⟩

theorem Twin.quaternary (a₁ : TRef sig₁ Ta) (b₁ : TRef sig₁ Tb) (c₁ : TRef sig₁ Tc) (e₁ : TRef sig₁ Te) (y₁ : TRef sig₁ T)
    (a₂ : TRef sig₂ Ta) (b₂ : TRef sig₂ Tb) (c₂ : TRef sig₂ Tc) (e₂ : TRef sig₂ Te) (y₂ : TRef sig₂ T)
    (f g : Ta.Contents Val → Tb.Contents Val → Tc.Contents Val → Te.Contents Val → T.Contents Val) (h : g = f) :
    Twin (TRef.quaternary a₁ b₁ c₁ e₁ y₁ f : HloOp τ₁ sig₁ Val) (TRef.quaternary a₂ b₂ c₂ e₂ y₂ g : HloOp τ₂ sig₂ Val)
      [(a₁.ref, a₂.ref), (b₁.ref, b₂.ref), (c₁.ref, c₂.ref), (e₁.ref, e₂.ref)] (y₁.ref, y₂.ref) :=
  ⟨rfl, rfl, fun V₁ V₂ hin => .of_val_eq (by
    rw [val_quaternary, val_quaternary, h, (hin (a₁.ref, a₂.ref) (by simp)).val_eq,
      (hin (b₁.ref, b₂.ref) (by simp)).val_eq, (hin (c₁.ref, c₂.ref) (by simp)).val_eq,
      (hin (e₁.ref, e₂.ref) (by simp)).val_eq])⟩

theorem Twin.nary {n : Nat} {Ts : Fin n → BufTy} (xs₁ : (k : Fin n) → TRef sig₁ (Ts k)) (y₁ : TRef sig₁ T)
    (xs₂ : (k : Fin n) → TRef sig₂ (Ts k)) (y₂ : TRef sig₂ T) (f g : ((k : Fin n) → (Ts k).Contents Val) → T.Contents Val)
    (h : g = f) :
    Twin (TRef.nary xs₁ y₁ f : HloOp τ₁ sig₁ Val) (TRef.nary xs₂ y₂ g : HloOp τ₂ sig₂ Val)
      (List.ofFn fun k => ((xs₁ k).ref, (xs₂ k).ref)) (y₁.ref, y₂.ref) :=
  ⟨rfl, rfl, fun V₁ V₂ hin => .of_val_eq (by
    rw [val_nary, val_nary, h]
    exact congrArg f (funext fun k => (hin ((xs₁ k).ref, (xs₂ k).ref) (List.mem_ofFn.mpr ⟨k, rfl⟩)).val_eq))⟩

theorem Twin.reshape (x₁ : TRef sig₁ Ta) (y₁ : TRef sig₁ T) (x₂ : TRef sig₂ Ta) (y₂ : TRef sig₂ T)
    (he he' : Ta.elt = T.elt) (hn hn' : Ta.shape.ShapeCasts T.shape) :
    Twin (TRef.reshape x₁ y₁ he hn : HloOp τ₁ sig₁ Val) (TRef.reshape x₂ y₂ he' hn' : HloOp τ₂ sig₂ Val) [(x₁.ref, x₂.ref)]
      (y₁.ref, y₂.ref) :=
  ⟨rfl, rfl, fun V₁ V₂ hin => .of_val_eq (by rw [val_reshape, val_reshape, (hin (x₁.ref, x₂.ref) (by simp)).val_eq])⟩

end Twins

/-! ### Paired lines -/

/-- One step of two paired lines: twin operations with their operands and results, or an operation of the second line
    alone. -/
inductive Entry (sig₁ sig₂ : RefSig) where
  | both (ins : List (Ref sig₁ .tc × Ref sig₂ .tc)) (out : Ref sig₁ .tc × Ref sig₂ .tc)
  | alone (out : Ref sig₂ .tc)

/-- The beginning of the first line pairs with the beginning of the second, and `r₁`, `r₂` are what follows there. -/
inductive Lock : List (HloOp τ₁ sig₁ Val) → List (HloOp τ₂ sig₂ Val) → List (HloOp τ₁ sig₁ Val) → List (HloOp τ₂ sig₂ Val) →
    List (Entry sig₁ sig₂) → Prop
  | done (r₁ : List (HloOp τ₁ sig₁ Val)) (r₂ : List (HloOp τ₂ sig₂ Val)) : Lock r₁ r₂ r₁ r₂ []
  | both {o₁ : HloOp τ₁ sig₁ Val} {o₂ : HloOp τ₂ sig₂ Val} {ins : List (Ref sig₁ .tc × Ref sig₂ .tc)}
      {out : Ref sig₁ .tc × Ref sig₂ .tc} {l₁ r₁ : List (HloOp τ₁ sig₁ Val)} {l₂ r₂ : List (HloOp τ₂ sig₂ Val)}
      {E : List (Entry sig₁ sig₂)} (t : Twin o₁ o₂ ins out) (h : Lock l₁ l₂ r₁ r₂ E) :
      Lock (o₁ :: l₁) (o₂ :: l₂) r₁ r₂ (.both ins out :: E)
  | alone {o₂ : HloOp τ₂ sig₂ Val} {out : Ref sig₂ .tc} {l₁ r₁ : List (HloOp τ₁ sig₁ Val)}
      {l₂ r₂ : List (HloOp τ₂ sig₂ Val)} {E : List (Entry sig₁ sig₂)} (w : o₂.writes = {Proc.devRef .tc out})
      (h : Lock l₁ l₂ r₁ r₂ E) : Lock l₁ (o₂ :: l₂) r₁ r₂ (.alone out :: E)

/-- A buffer in the memory that holds tensor values. -/
def inHbm {sig : RefSig} (r : Ref sig .tc) : Bool := decide (r.space = .hbm)

/-- A buffer's number in its memory. -/
def num {sig : RefSig} (r : Ref sig .tc) : Nat := r.idx.val

theorem eq_of_num {sig : RefSig} {r s : Ref sig .tc} (hr : inHbm r = true) (hs : inHbm s = true) (h : num r = num s) : r = s := by
  obtain ⟨sr, ir, _⟩ := r
  obtain ⟨ss, is, _⟩ := s
  have hr := of_decide_eq_true hr
  have hs := of_decide_eq_true hs
  dsimp only at hr hs
  subst hr; subst hs
  have : ir = is := Fin.ext h
  subst this
  rfl

/-- Whether the pair `p` is the pair `q`, by numbers. -/
def samePair (p q : Ref sig₁ .tc × Ref sig₂ .tc) : Bool := Nat.beq (num p.1) (num q.1) && Nat.beq (num p.2) (num q.2)

/-- The pairs that agree after the steps `E`, when the pairs `P` agree before. -/
def grow (P : List (Ref sig₁ .tc × Ref sig₂ .tc)) : List (Entry sig₁ sig₂) → List (Ref sig₁ .tc × Ref sig₂ .tc)
  | [] => P
  | .both _ out :: E => grow (out :: P) E
  | .alone _ :: E => grow P E

/-- The steps read only pairs already known to agree, and write upwards from the numbers `b₁` and `b₂`. -/
def Fits (P : List (Ref sig₁ .tc × Ref sig₂ .tc)) (b₁ b₂ : Nat) : List (Entry sig₁ sig₂) → Bool
  | [] => true
  | .both ins out :: E =>
    ins.all (fun p => inHbm p.1 && (inHbm p.2 && P.any (samePair p))) && (inHbm out.1 && (inHbm out.2 &&
      (Nat.ble b₁ (num out.1) && (Nat.ble b₂ (num out.2) && Fits (out :: P) (num out.1 + 1) (num out.2 + 1) E))))
  | .alone w :: E => inHbm w && (Nat.ble b₂ (num w) && Fits P b₁ (num w + 1) E)

/-- Every pair of `P` lies below the numbers `b₁` and `b₂`. -/
def Below (P : List (Ref sig₁ .tc × Ref sig₂ .tc)) (b₁ b₂ : Nat) : Prop :=
  ∀ p ∈ P, (inHbm p.1 = true ∧ inHbm p.2 = true) ∧ num p.1 < b₁ ∧ num p.2 < b₂

theorem Below.mono {P : List (Ref sig₁ .tc × Ref sig₂ .tc)} {b₁ b₂ c₁ c₂ : Nat} (h : Below P b₁ b₂) (h₁ : b₁ ≤ c₁) (h₂ : b₂ ≤ c₂) :
    Below P c₁ c₂ := fun p hp => ⟨(h p hp).1, lt_of_lt_of_le (h p hp).2.1 h₁, lt_of_lt_of_le (h p hp).2.2 h₂⟩

/-- An operation leaves a buffer of another number as it was. -/
theorem result_other {τ : Topo} {sig : RefSig} (o : HloOp τ sig Val) {w r : Ref sig .tc} (hw : o.writes = {Proc.devRef .tc w})
    (h : num r ≠ num w) (V : Valuation τ sig Val) : o.result V (Proc.devRef .tc r) = V (Proc.devRef .tc r) :=
  result_of_writes_ne o V w r hw fun e => h (congrArg num e)

/-- PAIRED LINES KEEP AGREEMENT: where the pairs `P` agree before, the pairs `grow P E` agree after the paired beginnings,
    from whose contents the two lines go on with `r₁` and `r₂`. -/
theorem Lock.after {l₁ r₁ : List (HloOp τ₁ sig₁ Val)} {l₂ r₂ : List (HloOp τ₂ sig₂ Val)} {E : List (Entry sig₁ sig₂)}
    (h : Lock l₁ l₂ r₁ r₂ E) : ∀ (P : List (Ref sig₁ .tc × Ref sig₂ .tc)) (b₁ b₂ : Nat), Fits P b₁ b₂ E = true → Below P b₁ b₂ →
    ∀ (V₁ : Valuation τ₁ sig₁ Val) (V₂ : Valuation τ₂ sig₂ Val), (∀ p ∈ P, Agree V₁ V₂ p) →
      ∃ (U₁ : Valuation τ₁ sig₁ Val) (U₂ : Valuation τ₂ sig₂ Val), StableHlo.after l₁ V₁ = StableHlo.after r₁ U₁
        ∧ StableHlo.after l₂ V₂ = StableHlo.after r₂ U₂ ∧ ∀ p ∈ grow P E, Agree U₁ U₂ p := by
  induction h with
  | done r₁ r₂ => intro P _ _ _ _ V₁ V₂ hP; exact ⟨V₁, V₂, rfl, rfl, hP⟩
  | @both o₁ o₂ ins out l₁ r₁ l₂ r₂ E t _ ih =>
    intro P b₁ b₂ hf hb V₁ V₂ hP
    simp only [Fits, Bool.and_eq_true, List.all_eq_true, Nat.ble_eq] at hf
    obtain ⟨hin, ho₁, ho₂, h₁, h₂, hf⟩ := hf
    refine ih (out :: P) _ _ hf ?_ (o₁.result V₁) (o₂.result V₂) ?_
    · intro p hp
      rcases List.mem_cons.mp hp with rfl | hp
      · exact ⟨⟨ho₁, ho₂⟩, Nat.lt_succ_self _, Nat.lt_succ_self _⟩
      · exact (hb.mono (h₁.trans (Nat.le_succ _)) (h₂.trans (Nat.le_succ _))) p hp
    · intro p hp
      rcases List.mem_cons.mp hp with rfl | hp
      · refine t.agree V₁ V₂ fun q hq => ?_
        obtain ⟨hq₁, hq₂, hany⟩ := hin q hq
        obtain ⟨s, hs, he⟩ := List.any_eq_true.mp hany
        simp only [samePair, Bool.and_eq_true, Nat.beq_eq] at he
        have e : q = s := Prod.ext (eq_of_num hq₁ (hb s hs).1.1 he.1) (eq_of_num hq₂ (hb s hs).1.2 he.2)
        exact e ▸ hP s hs
      · have hlt := (hb p hp).2
        unfold Agree
        rw [result_other o₁ t.left (by omega) V₁, result_other o₂ t.right (by omega) V₂]
        exact hP p hp
  | @alone o₂ out l₁ r₁ l₂ r₂ E w _ ih =>
    intro P b₁ b₂ hf hb V₁ V₂ hP
    simp only [Fits, Bool.and_eq_true, Nat.ble_eq] at hf
    obtain ⟨_, h₂, hf⟩ := hf
    refine ih P _ _ hf (hb.mono le_rfl (h₂.trans (Nat.le_succ _))) V₁ (o₂.result V₂) fun p hp => ?_
    have hlt := (hb p hp).2
    unfold Agree
    rw [result_other o₂ w (by omega) V₂]
    exact hP p hp

/-! ### What the operations of a line write -/

/-- `W` names what the operations of a line write, in order; they touch buffers of the TensorCore alone and allocate none. -/
inductive Plain {τ : Topo} {sig : RefSig} : List (HloOp τ sig Val) → List (Ref sig .tc) → Prop
  | nil : Plain [] []
  | cons {o : HloOp τ sig Val} {w : Ref sig .tc} {ops : List (HloOp τ sig Val)} {W : List (Ref sig .tc)}
      (writes : o.writes = {Proc.devRef .tc w}) (sub : o.bufs ⊆ tcRefs τ sig) (fresh : o.fresh = ∅) (h : Plain ops W) :
      Plain (o :: ops) (w :: W)

section Plains

variable {τ : Topo} {sig : RefSig} {T Ta Tb Tc Te : BufTy} {ops : List (HloOp τ sig Val)} {W : List (Ref sig .tc)}

theorem Plain.nullary (y : TRef sig T) (v : T.Contents Val) (h : Plain ops W) : Plain (TRef.nullary y v :: ops) (y.ref :: W) :=
  .cons rfl (nullary_bufs_sub ..) rfl h

theorem Plain.unary (x : TRef sig Ta) (y : TRef sig T) (f : Ta.Contents Val → T.Contents Val) (h : Plain ops W) :
    Plain (TRef.unary x y f :: ops) (y.ref :: W) :=
  .cons rfl (unary_bufs_sub ..) rfl h

theorem Plain.binary (a : TRef sig Ta) (b : TRef sig Tb) (y : TRef sig T) (f : Ta.Contents Val → Tb.Contents Val → T.Contents Val)
    (h : Plain ops W) : Plain (TRef.binary a b y f :: ops) (y.ref :: W) :=
  .cons rfl (binary_bufs_sub ..) rfl h

theorem Plain.ternary (c : TRef sig Tc) (a : TRef sig Ta) (b : TRef sig Tb) (y : TRef sig T)
    (f : Tc.Contents Val → Ta.Contents Val → Tb.Contents Val → T.Contents Val) (h : Plain ops W) :
    Plain (TRef.ternary c a b y f :: ops) (y.ref :: W) :=
  .cons rfl (ternary_bufs_sub ..) rfl h

theorem Plain.quaternary (a : TRef sig Ta) (b : TRef sig Tb) (c : TRef sig Tc) (e : TRef sig Te) (y : TRef sig T)
    (f : Ta.Contents Val → Tb.Contents Val → Tc.Contents Val → Te.Contents Val → T.Contents Val) (h : Plain ops W) :
    Plain (TRef.quaternary a b c e y f :: ops) (y.ref :: W) :=
  .cons rfl (quaternary_bufs_sub ..) rfl h

theorem Plain.nary {n : Nat} {Ts : Fin n → BufTy} (xs : (k : Fin n) → TRef sig (Ts k)) (y : TRef sig T)
    (f : ((k : Fin n) → (Ts k).Contents Val) → T.Contents Val) (h : Plain ops W) :
    Plain (TRef.nary xs y f :: ops) (y.ref :: W) :=
  .cons rfl (nary_bufs_sub ..) rfl h

theorem Plain.reshape (x : TRef sig Ta) (y : TRef sig T) (he : Ta.elt = T.elt) (hn : Ta.shape.ShapeCasts T.shape) (h : Plain ops W) :
    Plain (TRef.reshape x y he hn :: ops) (y.ref :: W) :=
  .cons rfl (reshape_bufs_sub ..) rfl h

theorem Plain.sub (h : Plain ops W) : ops.Forall fun o => o.bufs ⊆ tcRefs τ sig := by
  induction h with
  | nil => exact trivial
  | cons _ s _ _ ih => exact List.forall_cons _ _ _ |>.mpr ⟨s, ih⟩

theorem Plain.fresh (h : Plain ops W) : ∀ o ∈ ops, o.fresh = ∅ := by
  induction h with
  | nil => exact fun _ ho => absurd ho List.not_mem_nil
  | cons _ _ f _ ih => exact List.forall_mem_cons.mpr ⟨f, ih⟩

theorem Plain.writes (h : Plain ops W) : ops.map HloOp.writes = W.map fun w => {Proc.devRef (τ := τ) .tc w} := by
  induction h with
  | nil => rfl
  | cons w _ _ _ ih => rw [List.map_cons, List.map_cons, w, ih]

end Plains

theorem Plain.drop {τ : Topo} {sig : RefSig} {ops : List (HloOp τ sig Val)} {W : List (Ref sig .tc)} (h : Plain ops W) (n : Nat) :
    Plain (ops.drop n) (W.drop n) := by
  induction h generalizing n with
  | nil => rw [List.drop_nil, List.drop_nil]; exact .nil
  | cons w s f h ih =>
    cases n with
    | zero => exact .cons w s f h
    | succ n => exact ih n

theorem Plain.take {τ : Topo} {sig : RefSig} {ops : List (HloOp τ sig Val)} {W : List (Ref sig .tc)} (h : Plain ops W) (n : Nat) :
    Plain (ops.take n) (W.take n) := by
  induction h generalizing n with
  | nil => rw [List.take_nil, List.take_nil]; exact .nil
  | cons w s f h ih =>
    cases n with
    | zero => exact .nil
    | succ n => exact .cons w s f (ih n)

/-- A line with what its operations write. -/
structure Line {τ : Topo} {sig : RefSig} (ops : List (HloOp τ sig Val)) where
  outs : List (Ref sig .tc)
  plain : Plain ops outs

/-- The numbers of a list of buffers increase, from `b` on. -/
def rising {sig : RefSig} (b : Nat) : List (Ref sig .tc) → Bool
  | [] => true
  | w :: W => Nat.ble b (num w) && rising (num w + 1) W

theorem le_of_rising {sig : RefSig} : ∀ (W : List (Ref sig .tc)) (b : Nat), rising b W = true → ∀ w ∈ W, b ≤ num w
  | [], _, _, _, hw => absurd hw List.not_mem_nil
  | v :: W, b, h, w, hw => by
    simp only [rising, Bool.and_eq_true, Nat.ble_eq] at h
    rcases List.mem_cons.mp hw with rfl | hw
    · exact h.1
    · exact h.1.trans ((Nat.le_succ _).trans (le_of_rising W _ h.2 w hw))

theorem pairwise_of_rising {sig : RefSig} : ∀ (W : List (Ref sig .tc)) (b : Nat), rising b W = true → (W.map num).Pairwise (· < ·)
  | [], _, _ => List.Pairwise.nil
  | v :: W, b, h => by
    simp only [rising, Bool.and_eq_true, Nat.ble_eq] at h
    rw [List.map_cons, List.pairwise_cons]
    refine ⟨fun n hn => ?_, pairwise_of_rising W _ h.2⟩
    obtain ⟨w, hw, rfl⟩ := List.mem_map.mp hn
    exact le_of_rising W _ h.2 w hw

/-! ### Reading one operation of a line -/

/-- `W` lists what the operations of a line write, in order, at increasing numbers. -/
structure Ordered {τ : Topo} {sig : RefSig} (ops : List (HloOp τ sig Val)) (W : List (Ref sig .tc)) : Prop where
  writes : ops.map HloOp.writes = W.map fun w => {Proc.devRef (τ := τ) .tc w}
  sorted : (W.map num).Pairwise (· < ·)

theorem Plain.ordered {τ : Topo} {sig : RefSig} {ops : List (HloOp τ sig Val)} {W : List (Ref sig .tc)} (h : Plain ops W) {b : Nat}
    (hr : rising b W = true) : Ordered ops W :=
  ⟨h.writes, pairwise_of_rising W b hr⟩

theorem after_append {τ : Topo} {sig : RefSig} : ∀ (l l' : List (HloOp τ sig Val)) (V : Valuation τ sig Val),
    after (l ++ l') V = after l' (after l V)
  | [], _, _ => rfl
  | o :: l, l', V => by rw [List.cons_append, after_cons, after_cons, after_append l l']

/-- A line leaves every buffer numbered below all it writes. -/
theorem after_low {τ : Topo} {sig : RefSig} : ∀ (ops : List (HloOp τ sig Val)) (W : List (Ref sig .tc))
    (_ : ops.map HloOp.writes = W.map fun w => {Proc.devRef (τ := τ) .tc w}) (r : Ref sig .tc) (_ : ∀ w ∈ W, num r < num w)
    (V : Valuation τ sig Val), after ops V (Proc.devRef .tc r) = V (Proc.devRef .tc r)
  | [], _, _, _, _, _ => rfl
  | o :: ops, [], h, _, _, _ => by cases h
  | o :: ops, w :: W, h, r, hr, V => by
    simp only [List.map_cons, List.cons.injEq] at h
    rw [after_cons, after_low ops W h.2 r (fun x hx => hr x (List.mem_cons_of_mem _ hx)),
      result_other o h.1 (Nat.ne_of_lt (hr w List.mem_cons_self)) V]

theorem Plain.after_low {τ : Topo} {sig : RefSig} {ops : List (HloOp τ sig Val)} {W : List (Ref sig .tc)} (h : Plain ops W) {b : Nat}
    (hr : rising b W = true) (r : Ref sig .tc) (hb : num r < b) (V : Valuation τ sig Val) :
    after ops V (Proc.devRef .tc r) = V (Proc.devRef .tc r) :=
  Vq.after_low ops W h.writes r (fun w hw => lt_of_lt_of_le hb (le_of_rising W b hr w hw)) V

/-- The operation at position `i`, read after the whole line: its result there is what it makes of contents `U` that hold
    the line's own final arrays at every buffer numbered below it. -/
theorem Ordered.read {τ : Topo} {sig : RefSig} {ops : List (HloOp τ sig Val)} {W : List (Ref sig .tc)} (h : Ordered ops W) (i : Nat)
    {o : HloOp τ sig Val} {y : Ref sig .tc} (ho : ops[i]? = some o) (hy : W[i]? = some y) (V : Valuation τ sig Val) :
    ∃ U : Valuation τ sig Val, after ops V (Proc.devRef .tc y) = o.result U (Proc.devRef .tc y)
      ∧ ∀ x : Ref sig .tc, num x < num y → U (Proc.devRef .tc x) = after ops V (Proc.devRef .tc x) := by
  obtain ⟨hw, hs⟩ := h
  induction ops generalizing W i V with
  | nil => cases ho
  | cons o' ops ih =>
    cases W with
    | nil => cases hw
    | cons w W =>
      simp only [List.map_cons, List.cons.injEq] at hw
      rw [List.map_cons, List.pairwise_cons] at hs
      cases i with
      | zero =>
        simp only [List.getElem?_cons_zero, Option.some.injEq] at ho hy
        subst ho; subst hy
        have low : ∀ x ∈ W, num w < num x := fun x hx => hs.1 _ (List.mem_map_of_mem hx)
        refine ⟨V, after_low ops W hw.2 w low _, fun x hx => ?_⟩
        rw [after_cons, after_low ops W hw.2 x (fun z hz => hx.trans (low z hz)),
          result_other o' hw.1 (Nat.ne_of_lt hx) V]
      | succ i =>
        simp only [List.getElem?_cons_succ] at ho hy
        obtain ⟨U, h₁, h₂⟩ := ih i ho hy (o'.result V) hw.2 hs.2
        exact ⟨U, h₁, h₂⟩

/-- The same at the values' types, for one operation of each sort that is read on its own. -/
theorem Ordered.val_nullary {τ : Topo} {sig : RefSig} {ops : List (HloOp τ sig Val)} {W : List (Ref sig .tc)} (h : Ordered ops W)
    (i : Nat) {T : BufTy} {y : TRef sig T} {v : T.Contents Val} (ho : ops[i]? = some (TRef.nullary y v)) (hy : W[i]? = some y.ref)
    (V : Valuation τ sig Val) : val y (after ops V) = v := by
  obtain ⟨U, h₁, -⟩ := h.read i ho hy V
  exact (congrArg y.ofBuf h₁).trans (Vq.val_nullary y v U)

theorem Ordered.val_unary {τ : Topo} {sig : RefSig} {ops : List (HloOp τ sig Val)} {W : List (Ref sig .tc)} (h : Ordered ops W)
    (i : Nat) {T Ta : BufTy} {x : TRef sig Ta} {y : TRef sig T} {f : Ta.Contents Val → T.Contents Val}
    (ho : ops[i]? = some (TRef.unary x y f)) (hy : W[i]? = some y.ref) (hx : num x.ref < num y.ref) (V : Valuation τ sig Val) :
    val y (after ops V) = f (val x (after ops V)) := by
  obtain ⟨U, h₁, h₂⟩ := h.read i ho hy V
  refine ((congrArg y.ofBuf h₁).trans (Vq.val_unary x y f U)).trans ?_
  unfold val; rw [h₂ _ hx]

theorem Ordered.val_binary {τ : Topo} {sig : RefSig} {ops : List (HloOp τ sig Val)} {W : List (Ref sig .tc)} (h : Ordered ops W)
    (i : Nat) {T Ta Tb : BufTy} {a : TRef sig Ta} {b : TRef sig Tb} {y : TRef sig T}
    {f : Ta.Contents Val → Tb.Contents Val → T.Contents Val} (ho : ops[i]? = some (TRef.binary a b y f)) (hy : W[i]? = some y.ref)
    (ha : num a.ref < num y.ref) (hb : num b.ref < num y.ref) (V : Valuation τ sig Val) :
    val y (after ops V) = f (val a (after ops V)) (val b (after ops V)) := by
  obtain ⟨U, h₁, h₂⟩ := h.read i ho hy V
  refine ((congrArg y.ofBuf h₁).trans (Vq.val_binary a b y f U)).trans ?_
  unfold val; rw [h₂ _ ha, h₂ _ hb]

theorem Ordered.val_ternary {τ : Topo} {sig : RefSig} {ops : List (HloOp τ sig Val)} {W : List (Ref sig .tc)} (h : Ordered ops W)
    (i : Nat) {T Ta Tb Tc : BufTy} {c : TRef sig Tc} {a : TRef sig Ta} {b : TRef sig Tb} {y : TRef sig T}
    {f : Tc.Contents Val → Ta.Contents Val → Tb.Contents Val → T.Contents Val} (ho : ops[i]? = some (TRef.ternary c a b y f))
    (hy : W[i]? = some y.ref) (hc : num c.ref < num y.ref) (ha : num a.ref < num y.ref) (hb : num b.ref < num y.ref)
    (V : Valuation τ sig Val) :
    val y (after ops V) = f (val c (after ops V)) (val a (after ops V)) (val b (after ops V)) := by
  obtain ⟨U, h₁, h₂⟩ := h.read i ho hy V
  refine ((congrArg y.ofBuf h₁).trans (Vq.val_ternary c a b y f U)).trans ?_
  unfold val; rw [h₂ _ hc, h₂ _ ha, h₂ _ hb]

theorem Ordered.val_quaternary {τ : Topo} {sig : RefSig} {ops : List (HloOp τ sig Val)} {W : List (Ref sig .tc)}
    (h : Ordered ops W) (i : Nat) {T Ta Tb Tc Te : BufTy} {a : TRef sig Ta} {b : TRef sig Tb} {c : TRef sig Tc} {e : TRef sig Te}
    {y : TRef sig T} {f : Ta.Contents Val → Tb.Contents Val → Tc.Contents Val → Te.Contents Val → T.Contents Val}
    (ho : ops[i]? = some (TRef.quaternary a b c e y f)) (hy : W[i]? = some y.ref) (ha : num a.ref < num y.ref)
    (hb : num b.ref < num y.ref) (hc : num c.ref < num y.ref) (he : num e.ref < num y.ref) (V : Valuation τ sig Val) :
    val y (after ops V) = f (val a (after ops V)) (val b (after ops V)) (val c (after ops V)) (val e (after ops V)) := by
  obtain ⟨U, h₁, h₂⟩ := h.read i ho hy V
  refine ((congrArg y.ofBuf h₁).trans (Vq.val_quaternary a b c e y f U)).trans ?_
  unfold val; rw [h₂ _ ha, h₂ _ hb, h₂ _ hc, h₂ _ he]

theorem Ordered.val_reshape {τ : Topo} {sig : RefSig} {ops : List (HloOp τ sig Val)} {W : List (Ref sig .tc)} (h : Ordered ops W)
    (i : Nat) {T Ta : BufTy} {x : TRef sig Ta} {y : TRef sig T} {he : Ta.elt = T.elt} {hn : Ta.shape.ShapeCasts T.shape}
    (ho : ops[i]? = some (TRef.reshape x y he hn)) (hy : W[i]? = some y.ref) (hx : num x.ref < num y.ref) (V : Valuation τ sig Val) :
    val y (after ops V) = (fun j => he ▸ shapeCast T.shape (val x (after ops V)) hn j : T.Contents Val) := by
  obtain ⟨U, h₁, h₂⟩ := h.read i ho hy V
  refine ((congrArg y.ofBuf h₁).trans (Vq.val_reshape x y he hn U)).trans ?_
  unfold val; rw [h₂ _ hx]

end Cert.Vq

end
-- ==== Proof.RefLine.lean ====
/-
  The reference is one line of host operations. `Spells p tail ops` says that the program `p` followed by the line `tail`
  is the line `ops`; `refLine` reads the reference's operations off its printed text, call by call, with the proof that
  they are its `@main`.
-/
module

public import proofs.«01_k».proof.Proof.Gen.ReferenceIdeal
public import Idealize.ShloMosaic.Lib.StableHlo.RunHlo
public import Idealize.ShloMosaic.Lib.Quiescent
public import Idealize.ShloMosaic.PureOps.Ideal
public import proofs.«01_k».proof.Proof.Lockstep

@[expose] public section

noncomputable section

namespace Cert.Vq

open Idealize.ShloMosaic Idealize.ShloMosaic.StableHlo Idealize.SL.Sem

section

variable {nD : Nat} {τ : Topo} {sig : RefSig} {Val : EltTy → Type} {Λ : Labels}

/-- `p`, then the line `tail`, is the line `ops`. -/
def Spells (p : Prog (TpuEff nD τ sig Val Λ .tc) PUnit) (tail ops : List (HloOp τ sig Val)) : Prop :=
  (p >>= fun _ => seq tail) = seq ops

theorem Spells.stop (tail : List (HloOp τ sig Val)) :
    Spells (nD := nD) (Λ := Λ) (pure ⟨⟩ : Prog (TpuEff nD τ sig Val Λ .tc) PUnit) tail tail := rfl

theorem Spells.op (op : HloOp τ sig Val) (tail : List (HloOp τ sig Val)) :
    Spells (nD := nD) (Λ := Λ) (hlo rfl op fun _ => .ret (⟨⟩ : PUnit)) tail (op :: tail) := rfl

theorem Spells.bind {p q : Prog (TpuEff nD τ sig Val Λ .tc) PUnit} {tail mid ops : List (HloOp τ sig Val)}
    (hq : Spells q tail mid) (hp : Spells p mid ops) : Spells (p >>= fun _ => q) tail ops := by
  unfold Spells at hq hp ⊢
  rw [bind_assoc, hq, hp]

theorem Spells.isSeq {p : Prog (TpuEff nD τ sig Val Λ .tc) PUnit} {ops : List (HloOp τ sig Val)} (h : Spells p [] ops) :
    IsSeq p ops := by
  unfold Spells at h; unfold IsSeq
  rw [← h]; exact (bind_pure p).symm

end

open Cert.ReferenceIdeal

variable {F : FTy → Type} [FloatOps F]

set_option maxHeartbeats 4000000 in
set_option maxRecDepth 20000 in
/-- The operations of the reference's `@main`, in order, with the proof that they are it. -/
def refLine : { ops : List (HloOp τ sig (Elt F)) // ∀ d : Dev nD, Spells (main (F := F) d) [] ops } := by
  refine ⟨?_, fun d => ?_⟩
  rotate_left
  · unfold main fn_forward.body
    repeat' first
      | with_reducible exact Spells.stop _
      | with_reducible exact Spells.op _ _
      | with_reducible apply Spells.bind
      | unfold fn_forward.body_part0
      | unfold fn_forward.body_part1
      | unfold fn_forward.body_part2
      | unfold fn_forward.body_part3
      | unfold fn_forward.body_part4
      | unfold fn_forward.body_part5
      | unfold fn_forward.body_part6
      | unfold fn_forward.body_part7
      | unfold fn_forward.body_part8
      | unfold fn_forward.body_part9
      | unfold fn_forward.body_part10
      | unfold fn_forward.body_part11
      | unfold fn_forward.body_part12
      | unfold fn_forward.body_part13
      | unfold fn_forward.body_part14
      | unfold fn_norm.body
      | unfold fn_argmax.body
      | unfold fn_take_along_axis.body
      | unfold fn_take_along_axis_0.body
      | unfold fn_take_along_axis_1.body
      | unfold fn_take_along_axis_2.body
      | unfold fn_take_along_axis_3.body

/-- The reference's operations. -/
def refOps : List (HloOp τ sig (Elt F)) := (refLine (F := F)).1

/-- They are its `@main`. -/
theorem ref_isSeq (d : Dev nD) : IsSeq (main (F := F) d) refOps := (refLine.2 d).isSeq

set_option maxHeartbeats 4000000 in
set_option maxRecDepth 20000 in
/-- What they write. -/
def refNames : Line (refOps (F := F)) := by
  apply Line.mk
  case plain =>
    unfold refOps refLine
    dsimp only
    repeat' first
      | exact Plain.nil
      | with_reducible apply Plain.nullary
      | with_reducible apply Plain.unary
      | with_reducible apply Plain.binary
      | with_reducible apply Plain.ternary
      | with_reducible apply Plain.quaternary
      | with_reducible apply Plain.nary
      | apply Plain.reshape

set_option maxRecDepth 20000 in
/-- They write at increasing numbers, above the three arguments. -/
theorem ref_rising : rising 3 (refNames (F := Ideal)).outs = true := by decide +kernel

/-- So the line can be read operation by operation. -/
theorem ref_ordered : Ordered (refOps (F := Ideal)) (refNames (F := Ideal)).outs := refNames.plain.ordered ref_rising

theorem no_scoped_buffer : (Finset.univ.filter fun b : Ref sig .tc => b.isScoped) = ∅ := by decide +kernel
theorem no_scoped_sem : (Finset.univ.filter fun sm : SemLoc sig => sm.isScoped .tc) = ∅ := by decide +kernel

/-- THE REFERENCE'S RUN: every execution ends with each buffer at what the line leaves there, and every counter at zero. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (d : Dev nD) (b : Ref sig .tc), r.2.mem ((d.tc : Thread nD τ).loc b) = after refOps (launchContents m d) (Proc.devRef .tc b))
        ∧ r.2.sem = fun _ => 0 :=
  θ_run_mono (run_hlo defs main ref_isSeq no_scoped_buffer no_scoped_sem refNames.plain.sub refNames.plain.fresh m ρ)
    fun r h => ⟨h, sem_eq_zero_of_no_sems rfl r.2⟩

/-- A buffer below the results — an argument — ends as launched. -/
theorem ref_low (V : Valuation τ sig (Elt Ideal)) (r : Ref sig .tc) (h : num r < 3) :
    after refOps V (Proc.devRef .tc r) = V (Proc.devRef .tc r) :=
  refNames.plain.after_low ref_rising r h V

end Cert.Vq

end
-- ==== Proof.Pairing.lean ====
/-
  The kernel program's host operations before and between its two launches, paired with the reference's: the reference
  does the same ones, on the same shapes, and its other operations are the four that stand for the first launch, one
  transposition, and what follows the pursuit.
-/
module

public import proofs.«01_k».proof.Proof.Gen.KernelIdeal.Launch
public import proofs.«01_k».proof.Proof.RefLine

@[expose] public section

noncomputable section

namespace Cert.Vq

open Idealize.ShloMosaic Idealize.ShloMosaic.StableHlo

variable {F : FTy → Type} [FloatOps F]

/-- Two lines with the longest common beginning found in them: what each goes on with, and the steps. -/
structure Paired (l₁ : List (HloOp Cert.KernelIdeal.τ Cert.KernelIdeal.sig (Elt F)))
    (l₂ : List (HloOp Cert.ReferenceIdeal.τ Cert.ReferenceIdeal.sig (Elt F))) where
  r₁ : List (HloOp Cert.KernelIdeal.τ Cert.KernelIdeal.sig (Elt F))
  r₂ : List (HloOp Cert.ReferenceIdeal.τ Cert.ReferenceIdeal.sig (Elt F))
  steps : List (Entry Cert.KernelIdeal.sig Cert.ReferenceIdeal.sig)
  lock : Lock l₁ l₂ r₁ r₂ steps

set_option maxHeartbeats 4000000 in
set_option maxRecDepth 20000 in
/-- The operations before the first launch are the first of the reference's, which has one transposition besides. -/
def lead : Paired (F := F) Cert.KernelIdeal.Gen.hostOps0 refOps := by
  apply Paired.mk
  case lock =>
    unfold Cert.KernelIdeal.Gen.hostOps0 refOps refLine
    dsimp only
    repeat' first
      | exact Lock.done [] _
      | with_reducible apply Lock.both (Twin.nullary _ _ _ _ ?_)
      | with_reducible apply Lock.both (Twin.unary _ _ _ _ _ _ ?_)
      | with_reducible apply Lock.both (Twin.binary _ _ _ _ _ _ _ _ ?_)
      | with_reducible apply Lock.both (Twin.ternary _ _ _ _ _ _ _ _ _ _ ?_)
      | with_reducible apply Lock.both (Twin.quaternary _ _ _ _ _ _ _ _ _ _ _ _ ?_)
      | with_reducible apply Lock.both (Twin.nary _ _ _ _ _ _ ?_)
      | apply Lock.both (Twin.reshape _ _ _ _ _ _ _ _)
      | with_reducible apply Lock.alone
      | rfl

/-- The reference's operations behind its first four after the lead. -/
def refMid : List (HloOp Cert.ReferenceIdeal.τ Cert.ReferenceIdeal.sig (Elt F)) := (lead (F := F)).r₂.tail.tail.tail.tail

set_option maxHeartbeats 40000000 in
set_option maxRecDepth 20000 in
/-- The pursuit: the operations between the two launches, up to the last seven, are the reference's. -/
def body : Paired (F := F) Cert.KernelIdeal.Gen.hostOps1 refMid := by
  apply Paired.mk
  case lock =>
    unfold Cert.KernelIdeal.Gen.hostOps1 refMid lead
    dsimp only [List.tail_cons]
    repeat' first
      | with_reducible apply Lock.both (Twin.nullary _ _ _ _ ?_)
      | with_reducible apply Lock.both (Twin.unary _ _ _ _ _ _ ?_)
      | with_reducible apply Lock.both (Twin.binary _ _ _ _ _ _ _ _ ?_)
      | with_reducible apply Lock.both (Twin.ternary _ _ _ _ _ _ _ _ _ _ ?_)
      | with_reducible apply Lock.both (Twin.quaternary _ _ _ _ _ _ _ _ _ _ _ _ ?_)
      | with_reducible apply Lock.both (Twin.nary _ _ _ _ _ _ ?_)
      | apply Lock.both (Twin.reshape _ _ _ _ _ _ _ _)
      | rfl
      | exact Lock.done _ _

set_option maxHeartbeats 4000000 in
set_option maxRecDepth 20000 in
/-- What the operations between the two launches write. -/
def hostNames : Line (Cert.KernelIdeal.Gen.hostOps1 (F := F)) := by
  apply Line.mk
  case plain =>
    unfold Cert.KernelIdeal.Gen.hostOps1
    repeat' first
      | exact Plain.nil
      | with_reducible apply Plain.nullary
      | with_reducible apply Plain.unary
      | with_reducible apply Plain.binary
      | with_reducible apply Plain.ternary
      | with_reducible apply Plain.quaternary
      | with_reducible apply Plain.nary
      | apply Plain.reshape

end Cert.Vq

end
-- ==== Proof.Meet.lean ====
/-
  What the pairing gives: the arrays that the two programs compute by the same operations from the same arguments are the
  same, those before the first launch outright (`lead_meet`), those of the pursuit where the first launch's two results
  are the reference's (`body_meet`). The reference's side is always its FINAL contents.
-/
module

public import proofs.«01_k».proof.Proof.Pairing

@[expose] public section

noncomputable section

namespace Cert.Vq

open Idealize.ShloMosaic Idealize.ShloMosaic.StableHlo

/-- The kernel program's contents, and the reference's. -/
abbrev KVal := Valuation Cert.KernelIdeal.τ Cert.KernelIdeal.sig (Elt Ideal)
abbrev RVal := Valuation Cert.ReferenceIdeal.τ Cert.ReferenceIdeal.sig (Elt Ideal)

/-- The arguments, paired. -/
def args : List (Ref Cert.KernelIdeal.sig .tc × Ref Cert.ReferenceIdeal.sig .tc) :=
  [(Cert.KernelIdeal.main_arg0, Cert.ReferenceIdeal.main_arg0), (Cert.KernelIdeal.main_arg1, Cert.ReferenceIdeal.main_arg1),
   (Cert.KernelIdeal.main_arg2, Cert.ReferenceIdeal.main_arg2)]

/-- What is paired before the first launch. -/
def early : List (Ref Cert.KernelIdeal.sig .tc × Ref Cert.ReferenceIdeal.sig .tc) := grow args (lead (F := Ideal)).steps

/-- And after it: its two results are the reference's products. -/
def entry : List (Ref Cert.KernelIdeal.sig .tc × Ref Cert.ReferenceIdeal.sig .tc) :=
  (Cert.KernelIdeal.main_call0_v8_0, Cert.ReferenceIdeal.main_call0_v10) ::
    (Cert.KernelIdeal.main_call0_v8_1, Cert.ReferenceIdeal.main_call0_v12) :: early

/-- What is paired after the pursuit. -/
def late : List (Ref Cert.KernelIdeal.sig .tc × Ref Cert.ReferenceIdeal.sig .tc) := grow entry (body (F := Ideal)).steps

/-- Whether the pairs lie below the numbers. -/
def below (P : List (Ref Cert.KernelIdeal.sig .tc × Ref Cert.ReferenceIdeal.sig .tc)) (b₁ b₂ : Nat) : Bool :=
  P.all fun p => (inHbm p.1 && inHbm p.2) && (Nat.blt (num p.1) b₁ && Nat.blt (num p.2) b₂)

theorem below_iff {P : List (Ref Cert.KernelIdeal.sig .tc × Ref Cert.ReferenceIdeal.sig .tc)} {b₁ b₂ : Nat} (h : below P b₁ b₂ = true) :
    Below P b₁ b₂ := by
  intro p hp
  have h := List.all_eq_true.mp h p hp
  simp only [Bool.and_eq_true, Nat.blt_eq] at h
  exact h

set_option maxRecDepth 20000
set_option maxHeartbeats 4000000

theorem args_below : below args 3 3 = true := by decide +kernel
theorem lead_fits : Fits args 3 3 (lead (F := Ideal)).steps = true := by decide +kernel
theorem early_below : below early 16 17 = true := by decide +kernel
theorem entry_below : below entry 18 21 = true := by decide +kernel
theorem body_fits : Fits entry 18 21 (body (F := Ideal)).steps = true := by decide +kernel
theorem late_below : below late 970 973 = true := by decide +kernel

theorem rest_lead : (lead (F := Ideal)).r₂ = refOps.drop 14 := rfl
theorem rest_four : (lead (F := Ideal)).r₂ = (lead (F := Ideal)).r₂.take 4 ++ refMid := rfl
theorem rest_mid : refMid (F := Ideal) = refOps.drop 18 := rfl
theorem rest_body : (body (F := Ideal)).r₂ = refOps.drop 970 := rfl
theorem rest_host : (body (F := Ideal)).r₁ = Cert.KernelIdeal.Gen.hostOps1.drop 952 := rfl

theorem rising_lead : rising 17 ((refNames (F := Ideal)).outs.drop 14) = true := by decide +kernel
theorem rising_four : rising 17 (((refNames (F := Ideal)).outs.drop 14).take 4) = true := by decide +kernel
theorem rising_mid : rising 21 ((refNames (F := Ideal)).outs.drop 18) = true := by decide +kernel
theorem rising_body : rising 973 ((refNames (F := Ideal)).outs.drop 970) = true := by decide +kernel
theorem rising_host : rising 970 ((hostNames (F := Ideal)).outs.drop 952) = true := by decide +kernel

theorem plain_lead : Plain (lead (F := Ideal)).r₂ ((refNames (F := Ideal)).outs.drop 14) := rest_lead ▸ refNames.plain.drop 14
theorem plain_mid : Plain (refMid (F := Ideal)) ((refNames (F := Ideal)).outs.drop 18) := rest_mid ▸ refNames.plain.drop 18
theorem plain_body : Plain (body (F := Ideal)).r₂ ((refNames (F := Ideal)).outs.drop 970) := rest_body ▸ refNames.plain.drop 970
theorem plain_host : Plain (body (F := Ideal)).r₁ ((hostNames (F := Ideal)).outs.drop 952) := rest_host ▸ hostNames.plain.drop 952

/-- From agreeing arguments: contents from which the reference goes on, agreeing with the kernel program's before its first
    launch. -/
theorem lead_after (V₁ : KVal) (V₂ : RVal) (h : ∀ p ∈ args, Agree V₁ V₂ p) :
    ∃ U : RVal, after refOps V₂ = after (lead (F := Ideal)).r₂ U
      ∧ ∀ p ∈ early, Agree (after Cert.KernelIdeal.Gen.hostOps0 V₁) U p := by
  obtain ⟨U₁, U₂, h₁, h₂, hU⟩ := (lead (F := Ideal)).lock.after args 3 3 lead_fits (below_iff args_below) V₁ V₂ h
  refine ⟨U₂, h₂, ?_⟩
  rw [h₁]
  exact hU

/-- What the two programs compute before the first launch is the same. -/
theorem lead_meet (V₁ : KVal) (V₂ : RVal) (h : ∀ p ∈ args, Agree V₁ V₂ p) :
    ∀ p ∈ early, Agree (after Cert.KernelIdeal.Gen.hostOps0 V₁) (after refOps V₂) p := by
  obtain ⟨U, hU, hP⟩ := lead_after V₁ V₂ h
  intro p hp
  have := hP p hp
  unfold Agree at this ⊢
  rw [hU, plain_lead.after_low rising_lead p.2 ((below_iff early_below) p hp).2.2 U]
  exact this

/-- And the pursuit: where `X` continues the kernel program's contents with the reference's two products at the first
    launch's results, what the pursuit computes is the same. -/
theorem body_meet (V₁ : KVal) (V₂ : RVal) (h : ∀ p ∈ args, Agree V₁ V₂ p) (X : KVal)
    (hX : ∀ r : Ref Cert.KernelIdeal.sig .tc, num r < 16 →
      X (Proc.devRef .tc r) = after Cert.KernelIdeal.Gen.hostOps0 V₁ (Proc.devRef .tc r))
    (hG : Agree X (after refOps V₂) (Cert.KernelIdeal.main_call0_v8_0, Cert.ReferenceIdeal.main_call0_v10))
    (hH : Agree X (after refOps V₂) (Cert.KernelIdeal.main_call0_v8_1, Cert.ReferenceIdeal.main_call0_v12)) :
    ∀ p ∈ late, Agree (after Cert.KernelIdeal.Gen.hostOps1 X) (after refOps V₂) p := by
  obtain ⟨U, hU, hP⟩ := lead_after V₁ V₂ h
  have hU' : after refOps V₂ = after refMid (after ((lead (F := Ideal)).r₂.take 4) U) := by
    rw [hU]; conv_lhs => rw [rest_four]
    exact after_append _ _ _
  have mid : ∀ r : Ref Cert.ReferenceIdeal.sig .tc, num r < 21 →
      after refOps V₂ (Proc.devRef .tc r) = after ((lead (F := Ideal)).r₂.take 4) U (Proc.devRef .tc r) := fun r hr => by
    rw [hU']; exact plain_mid.after_low rising_mid r hr _
  have hent : ∀ p ∈ entry, Agree X (after ((lead (F := Ideal)).r₂.take 4) U) p := by
    intro p hp
    rcases List.mem_cons.mp hp with rfl | hp
    · unfold Agree at hG ⊢; rw [← mid _ (by decide)]; exact hG
    rcases List.mem_cons.mp hp with rfl | hp
    · unfold Agree at hH ⊢; rw [← mid _ (by decide)]; exact hH
    · have hb := ((below_iff early_below) p hp).2
      have := hP p hp
      unfold Agree at this ⊢
      rw [(plain_lead.take 4).after_low rising_four p.2 hb.2 U, hX p.1 hb.1]
      exact this
  obtain ⟨U₁, U₂, h₁, h₂, hE⟩ := (body (F := Ideal)).lock.after entry 18 21 body_fits (below_iff entry_below) X _ hent
  intro p hp
  have hb := ((below_iff late_below) p hp).2
  have := hE p hp
  unfold Agree at this ⊢
  rw [h₁, hU', h₂, plain_host.after_low rising_host p.1 hb.1 U₁, plain_body.after_low rising_body p.2 hb.2 U₂]
  exact this

end Cert.Vq

end
-- ==== Proof.Gram.lean ====
/-
  The first launch: one grid point whose blocks are the whole arrays, so that its two results are the products of what it
  reads, the patches and the normalised dictionary.
-/
module

public import proofs.«01_k».proof.Proof.Gen.KernelIdeal.Frame
public import Idealize.ShloMosaic.Lib.Pipeline.Value

@[expose] public section

set_option maxRecDepth 16384

noncomputable section

namespace Cert.Vq

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The one grid point. -/
def gt0 : Fin cfg0.N := ⟨0, by decide⟩

theorem gt0_all (t : Fin cfg0.N) : t = gt0 := by
  have h : ∀ t : Fin grid0.N, t = ⟨0, by decide⟩ := by decide
  exact h t

theorem zero2 (a b : Nat) : (![0, 0] : Fin (⟨2, ![a, b]⟩ : Shape).rank → Nat) = fun _ => 0 := funext fun i => by fin_cases i <;> rfl

/-- The body leaves the first payload of the dictionary in the Gram window. -/
theorem gram_out (x0 : Vec F S2048x256 .f32) (x1 : Vec F S256x1024 .f32) : out0_2 x0 x1 = k0_pay2 x1 := by
  unfold out0_2
  rw [View.canon_unit_zero (zero2 1024 1024), View.ld_unit_zero (zero2 256 1024)]

/-- And the second payload, of both, in the other. -/
theorem corr_out (x0 : Vec F S2048x256 .f32) (x1 : Vec F S256x1024 .f32) : out0_3 x0 x1 = k0_pay3 x0 x1 := by
  unfold out0_3
  rw [View.canon_unit_zero (zero2 2048 1024), View.ld_unit_zero (zero2 2048 256), View.ld_unit_zero (zero2 256 1024)]

/-- The patches' block is the array. -/
theorem block_patches (c : Dev nD) (t : Fin cfg0.N) : iblk0 V c 0 t = V c (Pipeline.arrRef spec0 0) := by
  rw [gt0_all t]
  have hz : (fun a => (win0_0.index gt0) a * main_call0_v2.ty.shape.size a) = fun _ => 0 := funext fun a => by fin_cases a <;> decide
  exact Memref.read_access_unit_zero (Elt F) main_call0_v2 hz (fun a => by fin_cases a <;> decide) _

/-- The dictionary's too. -/
theorem block_dict (c : Dev nD) (t : Fin cfg0.N) : iblk0 V c 1 t = V c (Pipeline.arrRef spec0 1) := by
  rw [gt0_all t]
  have hz : (fun a => (win0_1.index gt0) a * main_call0_v7.ty.shape.size a) = fun _ => 0 := funext fun a => by fin_cases a <;> decide
  exact Memref.read_access_unit_zero (Elt F) main_call0_v7 hz (fun a => by fin_cases a <;> decide) _

/-- The Gram array after the launch. -/
theorem gram_array (c : Dev nD) : (dat0 V c).arrAt 2 cfg0.N = (k0_pay2 (V c main_call0_v7) : FVec F S1024x1024 .f32) := by
  have hz : (fun a => (win0_2.index gt0) a * main_call0_v8_0.ty.shape.size a) = fun _ => 0 := funext fun a => by fin_cases a <;> decide
  have hr := fun f => Memref.read_access_unit_zero (Elt F) main_call0_v8_0 hz (fun a => by fin_cases a <;> decide) f
  have hf : ((cfg0.win 2).blk gt0).view.read (Elt F) ((dat0 V c).arrAt 2 cfg0.N) = (dat0 V c).flushed 2 gt0 := by
    rw [show cfg0.N = (gt0 : Fin cfg0.N).val + 1 from rfl, (dat0 V c).arrAt_succ 2 gt0, flush0_2, if_pos rfl]
    exact View.read_write_univ _ _
  refine (hr _).symm.trans (hf.trans ?_)
  show (dat0 V c).after 2 gt0 = _
  rw [after0_2, gram_out, block_dict]

/-- The correlations after the launch. -/
theorem corr_array (c : Dev nD) :
    (dat0 V c).arrAt 3 cfg0.N = (k0_pay3 (V c main_call0_v2) (V c main_call0_v7) : FVec F S2048x1024 .f32) := by
  have hz : (fun a => (win0_3.index gt0) a * main_call0_v8_1.ty.shape.size a) = fun _ => 0 := funext fun a => by fin_cases a <;> decide
  have hr := fun f => Memref.read_access_unit_zero (Elt F) main_call0_v8_1 hz (fun a => by fin_cases a <;> decide) f
  have hf : ((cfg0.win 3).blk gt0).view.read (Elt F) ((dat0 V c).arrAt 3 cfg0.N) = (dat0 V c).flushed 3 gt0 := by
    rw [show cfg0.N = (gt0 : Fin cfg0.N).val + 1 from rfl, (dat0 V c).arrAt_succ 3 gt0, flush0_3, if_pos rfl]
    exact View.read_write_univ _ _
  refine (hr _).symm.trans (hf.trans ?_)
  show (dat0 V c).after 3 gt0 = _
  rw [after0_3, corr_out, block_dict, block_patches]

end Cert.Vq

end
-- ==== Proof.GramEq.lean ====
/-
  The first launch's two products are the reference's: the Gram matrix entry by entry, the correlations with the factors
  exchanged.
-/
module

public import proofs.«01_k».proof.Proof.Gen.KernelIdeal.Skeleton
public import proofs.«01_k».proof.Proof.Gen.ReferenceIdeal
public import Idealize.ShloMosaic.Lib.Pointwise

@[expose] public section

set_option maxRecDepth 16384

noncomputable section

namespace Cert.Vq

open Idealize.ShloMosaic Idealize.SL.Sem
open Cert.ReferenceIdeal

/-- The Gram matrix: the transposed dictionary times the dictionary. -/
theorem gram_eq (D : Vec Ideal S256x1024 .f32) (h : S256x1024.Transposes [1, 0] S1024x256) :
    Cert.KernelIdeal.Gen.k0_pay2 (F := Ideal) D
      = Host.dotGeneral (F := Ideal) (φ₁ := .f32) (φ₂ := .f32) dot_S1024x256_S256x1024_S1024x1024_1_0_0_1_n_n none (transpose S1024x256 [1, 0] D h) D := by
  funext j
  unfold Cert.KernelIdeal.Gen.k0_pay2 Cert.KernelIdeal.Gen.k0_pay1
  simp only [pointwise]

/-- The correlations: the transpose of the transposed dictionary times the transposed patches. -/
theorem corr_eq (X : Vec Ideal S2048x256 .f32) (D : Vec Ideal S256x1024 .f32) (h : S256x1024.Transposes [1, 0] S1024x256)
    (hX : S2048x256.Transposes [1, 0] S256x2048) (hO : S1024x2048.Transposes [1, 0] S2048x1024) :
    Cert.KernelIdeal.Gen.k0_pay3 (F := Ideal) X D
      = transpose S2048x1024 [1, 0] (Host.dotGeneral (F := Ideal) (φ₁ := .f32) (φ₂ := .f32) dot_S1024x256_S256x2048_S1024x2048_1_0_0_1_n_n none
          (transpose S1024x256 [1, 0] D h) (transpose S256x2048 [1, 0] X hX)) hO := by
  funext j
  unfold Cert.KernelIdeal.Gen.k0_pay3 Cert.KernelIdeal.Gen.k0_pay1
  simp only [pointwise, mul_comm]

/-- The entry (b, m) of the sparse combination: the five chosen columns of the dictionary, each times its coefficient. -/
def combine (D : Vec Ideal S256x1024 .f32) (I : IVec S2048x5 32) (C : Vec Ideal S2048x5 .f32) : Vec Ideal S2048x256 .f32 :=
  fun j => ∑ k : Fin 5, C (ix2 (j 0) k) * D (ix2 (j 1) ⟨(I (ix2 (j 0) k)).toNat % 1024, Nat.mod_lt _ (by decide)⟩)

/-- The gather of the reference's reconstruction, at a result index: the row that the index names, read signed and clamped. -/
theorem gather_rows {α : Type} (x : S1024x256.Idx → α) (idx : IVec S2048x5x1 32) (j : S2048x5x256.Idx) :
    Host.gather gather_S1024x256_S2048x5x1_S2048x5x256_2_0_n_n_0_2_1256 x idx j
      = x (ix2 ⟨min (idx (ix3 (j 0) (j 1) 0)).toInt.toNat 1023, by omega⟩ (j 2)) := by
  unfold Host.gather
  refine congrArg x (funext fun a => Fin.ext ?_)
  show gather_S1024x256_S2048x5x1_S2048x5x256_2_0_n_n_0_2_1256.start j idx a
      + gather_S1024x256_S2048x5x1_S2048x5x256_2_0_n_n_0_2_1256.batchCoord j a
      + gather_S1024x256_S2048x5x1_S2048x5x256_2_0_n_n_0_2_1256.offCoord j a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    have hs : ∀ c, gather_S1024x256_S2048x5x1_S2048x5x256_2_0_n_n_0_2_1256.siIdx j c = ix3 (j 0) (j 1) 0 := by
      intro c; funext b; refine Fin.ext ?_
      match b with
      | ⟨0, _⟩ => rfl
      | ⟨1, _⟩ => rfl
      | ⟨2, _⟩ => have := c.isLt; change c.val = 0; change c.val < 1 at this; omega
    unfold GatherDims.start
    refine (congrArg (· + 0 + 0) (dif_pos (List.mem_singleton.mpr rfl))).trans ?_
    rw [hs]
    rfl
  | ⟨1, h1⟩ =>
    have h0 : gather_S1024x256_S2048x5x1_S2048x5x256_2_0_n_n_0_2_1256.start j idx ⟨1, by decide⟩ = 0 := by
      unfold GatherDims.start
      exact dif_neg (by decide)
    rw [h0]
    have h2 : gather_S1024x256_S2048x5x1_S2048x5x256_2_0_n_n_0_2_1256.offCoord j ⟨1, by decide⟩ = (j 2).val := by
      unfold GatherDims.offCoord
      exact dif_pos (by decide)
    rw [h2]
    show 0 + 0 + (j 2).val = (j 2).val
    omega

/-- An index in range is not negative, so wrapping it leaves it as it is. -/
theorem wrap_id (v : BitVec 32) (h : v.toNat < 1024) :
    Scalar.select (IntOp.cmpi CmpIPredicate.slt v 0#32) (IntOp.addi v 1024#32) v = v := by
  have h0 : v.toInt = v.toNat := by rw [BitVec.toInt_eq_toNat_cond, if_pos (by omega)]
  have hs : v.slt 0#32 = false := by
    rw [BitVec.slt_eq_decide, h0]; exact decide_eq_false (by simp)
  simp [Scalar.select, IntOp.cmpi, hs]

/-- Clamping an index in range leaves it as it is. -/
theorem clamp_id (v : BitVec 32) (h : v.toNat < 1024) : min v.toInt.toNat 1023 = v.toNat % 1024 := by
  have h0 : v.toInt = v.toNat := by rw [BitVec.toInt_eq_toNat_cond, if_pos (by omega)]
  rw [h0]; simp; omega

/-- The reference's rows of the transposed dictionary, gathered at the indices and combined. -/
theorem recon_ref (D : Vec Ideal S256x1024 .f32) (I : IVec S2048x5 32) (C : Vec Ideal S2048x5 .f32)
    (h : S256x1024.Transposes [1, 0] S1024x256) (hI : ∀ i, (I i).toNat < 1024) (hb : S_.BroadcastsInDim S2048x5 ![])
    (hb' : S2048x5.BroadcastsInDim S2048x5x1 ![0, 1]) :
    Host.dotGeneral (F := Ideal) (φ₁ := .f32) (φ₂ := .f32) dot_S2048x5x256_S2048x5_S2048x256_1_1_2_n_0_0 none
      (Host.gather gather_S1024x256_S2048x5x1_S2048x5x256_2_0_n_n_0_2_1256 (transpose S1024x256 [1, 0] D h)
        (broadcastInDim S2048x5x1 ![0, 1] hb' (select (cmpi .slt I (broadcastInDim S2048x5 ![] hb (constantI S_ 32 0#32)))
          (addi I (broadcastInDim S2048x5 ![] hb (constantI S_ 32 1024#32))) I))) C = combine D I C := by
  funext j
  unfold combine
  simp only [pointwise, gather_rows]
  refine (zero_add _).trans (Finset.sum_congr rfl fun k _ => ?_)
  rw [mul_comm]
  refine congrArg (fun n => C (ix2 (j 0) k) * D (ix2 (j 1) n)) (Fin.ext ?_)
  exact (congrArg (fun v : BitVec 32 => min v.toInt.toNat 1023) (wrap_id _ (hI (ix2 (j 0) k)))).trans (clamp_id _ (hI (ix2 (j 0) k)))

end Cert.Vq

end
-- ==== Proof.Block.lean ====
/-
  One point of the second launch: what the body leaves in its two windows, as expressions of the blocks it reads, and those
  expressions at an index over the extended reals.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Vq

open Idealize.ShloMosaic Idealize.ShloMosaic.TcCoe Idealize.SL.Sem
open Idealize.ShloMosaic.Pipeline (Dat Cfg Window)
open Cert.KernelIdeal Cert.KernelIdeal.Gen

variable {F : FTy → Type} [FloatOps F]

/-- Slab `k` of a block of one-hot rows. -/
def slab (x : Vec F S5x512x1024 .f32) (k : Fin 5) : Vec F S1x512x1024 .f32 :=
  View.ld x (Rect.unit (s := S5x512x1024) ![k.val, 0, 0] S1x512x1024.size (by revert k; decide))

/-- Column `k` of a block of coefficients. -/
def column (x : Vec F S512x5 .f32) (k : Fin 5) : Vec F S512x1 .f32 :=
  View.ld x (Rect.unit (s := S512x5) ![0, k.val] S512x1.size (by revert k; decide))

/-- The reconstruction of a block of patches. -/
def blockRecon (x0 : Vec F S256x1024 .f32) (x1 : Vec F S5x512x1024 .f32) (x2 : Vec F S512x5 .f32) : Vec F S512x256 .f32 :=
  k1_pay1 (k1_pay4 x0) (k1_pay6 x0 (slab x1 0) (column x2 0) (slab x1 1) (column x2 1) (slab x1 2) (column x2 2))
    (k1_pay7 x0 (slab x1 3)) (column x2 3) (slab x1 4) (column x2 4)

/-- The running error `a` with a block's squared differences added to it. -/
def blockErr (x0 : Vec F S256x1024 .f32) (x1 : Vec F S5x512x1024 .f32) (x2 : Vec F S512x5 .f32) (x3 : Vec F S512x256 .f32)
    (a : Vec F S1x1 .f32) : Vec F S1x1 .f32 :=
  k1_pay3 (k1_pay4 x0) (k1_pay5 x3) (k1_pay6 x0 (slab x1 0) (column x2 0) (slab x1 1) (column x2 1) (slab x1 2) (column x2 2))
    (k1_pay7 x0 (slab x1 3)) (column x2 3) (slab x1 4) (column x2 4) a

theorem at00 (a b : Nat) : (![0, 0] : Fin (⟨2, ![a, b]⟩ : Shape).rank → Nat) = fun _ => 0 := funext fun i => by fin_cases i <;> rfl

section Runs

variable (c : Dev nD) (i : grid1.Coords) (a1 : Memref sig .tc .vmem S256x1024 .f32) (h1 : a1.IsWhole)
  (a2 : Memref sig .tc .vmem S5x512x1024 .f32) (h2 : a2.IsWhole) (a3 : Memref sig .tc .vmem S512x5 .f32) (h3 : a3.IsWhole)
  (a4 : Memref sig .tc .vmem S512x256 .f32) (h4 : a4.IsWhole) (a5 : Memref sig .tc .vmem S512x256 .f32) (h5 : a5.IsWhole)
  (a6 : Memref sig .tc .vmem S1x1 .f32) (h6 : a6.IsWhole)
  (x0 : Vec F S256x1024 .f32) (x1 : Vec F S5x512x1024 .f32) (x2 : Vec F S512x5 .f32) (x3 : Vec F S512x256 .f32)
  (x5 : Vec F S1x1 .f32)

/-- The reconstruction window after the first point. -/
theorem recon_A (hc : cond1_0 i) :
    out1_A_4 c i a1 h1 a2 h2 a3 h3 a4 h4 a5 h5 a6 h6 hc x0 x1 x2 x3 = blockRecon x0 x1 x2 := by
  unfold out1_A_4
  rw [View.read_writes_eq_canon _ _ _ (cover1_A_4 c i a1 h1 a2 h2 a3 h3 a4 h4 a5 h5 a6 h6 hc x0 x1 x2 x3)]
  unfold kernelRun1_A
  dsimp only
  sl_unfold_words
  rw [View.canon_unit_zero (at00 512 256)]
  simp only [View.readAt_eq_ld, h1.read_unread, h2.read_unread, h3.read_unread, View.ld_unit_zero (S := S256x1024) (at00 256 1024)]
  rfl

/-- The reconstruction window after a later point. -/
theorem recon_B (hc : ¬ cond1_0 i) :
    out1_B_4 c i a1 h1 a2 h2 a3 h3 a4 h4 a5 h5 a6 h6 hc x0 x1 x2 x3 x5 = blockRecon x0 x1 x2 := by
  unfold out1_B_4
  rw [View.read_writes_eq_canon _ _ _ (cover1_B_4 c i a1 h1 a2 h2 a3 h3 a4 h4 a5 h5 a6 h6 hc x0 x1 x2 x3 x5)]
  unfold kernelRun1_B
  dsimp only
  sl_unfold_words
  rw [View.canon_unit_zero (at00 512 256)]
  simp only [View.readAt_eq_ld, h1.read_unread, h2.read_unread, h3.read_unread, View.ld_unit_zero (S := S256x1024) (at00 256 1024)]
  rfl

/-- The error window after the first point: it starts from zero. -/
theorem err_A (hc : cond1_0 i) :
    out1_A_5 c i a1 h1 a2 h2 a3 h3 a4 h4 a5 h5 a6 h6 hc x0 x1 x2 x3 = blockErr x0 x1 x2 x3 k1_pay2 := by
  unfold out1_A_5
  rw [View.read_writes_eq_canon _ _ _ (cover1_A_5 c i a1 h1 a2 h2 a3 h3 a4 h4 a5 h5 a6 h6 hc x0 x1 x2 x3)]
  unfold kernelRun1_A
  dsimp only
  sl_unfold_words
  rw [View.canon_cons_unit_zero (at00 1 1)]
  simp only [View.readAt_eq_ld, h1.read_unread, h2.read_unread, h3.read_unread, h4.read_unread,
    View.ld_unit_zero (S := S256x1024) (at00 256 1024), View.ld_unit_zero (S := S512x256) (at00 512 256)]
  rw [View.readCov_unit_zero (S := S1x1) _ (at00 1 1)]
  rfl

/-- The error window after a later point: it goes on from what the point found. -/
theorem err_B (hc : ¬ cond1_0 i) :
    out1_B_5 c i a1 h1 a2 h2 a3 h3 a4 h4 a5 h5 a6 h6 hc x0 x1 x2 x3 x5 = blockErr x0 x1 x2 x3 x5 := by
  unfold out1_B_5
  rw [View.read_writes_eq_canon _ _ _ (cover1_B_5 c i a1 h1 a2 h2 a3 h3 a4 h4 a5 h5 a6 h6 hc x0 x1 x2 x3 x5)]
  unfold kernelRun1_B
  dsimp only
  sl_unfold_words
  rw [View.canon_unit_zero (at00 1 1)]
  simp only [View.readAt_eq_ld, h1.read_unread, h2.read_unread, h3.read_unread, h4.read_unread, h6.read_unread,
    View.ld_unit_zero (S := S256x1024) (at00 256 1024), View.ld_unit_zero (S := S512x256) (at00 512 256),
    View.ld_unit_zero (S := S1x1) (at00 1 1)]
  rfl

end Runs

theorem slab_at (x : Vec F S5x512x1024 .f32) (k : Fin 5) (j : S1x512x1024.Idx) : slab x k j = x (ix3 k (j 1) (j 2)) := by
  refine congrArg x (funext fun a => Fin.ext ?_)
  match a with
  | ⟨0, _⟩ => have := (j 0).isLt; change (j 0).val < 1 at this; show k.val + 1 * (j 0).val = k.val; omega
  | ⟨1, _⟩ => show 0 + 1 * (j 1).val = (j 1).val; omega
  | ⟨2, _⟩ => show 0 + 1 * (j 2).val = (j 2).val; omega

theorem column_at (x : Vec F S512x5 .f32) (k : Fin 5) (j : S512x1.Idx) : column x k j = x (ix2 (j 0) k) := by
  refine congrArg x (funext fun a => Fin.ext ?_)
  match a with
  | ⟨0, _⟩ => show 0 + 1 * (j 0).val = (j 0).val; omega
  | ⟨1, _⟩ => have := (j 1).isLt; change (j 1).val < 1 at this; show k.val + 1 * (j 1).val = k.val; omega

/-- The reconstruction of a block at an index: five coefficients, each times a one-hot row's product with the dictionary. -/
theorem blockRecon_at (x0 : Vec Ideal S256x1024 .f32) (x1 : Vec Ideal S5x512x1024 .f32) (x2 : Vec Ideal S512x5 .f32)
    (j : S512x256.Idx) : blockRecon x0 x1 x2 j
      = ∑ k : Fin 5, x2 (ix2 (j 0) k) * ∑ n : Fin 1024, x1 (ix3 k (j 0) n) * x0 (ix2 (j 1) n) := by
  unfold blockRecon k1_pay1 k1_pay6 k1_pay7 k1_pay4
  simp only [pointwise, slab_at, column_at, zero_add, Fin.sum_univ_five]
  rfl

theorem blockErr_at (x0 : Vec Ideal S256x1024 .f32) (x1 : Vec Ideal S5x512x1024 .f32) (x2 : Vec Ideal S512x5 .f32)
    (x3 : Vec Ideal S512x256 .f32) (a : Vec Ideal S1x1 .f32) (j : S1x1.Idx) : blockErr x0 x1 x2 x3 a j
      = a j + ∑ b : Fin 512, ∑ n : Fin 256, (blockRecon x0 x1 x2 (ix2 b n) - x3 (ix2 b n)) * (blockRecon x0 x1 x2 (ix2 b n) - x3 (ix2 b n)) := by
  unfold blockErr k1_pay3 k1_pay5
  change addf _ _ j = _
  have hr : k1_pay1 (k1_pay4 x0) (k1_pay6 x0 (slab x1 0) (column x2 0) (slab x1 1) (column x2 1) (slab x1 2) (column x2 2))
    (k1_pay7 x0 (slab x1 3)) (column x2 3) (slab x1 4) (column x2 4) = blockRecon x0 x1 x2 := rfl
  rw [hr]
  simp only [pointwise]

end Cert.Vq

end
-- ==== Proof.Recon.lean ====
/-
  The second launch: its four points tile the patches into blocks of 512, so the reconstruction array is one expression of
  the arrays that the launch reads, and the error array is the sum of all the squared differences.
-/
module

public import proofs.«01_k».proof.Proof.Block

@[expose] public section

set_option maxRecDepth 16384

noncomputable section

namespace Cert.Vq

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem lt4 (t : Fin cfg1.N) : t.val < 4 := lt_of_lt_of_eq t.isLt N_1

/-- Row `b` of the block that point `n` holds. -/
def row (n : Nat) (h : n < 4) (b : Fin 512) : Fin 2048 := ⟨n * 512 + b.val, by omega⟩

/-- The reconstruction of patch `j 0` from dictionary, one-hot rows and coefficients. -/
def recon (D : Vec Ideal S256x1024 .f32) (O : Vec Ideal S5x2048x1024 .f32) (C : Vec Ideal S2048x5 .f32) : Vec Ideal S2048x256 .f32 :=
  fun j => ∑ k : Fin 5, C (ix2 (j 0) k) * ∑ n : Fin 1024, O (ix3 k (j 0) n) * D (ix2 (j 1) n)

/-- The squared difference of two arrays at a patch and an entry. -/
def sqDiff (R X : Vec Ideal S2048x256 .f32) (b : Fin 2048) (n : Fin 256) : EReal :=
  (R (ix2 b n) - X (ix2 b n)) * (R (ix2 b n) - X (ix2 b n))

theorem block_D (c : Dev nD) (t : Fin cfg1.N) : iblk1 V c 0 t = V c main_call0_v7 := by
  have hz : ∀ t : Fin grid1.N, (fun a => (win1_0.index t) a * main_call0_v7.ty.shape.size a) = fun _ => 0 := fun t =>
    funext fun a => by revert t; fin_cases a <;> decide
  exact Memref.read_access_unit_zero (Elt Ideal) main_call0_v7 (hz t) (fun a => by revert t; fin_cases a <;> decide) _

theorem at1 : ∀ t : Fin grid1.N, ∀ a, win1_1.index t a * win1_1.size a = ![0, t.val * 512, 0] a := by decide +kernel
theorem at2 : ∀ t : Fin grid1.N, ∀ a, win1_2.index t a * win1_2.size a = ![t.val * 512, 0] a := by decide +kernel
theorem at3 : ∀ t : Fin grid1.N, ∀ a, win1_3.index t a * win1_3.size a = ![t.val * 512, 0] a := by decide +kernel
theorem at4 : ∀ t : Fin grid1.N, ∀ a, win1_4.index t a * win1_4.size a = ![t.val * 512, 0] a := by decide +kernel

theorem block_O (c : Dev nD) (t : Fin cfg1.N) (k : Fin 5) (b : Fin 512) (n : Fin 1024) :
    (iblk1 V c 1 t : Vec Ideal S5x512x1024 .f32) (ix3 k b n) = (V c main_call0_v764 : Vec Ideal S5x2048x1024 .f32) (ix3 k (row t.val (lt4 t) b) n) := by
  refine congrArg (V c main_call0_v764) (funext fun a => Fin.ext ?_)
  show win1_1.index t a * win1_1.size a + 1 * (ix3 k b n a : Nat) = _
  rw [at1, Nat.one_mul]
  match a with
  | ⟨0, _⟩ => exact Nat.zero_add _
  | ⟨1, _⟩ => rfl
  | ⟨2, _⟩ => exact Nat.zero_add _

theorem block_C (c : Dev nD) (t : Fin cfg1.N) (b : Fin 512) (k : Fin 5) :
    (iblk1 V c 2 t : Vec Ideal S512x5 .f32) (ix2 b k) = (V c main_call0_v762 : Vec Ideal S2048x5 .f32) (ix2 (row t.val (lt4 t) b) k) := by
  refine congrArg (V c main_call0_v762) (funext fun a => Fin.ext ?_)
  show win1_2.index t a * win1_2.size a + 1 * (ix2 b k a : Nat) = _
  rw [at2, Nat.one_mul]
  match a with
  | ⟨0, _⟩ => rfl
  | ⟨1, _⟩ => exact Nat.zero_add _

theorem block_X (c : Dev nD) (t : Fin cfg1.N) (b : Fin 512) (n : Fin 256) :
    (iblk1 V c 3 t : Vec Ideal S512x256 .f32) (ix2 b n) = (V c main_call0_v2 : Vec Ideal S2048x256 .f32) (ix2 (row t.val (lt4 t) b) n) := by
  refine congrArg (V c main_call0_v2) (funext fun a => Fin.ext ?_)
  show win1_3.index t a * win1_3.size a + 1 * (ix2 b n a : Nat) = _
  rw [at3, Nat.one_mul]
  match a with
  | ⟨0, _⟩ => rfl
  | ⟨1, _⟩ => exact Nat.zero_add _

/-- The launch's reconstruction of all the patches. -/
abbrev whole (c : Dev nD) : Vec Ideal S2048x256 .f32 := recon (V c main_call0_v7) (V c main_call0_v764) (V c main_call0_v762)

/-- A point's reconstruction is the whole one's block. -/
theorem block_whole (c : Dev nD) (t : Fin cfg1.N) (b : Fin 512) (n : Fin 256) :
    blockRecon (iblk1 V c 0 t) (iblk1 V c 1 t) (iblk1 V c 2 t) (ix2 b n) = whole V c (ix2 (row t.val (lt4 t) b) n) := by
  rw [blockRecon_at]
  refine Finset.sum_congr rfl fun k _ => ?_
  refine congrArg₂ (· * ·) (block_C V c t b k) (Finset.sum_congr rfl fun m _ => ?_)
  exact congrArg₂ (· * ·) (block_O V c t k b m) (congrFun (block_D V c t) _)

/-- What every point leaves in the reconstruction window. -/
theorem left_recon (c : Dev nD) (t : Fin cfg1.N) :
    (outsAt1 V c t.val t.isLt).1 = blockRecon (iblk1 V c 0 t) (iblk1 V c 1 t) (iblk1 V c 2 t) := by
  by_cases h0 : t.val % 4 = 0
  · rw [outsAt1_A V c t h0]; dsimp only; rw [recon_A]
  · rw [outsAt1_B V c t h0]; dsimp only; rw [recon_B]

/-- The squares of one block. -/
def blockSum (R X : Vec Ideal S2048x256 .f32) (n : Nat) (h : n < 4) : EReal :=
  ∑ b : Fin 512, ∑ m : Fin 256, sqDiff R X (row n h b) m

/-- The squares of the blocks up to a point, added in order. -/
def upTo (R X : Vec Ideal S2048x256 .f32) : (n : Nat) → n < 4 → EReal
  | 0, h => 0 + blockSum R X 0 h
  | n + 1, h => upTo R X n (by omega) + blockSum R X (n + 1) h

/-- What a point adds to the error window. -/
theorem added (c : Dev nD) (t : Fin cfg1.N) (a : Vec Ideal S1x1 .f32) (j : S1x1.Idx) :
    blockErr (iblk1 V c 0 t) (iblk1 V c 1 t) (iblk1 V c 2 t) (iblk1 V c 3 t) a j
      = a j + blockSum (whole V c) (V c main_call0_v2) t.val (lt4 t) := by
  rw [blockErr_at]
  refine congrArg (a j + ·) (Finset.sum_congr rfl fun b _ => Finset.sum_congr rfl fun m _ => ?_)
  have e := congrArg₂ (· - ·) (block_whole V c t b m) (block_X V c t b m)
  exact congrArg₂ (· * ·) e e

/-- What every point leaves in the error window. -/
theorem left_err (c : Dev nD) (j : S1x1.Idx) : ∀ (n : Nat) (h : n < cfg1.N) (h4 : n < 4),
    (outsAt1 V c n h).2 j = upTo (whole V c) (V c main_call0_v2) n h4
  | 0, h, h4 => by
    rw [outsAt1_A V c ⟨0, h⟩ rfl]
    dsimp only
    rw [err_A]
    refine (added V c ⟨0, h⟩ _ j).trans ?_
    refine congrArg (· + _) ?_
    unfold k1_pay2
    simp only [pointwise]
  | n + 1, h, h4 => by
    have hB : ¬(⟨n + 1, h⟩ : Fin cfg1.N).val % 4 = 0 := by dsimp only; omega
    rw [outsAt1_B V c ⟨n + 1, h⟩ hB]
    dsimp only
    rw [err_B]
    refine (added V c ⟨n + 1, h⟩ _ j).trans ?_
    exact congrArg (· + _) (left_err c j n _ _)

theorem xs4 : ∀ (t : Fin grid1.N) (a), win1_4.xsize (grid1.coords t) a = ![512, 256] a := by decide +kernel

/-- A row's index lies in the block of the point that holds the row. -/
theorem recon_mem (i : S2048x256.Idx) (t : Fin cfg1.N) (h : t.val = (i 0).val / 512) : i ∈ ((cfg1.win 4).blk t).view.set := by
  show i ∈ ((View.whole main_call0_v765_0).slice (win1_4.rect t)).set
  rw [View.set_slice_whole, Rect.mem_set_unit]
  intro a
  show win1_4.index t a * win1_4.size a ≤ (i a : Nat) ∧ (i a : Nat) < win1_4.index t a * win1_4.size a + win1_4.xsize (grid1.coords t) a
  rw [at4, xs4]
  match a with
  | ⟨0, _⟩ =>
    show t.val * 512 ≤ (i 0).val ∧ (i 0).val < t.val * 512 + 512
    omega
  | ⟨1, _⟩ =>
    have h1 : (i 1).val < 256 := (i 1).isLt
    show 0 ≤ (i 1).val ∧ (i 1).val < 0 + 256
    omega

/-- Every index of the reconstruction array lies in the block of one point. -/
theorem recon_cover (i : S2048x256.Idx) : ∃ t : Fin cfg1.N, (cfg1.win 4).flush t = true ∧ i ∈ ((cfg1.win 4).blk t).view.set := by
  have hi : (i 0).val < 2048 := (i 0).isLt
  have hN : cfg1.N = 4 := N_1
  exact ⟨⟨(i 0).val / 512, by omega⟩, flush1_4 _, recon_mem i _ rfl⟩

theorem at5 : ∀ (t : Fin grid1.N) a, win1_5.index t a * win1_5.size a = 0 ∧ win1_5.xsize (grid1.coords t) a = S1x1.size a := by
  decide +kernel

/-- Every point's error block is the whole array. -/
theorem err_mem (i : S1x1.Idx) (t : Fin cfg1.N) : i ∈ ((cfg1.win 5).blk t).view.set := by
  show i ∈ ((View.whole main_call0_v765_1).slice (win1_5.rect t)).set
  rw [View.set_slice_whole, Rect.mem_set_unit]
  intro a
  show win1_5.index t a * win1_5.size a ≤ (i a : Nat) ∧ (i a : Nat) < win1_5.index t a * win1_5.size a + win1_5.xsize (grid1.coords t) a
  rw [(at5 t a).1, (at5 t a).2, Nat.zero_add]
  exact ⟨Nat.zero_le _, (i a).isLt⟩

/-- The reconstruction array after the launch. -/
theorem recon_array (c : Dev nD) : (dat1 V c).arrAt 4 cfg1.N = whole V c := by
  refine (dat1 V c).arrAt_eq_of_cover 4 (whole V c) (fun t _ => ?_) recon_cover
  show (dat1 V c).after 4 t = _
  rw [after1_4, left_recon]
  funext x
  have e : x = ix2 (x 0) (x 1) := funext fun a => by match a with | ⟨0, _⟩ => rfl | ⟨1, _⟩ => rfl
  refine (congrArg _ e).trans ((block_whole V c t (x 0) (x 1)).trans ?_)
  refine congrArg (whole V c) (funext fun a => Fin.ext ?_)
  show _ = win1_4.index t a * win1_4.size a + 1 * (x a : Nat)
  rw [at4, Nat.one_mul]
  match a with
  | ⟨0, _⟩ => rfl
  | ⟨1, _⟩ => exact (Nat.zero_add _).symm

/-- The error array after the launch. -/
theorem err_array (c : Dev nD) : (dat1 V c).arrAt 5 cfg1.N = (fun _ => upTo (whole V c) (V c main_call0_v2) 3 (by decide) : Vec Ideal S1x1 .f32) := by
  have hN : cfg1.N = 4 := N_1
  have hz : ∀ t : Fin grid1.N, (fun a => (win1_5.index t) a * main_call0_v765_1.ty.shape.size a) = fun _ => 0 := fun t =>
    funext fun a => by revert t; fin_cases a <;> decide
  refine (dat1 V c).arrAt_eq_of_cover 5 _ (fun t ht => ?_) fun i => ?_
  · have h3 : t.val = 3 := by have := (flush1_5 t).mp ht; have := t.isLt; omega
    show (dat1 V c).after 5 t = _
    rw [after1_5]
    refine Eq.trans ?_ (Memref.read_access_unit_zero (Elt Ideal) main_call0_v765_1 (hz t) (fun a => by revert t; fin_cases a <;> decide) _).symm
    funext j
    obtain ⟨n, hn⟩ := t
    obtain rfl : n = 3 := h3
    exact left_err V c j 3 hn _
  · exact ⟨⟨3, by omega⟩, (flush1_5 _).mpr rfl, err_mem i _⟩

/-- The blocks' sums in order are the sum over all the patches. -/
theorem upTo_total (R X : Vec Ideal S2048x256 .f32) : upTo R X 3 (by decide) = ∑ b : Fin 2048, ∑ m : Fin 256, sqDiff R X b m := by
  have h : ∑ b : Fin 2048, (fun b => ∑ m : Fin 256, sqDiff R X b m) b
      = ∑ p : Fin 4 × Fin 512, ∑ m : Fin 256, sqDiff R X (row p.1.val p.1.isLt p.2) m := by
    refine (Fintype.sum_equiv (finProdFinEquiv (m := 4) (n := 512)) _ _ fun p => ?_).symm
    refine Finset.sum_congr rfl fun m _ => congrArg (sqDiff R X · m) (Fin.ext ?_)
    show p.1.val * 512 + p.2.val = p.2.val + 512 * p.1.val
    omega
  rw [h, Fintype.sum_prod_type, Fin.sum_univ_four]
  unfold upTo upTo upTo upTo
  rw [zero_add]
  rfl

end Cert.Vq

end
-- ==== Proof.OneHot.lean ====
/-
  One-hot rows pick a column: the sum of a one-hot row's products with a row of the dictionary is the entry at the index.
-/
module

public import proofs.«01_k».proof.Proof.Recon
public import proofs.«01_k».proof.Proof.GramEq

@[expose] public section

set_option maxRecDepth 16384

noncomputable section

namespace Cert.Vq

open Idealize.ShloMosaic
open Cert.KernelIdeal

/-- The one-hot rows of the indices, as the host writes them. -/
def oneHot (I : IVec S2048x5 32) (h : S2048x5.Transposes [1, 0] S5x2048) (h₁ : S5x2048.BroadcastsInDim S5x2048x1 ![0, 1])
    (h₂ : S5x2048x1.BroadcastsInDim S5x2048x1024 ![0, 1, 2]) (h₃ : S1x1x1024.BroadcastsInDim S5x2048x1024 ![0, 1, 2]) :
    Vec Ideal S5x2048x1024 .f32 :=
  uitofp (F := Ideal) .f32 (cmpi .eq (broadcastInDim S5x2048x1024 ![0, 1, 2] h₂ (broadcastInDim S5x2048x1 ![0, 1] h₁ (transpose S5x2048 [1, 0] I h)))
    (broadcastInDim S5x2048x1024 ![0, 1, 2] h₃ (iotaInDim S1x1x1024 32 2)))

/-- One cell: whether the index is the column's number. -/
theorem cell (v : BitVec 32) (n : Fin 1024) :
    FloatOps.uitofp (F := Ideal) FTy.f32 (IntOp.cmpi CmpIPredicate.eq v (BitVec.ofNat 32 n.val)) = if v.toNat = n.val then 1 else 0 := by
  have e : (v = BitVec.ofNat 32 n.val) ↔ v.toNat = n.val := by
    have := n.isLt
    constructor
    · rintro rfl; simp; omega
    · intro h; apply BitVec.eq_of_toNat_eq; rw [h]; simp; omega
  by_cases hv : v.toNat = n.val
  · rw [if_pos hv, e.mpr hv]; simp [IntOp.cmpi, FloatOps.uitofp]
  · rw [if_neg hv]; simp [IntOp.cmpi, FloatOps.uitofp]; exact fun h => hv (e.mp h)

theorem oneHot_at (I : IVec S2048x5 32) (h h₁ h₂ h₃) (k : Fin 5) (b : Fin 2048) (n : Fin 1024) :
    oneHot I h h₁ h₂ h₃ (ix3 k b n) = if (I (ix2 b k)).toNat = n.val then 1 else 0 := by
  unfold oneHot
  simp only [pointwise]
  exact cell (I (ix2 b k)) n

/-- A one-hot row's products with any entries sum to the entry at its index. -/
theorem oneHot_sum (I : IVec S2048x5 32) (hI : ∀ i, (I i).toNat < 1024) (h h₁ h₂ h₃) (d : Fin 1024 → EReal) (k : Fin 5) (b : Fin 2048) :
    ∑ n : Fin 1024, oneHot I h h₁ h₂ h₃ (ix3 k b n) * d n = d ⟨(I (ix2 b k)).toNat % 1024, Nat.mod_lt _ (by decide)⟩ := by
  have hm : (I (ix2 b k)).toNat % 1024 = (I (ix2 b k)).toNat := Nat.mod_eq_of_lt (hI _)
  rw [Finset.sum_eq_single (⟨(I (ix2 b k)).toNat % 1024, Nat.mod_lt _ (by decide)⟩ : Fin 1024)]
  · rw [oneHot_at, if_pos hm.symm, one_mul]
  · intro n _ hn
    rw [oneHot_at, if_neg (fun e => hn (Fin.ext (e.symm.trans hm.symm))), zero_mul]
  · exact fun hn => absurd (Finset.mem_univ _) hn

/-- With one-hot rows, the reconstruction is the gathered one. -/
theorem recon_oneHot (D : Vec Ideal S256x1024 .f32) (I : IVec S2048x5 32) (hI : ∀ i, (I i).toNat < 1024) (C : Vec Ideal S2048x5 .f32)
    (h h₁ h₂ h₃) : recon D (oneHot I h h₁ h₂ h₃) C = combine D I C := by
  funext j
  unfold recon combine
  refine Finset.sum_congr rfl fun k _ => congrArg (C (ix2 (j 0) k) * ·) ?_
  exact oneHot_sum I hI h h₁ h₂ h₃ (fun n => D (ix2 (j 1) n)) k (j 0)

end Cert.Vq

end
-- ==== Proof.KerRead.lean ====
/-
  The kernel program's host arrays around its second launch, each as an expression of the arrays that its operation reads.
-/
module

public import proofs.«01_k».proof.Proof.Pairing

@[expose] public section

noncomputable section

namespace Cert.Vq

open Idealize.ShloMosaic Idealize.ShloMosaic.StableHlo
open Cert.KernelIdeal Cert.KernelIdeal.Gen

set_option maxRecDepth 20000
set_option maxHeartbeats 1000000

/-- The operations between the launches write at increasing numbers. -/
theorem host_rising : rising 18 (hostNames (F := Ideal)).outs = true := by decide +kernel
theorem host_ordered : Ordered (hostOps1 (F := Ideal)) (hostNames (F := Ideal)).outs := hostNames.plain.ordered host_rising

/-- What the operations after the second launch write. -/
def tailNames {F : FTy → Type} [FloatOps F] : Line (hostOps2 (F := F)) := by
  apply Line.mk
  case plain =>
    unfold hostOps2
    repeat' first
      | exact Plain.nil
      | with_reducible apply Plain.nullary
      | with_reducible apply Plain.unary
      | with_reducible apply Plain.binary
      | apply Plain.reshape

theorem tail_rising : rising 979 (tailNames (F := Ideal)).outs = true := by decide +kernel
theorem tail_ordered : Ordered (hostOps2 (F := Ideal)) (tailNames (F := Ideal)).outs := tailNames.plain.ordered tail_rising

variable (X : Valuation τ sig (Elt Ideal))

/-- What a buffer holds after the operations between the launches, and after those at the end. -/
abbrev mid {T : BufTy} (r : TRef sig T) : T.Contents (Elt Ideal) := val r (after hostOps1 X)
abbrev fin {T : BufTy} (r : TRef sig T) : T.Contents (Elt Ideal) := val r (after hostOps2 X)

theorem mid_v763 : mid X (.of main_call0_v763) = transpose S5x2048 [1, 0] (mid X (.of main_call0_v616)) transposes_S2048x5_S5x2048_1_0 :=
  host_ordered.val_unary 952 rfl rfl (by decide) X

theorem mid_call11_v0 : mid X (.of main_call0_call11_v0) = broadcastInDim (s := S5x2048) S5x2048x1 ![0, 1] bcast_S5x2048_S5x2048x1_0_1 (mid X (.of main_call0_v763)) :=
  host_ordered.val_unary 953 rfl rfl (by decide) X

theorem mid_call11_v1 : mid X (.of main_call0_call11_v1) = iotaInDim S1x1x1024 32 2 :=
  host_ordered.val_nullary 954 rfl rfl X

theorem mid_call11_v2 : mid X (.of main_call0_call11_v2) = broadcastInDim (s := S5x2048x1) S5x2048x1024 ![0, 1, 2] bcast_S5x2048x1_S5x2048x1024_0_1_2 (mid X (.of main_call0_call11_v0)) :=
  host_ordered.val_unary 955 rfl rfl (by decide) X

theorem mid_call11_v3 : mid X (.of main_call0_call11_v3) = broadcastInDim (s := S1x1x1024) S5x2048x1024 ![0, 1, 2] bcast_S1x1x1024_S5x2048x1024_0_1_2 (mid X (.of main_call0_call11_v1)) :=
  host_ordered.val_unary 956 rfl rfl (by decide) X

theorem mid_call11_v4 : mid X (.of main_call0_call11_v4)
    = cmpi .eq (mid X (.of main_call0_call11_v2)) (mid X (.of main_call0_call11_v3)) :=
  host_ordered.val_binary 957 rfl rfl (by decide) (by decide) X

theorem mid_v764 : mid X (.of main_call0_v764) = uitofp (F := Ideal) .f32 (mid X (.of main_call0_call11_v4)) :=
  host_ordered.val_unary 958 rfl rfl (by decide) X

theorem fin_v766 : fin X (.of main_call0_v766) = shapeCast S_ (s := S1x1) (fin X (.of main_call0_v765_1)) shapeCasts_S1x1_S_ :=
  tail_ordered.val_reshape 0 (T := ⟨S_, .f32⟩) (Ta := ⟨S1x1, .f32⟩) (x := .of main_call0_v765_1) (y := .of main_call0_v766) (he := rfl)
    (hn := shapeCasts_S1x1_S_) rfl rfl (by decide) X

theorem fin_cst_72 : fin X (.of main_call0_cst_72) = constant (F := Ideal) S_ .f32 0x3FA00000#32 :=
  tail_ordered.val_nullary 1 rfl rfl X

theorem fin_v767 : fin X (.of main_call0_v767)
    = mulf (F := Ideal) (φ := .f32) (fin X (.of main_call0_cst_72)) (fin X (.of main_call0_v766)) :=
  tail_ordered.val_binary 2 rfl rfl (by decide) (by decide) X

theorem fin_cst_73 : fin X (.of main_call0_cst_73) = constant (F := Ideal) S_ .f32 0x49000000#32 :=
  tail_ordered.val_nullary 3 rfl rfl X

theorem fin_v0_1 : fin X (.of main_v0_1)
    = Host.divf (F := Ideal) (φ := .f32) (fin X (.of main_call0_v767)) (fin X (.of main_call0_cst_73)) :=
  tail_ordered.val_binary 4 rfl rfl (by decide) (by decide) X

theorem fin_v769 : fin X (.of main_call0_v769) = shapeCast S8x16x16x64x2x2 (s := S2048x256) (fin X (.of main_call0_v765_0)) shapeCasts_S2048x256_S8x16x16x64x2x2 :=
  tail_ordered.val_reshape 5 (T := ⟨S8x16x16x64x2x2, .f32⟩) (Ta := ⟨S2048x256, .f32⟩) (x := .of main_call0_v765_0) (y := .of main_call0_v769) (he := rfl)
    (hn := shapeCasts_S2048x256_S8x16x16x64x2x2) rfl rfl (by decide) X

theorem fin_v770 : fin X (.of main_call0_v770) = transpose S8x64x16x2x16x2 [0, 3, 1, 4, 2, 5] (fin X (.of main_call0_v769)) transposes_S8x16x16x64x2x2_S8x64x16x2x16x2_0_3_1_4_2_5 :=
  tail_ordered.val_unary 6 rfl rfl (by decide) X

theorem fin_v0_0 : fin X (.of main_v0_0) = shapeCast S8x64x32x32 (s := S8x64x16x2x16x2) (fin X (.of main_call0_v770)) shapeCasts_S8x64x16x2x16x2_S8x64x32x32 :=
  tail_ordered.val_reshape 7 (T := ⟨S8x64x32x32, .f32⟩) (Ta := ⟨S8x64x16x2x16x2, .f32⟩) (x := .of main_call0_v770) (y := .of main_v0_0) (he := rfl)
    (hn := shapeCasts_S8x64x16x2x16x2_S8x64x32x32) rfl rfl (by decide) X

/-- A buffer below the tail's keeps its contents. -/
theorem fin_low (r : Ref sig .tc) (h : num r < 979) : after hostOps2 X (Proc.devRef .tc r) = X (Proc.devRef .tc r) :=
  tailNames.plain.after_low tail_rising r h X

/-- And one below the operations between the launches. -/
theorem mid_low (r : Ref sig .tc) (h : num r < 18) : after hostOps1 X (Proc.devRef .tc r) = X (Proc.devRef .tc r) :=
  hostNames.plain.after_low host_rising r h X

end Cert.Vq

end
-- ==== Proof.RefRead.lean ====
/-
  The reference's arrays, each as an expression of the arrays that its operation reads.
-/
module

public import proofs.«01_k».proof.Proof.RefLine

@[expose] public section

noncomputable section

namespace Cert.Vq

open Idealize.ShloMosaic Idealize.ShloMosaic.StableHlo
open Cert.ReferenceIdeal Cert.ReferenceIdeal.Gen

/-- What a buffer of type `T` holds when the reference has run from `V`. -/
abbrev ref {T : BufTy} (V : Valuation τ sig (Elt Ideal)) (r : TRef sig T) : T.Contents (Elt Ideal) := val r (after refOps V)

variable (V : Valuation τ sig (Elt Ideal))

set_option maxRecDepth 20000

theorem ref_v3 : ref V (.of main_call0_v3) = transpose S256x2048 [1, 0] (ref V (.of main_call0_v2)) transposes_S2048x256_S256x2048_1_0 :=
  ref_ordered.val_unary 3 rfl rfl (by decide) V

theorem ref_v9 : ref V (.of main_call0_v9) = transpose S1024x256 [1, 0] (ref V (.of main_call0_v8)) transposes_S256x1024_S1024x256_1_0 :=
  ref_ordered.val_unary 14 rfl rfl (by decide) V

theorem ref_v10 : ref V (.of main_call0_v10)
    = Host.dotGeneral (F := Ideal) (φ₁ := .f32) (φ₂ := .f32) dot_S1024x256_S256x1024_S1024x1024_1_0_0_1_n_n none (ref V (.of main_call0_v9)) (ref V (.of main_call0_v8)) :=
  ref_ordered.val_binary 15 rfl rfl (by decide) (by decide) V

theorem ref_v11 : ref V (.of main_call0_v11)
    = Host.dotGeneral (F := Ideal) (φ₁ := .f32) (φ₂ := .f32) dot_S1024x256_S256x2048_S1024x2048_1_0_0_1_n_n none (ref V (.of main_call0_v9)) (ref V (.of main_call0_v3)) :=
  ref_ordered.val_binary 16 rfl rfl (by decide) (by decide) V

theorem ref_v12 : ref V (.of main_call0_v12) = transpose S2048x1024 [1, 0] (ref V (.of main_call0_v11)) transposes_S1024x2048_S2048x1024_1_0 :=
  ref_ordered.val_unary 17 rfl rfl (by decide) V

theorem ref_v776 : ref V (.of main_call0_v776) = shapeCast S2048x5 (s := S2048x5x1) (ref V (.of main_call0_v765)) shapeCasts_S2048x5x1_S2048x5 :=
  ref_ordered.val_reshape 981 (T := ⟨S2048x5, .f32⟩) (Ta := ⟨S2048x5x1, .f32⟩) (x := .of main_call0_v765) (y := .of main_call0_v776) (he := rfl)
    (hn := shapeCasts_S2048x5x1_S2048x5) rfl rfl (by decide) V

theorem ref_v777 : ref V (.of main_call0_v777) = transpose S1024x256 [1, 0] (ref V (.of main_call0_v8)) transposes_S256x1024_S1024x256_1_0 :=
  ref_ordered.val_unary 982 rfl rfl (by decide) V

theorem ref_c_74 : ref V (.of main_call0_c_74) = constantI S_ 32 0#32 :=
  ref_ordered.val_nullary 983 rfl rfl V

theorem ref_v778 : ref V (.of main_call0_v778) = broadcastInDim S2048x5 ![] bcast_S_S2048x5 (ref V (.of main_call0_c_74)) :=
  ref_ordered.val_unary 984 rfl rfl (by decide) V

theorem ref_v779 : ref V (.of main_call0_v779)
    = cmpi .slt (ref V (.of main_call0_v620)) (ref V (.of main_call0_v778)) :=
  ref_ordered.val_binary 985 rfl rfl (by decide) (by decide) V

theorem ref_c_75 : ref V (.of main_call0_c_75) = constantI S_ 32 1024#32 :=
  ref_ordered.val_nullary 986 rfl rfl V

theorem ref_v780 : ref V (.of main_call0_v780) = broadcastInDim S2048x5 ![] bcast_S_S2048x5 (ref V (.of main_call0_c_75)) :=
  ref_ordered.val_unary 987 rfl rfl (by decide) V

theorem ref_v781 : ref V (.of main_call0_v781)
    = addi (ref V (.of main_call0_v620)) (ref V (.of main_call0_v780)) :=
  ref_ordered.val_binary 988 rfl rfl (by decide) (by decide) V

theorem ref_v782 : ref V (.of main_call0_v782) = select (ref V (.of main_call0_v779)) (ref V (.of main_call0_v781)) (ref V (.of main_call0_v620)) :=
  ref_ordered.val_ternary 989 rfl rfl (by decide) (by decide) (by decide) V

theorem ref_v783 : ref V (.of main_call0_v783) = broadcastInDim (s := S2048x5) S2048x5x1 ![0, 1] bcast_S2048x5_S2048x5x1_0_1 (ref V (.of main_call0_v782)) :=
  ref_ordered.val_unary 990 rfl rfl (by decide) V

theorem ref_v784 : ref V (.of main_call0_v784)
    = Host.gather gather_S1024x256_S2048x5x1_S2048x5x256_2_0_n_n_0_2_1256 (ref V (.of main_call0_v777)) (ref V (.of main_call0_v783)) :=
  ref_ordered.val_binary 991 rfl rfl (by decide) (by decide) V

theorem ref_v785 : ref V (.of main_call0_v785)
    = Host.dotGeneral (F := Ideal) (φ₁ := .f32) (φ₂ := .f32) dot_S2048x5x256_S2048x5_S2048x256_1_1_2_n_0_0 none (ref V (.of main_call0_v784)) (ref V (.of main_call0_v776)) :=
  ref_ordered.val_binary 992 rfl rfl (by decide) (by decide) V

theorem ref_v786 : ref V (.of main_call0_v786)
    = subf (F := Ideal) (φ := .f32) (ref V (.of main_call0_v785)) (ref V (.of main_call0_v2)) :=
  ref_ordered.val_binary 993 rfl rfl (by decide) (by decide) V

theorem ref_v787 : ref V (.of main_call0_v787)
    = mulf (F := Ideal) (φ := .f32) (ref V (.of main_call0_v786)) (ref V (.of main_call0_v786)) :=
  ref_ordered.val_binary 994 rfl rfl (by decide) (by decide) V

theorem ref_cst_76 : ref V (.of main_call0_cst_76) = constant (F := Ideal) S_ .f32 0x00000000#32 :=
  ref_ordered.val_nullary 995 rfl rfl V

theorem ref_v788 : ref V (.of main_call0_v788)
    = Host.reduceAdd (F := Ideal) (φ := .f32) (ref V (.of main_call0_v787)) (ref V (.of main_call0_cst_76)) reducesTo_S2048x256_S_d0_1 h_S_ :=
  ref_ordered.val_binary 996 rfl rfl (by decide) (by decide) V

theorem ref_cst_77 : ref V (.of main_call0_cst_77) = constant (F := Ideal) S_ .f32 0x49000000#32 :=
  ref_ordered.val_nullary 997 rfl rfl V

theorem ref_v789 : ref V (.of main_call0_v789)
    = Host.divf (F := Ideal) (φ := .f32) (ref V (.of main_call0_v788)) (ref V (.of main_call0_cst_77)) :=
  ref_ordered.val_binary 998 rfl rfl (by decide) (by decide) V

theorem ref_cst_78 : ref V (.of main_call0_cst_78) = constant (F := Ideal) S_ .f32 0x3E800000#32 :=
  ref_ordered.val_nullary 999 rfl rfl V

theorem ref_v790 : ref V (.of main_call0_v790)
    = mulf (F := Ideal) (φ := .f32) (ref V (.of main_call0_cst_78)) (ref V (.of main_call0_v789)) :=
  ref_ordered.val_binary 1000 rfl rfl (by decide) (by decide) V

theorem ref_v791 : ref V (.of main_call0_v791)
    = subf (F := Ideal) (φ := .f32) (ref V (.of main_call0_v785)) (ref V (.of main_call0_v2)) :=
  ref_ordered.val_binary 1001 rfl rfl (by decide) (by decide) V

theorem ref_v792 : ref V (.of main_call0_v792)
    = mulf (F := Ideal) (φ := .f32) (ref V (.of main_call0_v791)) (ref V (.of main_call0_v791)) :=
  ref_ordered.val_binary 1002 rfl rfl (by decide) (by decide) V

theorem ref_cst_79 : ref V (.of main_call0_cst_79) = constant (F := Ideal) S_ .f32 0x00000000#32 :=
  ref_ordered.val_nullary 1003 rfl rfl V

theorem ref_v793 : ref V (.of main_call0_v793)
    = Host.reduceAdd (F := Ideal) (φ := .f32) (ref V (.of main_call0_v792)) (ref V (.of main_call0_cst_79)) reducesTo_S2048x256_S_d0_1 h_S_ :=
  ref_ordered.val_binary 1004 rfl rfl (by decide) (by decide) V

theorem ref_cst_80 : ref V (.of main_call0_cst_80) = constant (F := Ideal) S_ .f32 0x49000000#32 :=
  ref_ordered.val_nullary 1005 rfl rfl V

theorem ref_v794 : ref V (.of main_call0_v794)
    = Host.divf (F := Ideal) (φ := .f32) (ref V (.of main_call0_v793)) (ref V (.of main_call0_cst_80)) :=
  ref_ordered.val_binary 1006 rfl rfl (by decide) (by decide) V

theorem ref_v0_1 : ref V (.of main_v0_1)
    = addf (F := Ideal) (φ := .f32) (ref V (.of main_call0_v794)) (ref V (.of main_call0_v790)) :=
  ref_ordered.val_binary 1007 rfl rfl (by decide) (by decide) V

theorem ref_v796 : ref V (.of main_call0_v796)
    = subf (F := Ideal) (φ := .f32) (ref V (.of main_call0_v785)) (ref V (.of main_call0_v2)) :=
  ref_ordered.val_binary 1008 rfl rfl (by decide) (by decide) V

theorem ref_v797 : ref V (.of main_call0_v797)
    = addf (F := Ideal) (φ := .f32) (ref V (.of main_call0_v2)) (ref V (.of main_call0_v796)) :=
  ref_ordered.val_binary 1009 rfl rfl (by decide) (by decide) V

theorem ref_v798 : ref V (.of main_call0_v798) = shapeCast S8x16x16x64x2x2 (s := S2048x256) (ref V (.of main_call0_v797)) shapeCasts_S2048x256_S8x16x16x64x2x2 :=
  ref_ordered.val_reshape 1010 (T := ⟨S8x16x16x64x2x2, .f32⟩) (Ta := ⟨S2048x256, .f32⟩) (x := .of main_call0_v797) (y := .of main_call0_v798) (he := rfl)
    (hn := shapeCasts_S2048x256_S8x16x16x64x2x2) rfl rfl (by decide) V

theorem ref_v799 : ref V (.of main_call0_v799) = transpose S8x64x16x2x16x2 [0, 3, 1, 4, 2, 5] (ref V (.of main_call0_v798)) transposes_S8x16x16x64x2x2_S8x64x16x2x16x2_0_3_1_4_2_5 :=
  ref_ordered.val_unary 1011 rfl rfl (by decide) V

theorem ref_v0_0 : ref V (.of main_v0_0) = shapeCast S8x64x32x32 (s := S8x64x16x2x16x2) (ref V (.of main_call0_v799)) shapeCasts_S8x64x16x2x16x2_S8x64x32x32 :=
  ref_ordered.val_reshape 1012 (T := ⟨S8x64x32x32, .f32⟩) (Ta := ⟨S8x64x16x2x16x2, .f32⟩) (x := .of main_call0_v799) (y := .of main_v0_0) (he := rfl)
    (hn := shapeCasts_S8x64x16x2x16x2_S8x64x32x32) rfl rfl (by decide) V

end Cert.Vq

end
-- ==== Proof.Index.lean ====
/-
  Every index that the reference's pursuit chooses is an atom's: less than 1024.
-/
module

public import proofs.«01_k».proof.Proof.RefRead
public import Idealize.ShloMosaic.Lib.Pointwise

@[expose] public section

noncomputable section

namespace Cert.Vq

open Idealize.ShloMosaic Idealize.ShloMosaic.StableHlo
open Cert.ReferenceIdeal Cert.ReferenceIdeal.Gen

/-- Every entry is an atom's number. -/
def Small {s : Shape} (I : IVec s 32) : Prop := ∀ i, (I i).toNat < 1024

/-- A fold that takes one of its two indices at each step ends with an index that it has met. -/
theorem fold_small (l : List (Ideal .f32 × BitVec 32)) (hl : ∀ p ∈ l, p.2.toNat < 1024) :
    ∀ a : Ideal .f32 × BitVec 32, a.2.toNat < 1024 → (l.foldl (reducer_argmax_f32_i32 (F := Ideal)) a).2.toNat < 1024 := by
  induction l with
  | nil => exact fun _ h => h
  | cons p l ih =>
    intro a ha
    refine ih (fun q hq => hl q (List.mem_cons_of_mem _ hq)) _ ?_
    have hp := hl p List.mem_cons_self
    unfold reducer_argmax_f32_i32
    dsimp only
    unfold Scalar.select
    split
    · exact ha
    · exact hp

/-- The arg-max over the columns is a column's number. -/
theorem argmax_small {x : FVec Ideal S2048x1024 .f32} {y : IVec S2048x1024 32} {u : FVec Ideal S_ .f32} {v : IVec S_ 32}
    (hy : y = iotaInDim S2048x1024 32 1) (hv : v = constantI S_ 32 0#32) :
    Small (s := S2048) fun j => (Host.argReduce (reducer_argmax_f32_i32 (F := Ideal)) x y u v reducesTo_S2048x1024_S2048_d1 h_S_ j).2 := by
  intro j
  show (Host.argReduce (reducer_argmax_f32_i32 (F := Ideal)) x y u v reducesTo_S2048x1024_S2048_d1 h_S_ j).2.toNat < 1024
  rw [Ideal.argReduce_eq_reduce2, Host.reduce2_eq_foldl_fiber]
  refine fold_small _ (fun p hp => ?_) _ ?_
  · obtain ⟨n, -, rfl⟩ := List.mem_map.mp hp
    subst hy
    have hi := (S2048x1024.rowMajor.symm n 1).isLt
    have hi : (S2048x1024.rowMajor.symm n 1).val < 1024 := hi
    show (BitVec.ofNat 32 (S2048x1024.rowMajor.symm n 1).val).toNat < 1024
    rw [BitVec.toNat_ofNat, Nat.mod_eq_of_lt (by omega)]
    exact hi
  · subst hv; show (0#32).toNat < 1024; decide

theorem Small.column {I : IVec S2048 32} (h : Small I) : Small (broadcastInDim S2048x1 ![0] bcast_S2048_S2048x1_0 I) := fun _ => h _

theorem Small.concat {s₁ s₂ t : Shape} {a : Fin t.rank} {I : IVec s₁ 32} {J : IVec s₂ 32} (hI : Small I) (hJ : Small J)
    (h : Shape.Concatenates [s₁, s₂] t a) : Small (concatenate t a [⟨s₁, I⟩, ⟨s₂, J⟩] h) := by
  intro j
  rw [concatenate_pair_apply]
  split
  · exact hI _
  · exact hJ _

variable (V : Valuation τ sig (Elt Ideal))

set_option maxRecDepth 20000

theorem small_v34 : Small (ref V (.of main_call0_v34)) := by
  have e := ref_ordered.val_quaternary 51 (a := .of main_call0_v33) (b := .of main_call0_call1_v0) (c := .of main_call0_call1_cst)
    (e := .of main_call0_call1_c) (y := .of main_call0_v34) rfl rfl (by decide) (by decide) (by decide) (by decide) V
  exact (congrArg (Small (s := S2048)) e).mpr (argmax_small (ref_ordered.val_nullary 47 rfl rfl V) (ref_ordered.val_nullary 49 rfl rfl V))

theorem small_v78 : Small (ref V (.of main_call0_v78)) := by
  have e := ref_ordered.val_quaternary 127 (a := .of main_call0_v77) (b := .of main_call0_call3_v0) (c := .of main_call0_call3_cst)
    (e := .of main_call0_call3_c) (y := .of main_call0_v78) rfl rfl (by decide) (by decide) (by decide) (by decide) V
  exact (congrArg (Small (s := S2048)) e).mpr (argmax_small (ref_ordered.val_nullary 123 rfl rfl V) (ref_ordered.val_nullary 125 rfl rfl V))

theorem small_v182 : Small (ref V (.of main_call0_v182)) := by
  have e := ref_ordered.val_quaternary 271 (a := .of main_call0_v181) (b := .of main_call0_call5_v0) (c := .of main_call0_call5_cst)
    (e := .of main_call0_call5_c) (y := .of main_call0_v182) rfl rfl (by decide) (by decide) (by decide) (by decide) V
  exact (congrArg (Small (s := S2048)) e).mpr (argmax_small (ref_ordered.val_nullary 267 rfl rfl V) (ref_ordered.val_nullary 269 rfl rfl V))

theorem small_v328 : Small (ref V (.of main_call0_v328)) := by
  have e := ref_ordered.val_quaternary 457 (a := .of main_call0_v327) (b := .of main_call0_call7_v0) (c := .of main_call0_call7_cst)
    (e := .of main_call0_call7_c) (y := .of main_call0_v328) rfl rfl (by decide) (by decide) (by decide) (by decide) V
  exact (congrArg (Small (s := S2048)) e).mpr (argmax_small (ref_ordered.val_nullary 453 rfl rfl V) (ref_ordered.val_nullary 455 rfl rfl V))

theorem small_v524 : Small (ref V (.of main_call0_v524)) := by
  have e := ref_ordered.val_quaternary 693 (a := .of main_call0_v523) (b := .of main_call0_call9_v0) (c := .of main_call0_call9_cst)
    (e := .of main_call0_call9_c) (y := .of main_call0_v524) rfl rfl (by decide) (by decide) (by decide) (by decide) V
  exact (congrArg (Small (s := S2048)) e).mpr (argmax_small (ref_ordered.val_nullary 689 rfl rfl V) (ref_ordered.val_nullary 691 rfl rfl V))

theorem ref_v50 : ref V (.of main_call0_v50) = broadcastInDim (s := S2048) S2048x1 ![0] bcast_S2048_S2048x1_0 (ref V (.of main_call0_v34)) :=
  ref_ordered.val_unary 72 rfl rfl (by decide) V

theorem ref_v127 : ref V (.of main_call0_v127) = broadcastInDim (s := S2048) S2048x1 ![0] bcast_S2048_S2048x1_0 (ref V (.of main_call0_v78)) :=
  ref_ordered.val_unary 189 rfl rfl (by decide) V

theorem ref_v245 : ref V (.of main_call0_v245) = broadcastInDim (s := S2048) S2048x1 ![0] bcast_S2048_S2048x1_0 (ref V (.of main_call0_v182)) :=
  ref_ordered.val_unary 347 rfl rfl (by decide) V

theorem ref_v405 : ref V (.of main_call0_v405) = broadcastInDim (s := S2048) S2048x1 ![0] bcast_S2048_S2048x1_0 (ref V (.of main_call0_v328)) :=
  ref_ordered.val_unary 547 rfl rfl (by decide) V

theorem ref_v619 : ref V (.of main_call0_v619) = broadcastInDim (s := S2048) S2048x1 ![0] bcast_S2048_S2048x1_0 (ref V (.of main_call0_v524)) :=
  ref_ordered.val_unary 801 rfl rfl (by decide) V

theorem ref_v128 : ref V (.of main_call0_v128) = concatenate S2048x2 1 [⟨S2048x1, ref V (.of main_call0_v50)⟩, ⟨S2048x1, ref V (.of main_call0_v127)⟩] concatenates_S2048x1_S2048x1_S2048x2_d1 :=
  ref_ordered.val_binary 190 rfl rfl (by decide) (by decide) V

theorem ref_v246 : ref V (.of main_call0_v246) = concatenate S2048x3 1 [⟨S2048x2, ref V (.of main_call0_v128)⟩, ⟨S2048x1, ref V (.of main_call0_v245)⟩] concatenates_S2048x2_S2048x1_S2048x3_d1 :=
  ref_ordered.val_binary 348 rfl rfl (by decide) (by decide) V

theorem ref_v406 : ref V (.of main_call0_v406) = concatenate S2048x4 1 [⟨S2048x3, ref V (.of main_call0_v246)⟩, ⟨S2048x1, ref V (.of main_call0_v405)⟩] concatenates_S2048x3_S2048x1_S2048x4_d1 :=
  ref_ordered.val_binary 548 rfl rfl (by decide) (by decide) V

theorem ref_v620 : ref V (.of main_call0_v620) = concatenate S2048x5 1 [⟨S2048x4, ref V (.of main_call0_v406)⟩, ⟨S2048x1, ref V (.of main_call0_v619)⟩] concatenates_S2048x4_S2048x1_S2048x5_d1 :=
  ref_ordered.val_binary 802 rfl rfl (by decide) (by decide) V

/-- All five choices of every patch are atoms. -/
theorem small_v620 : Small (ref V (.of main_call0_v620)) := by
  have h₁ := (small_v34 V).column
  have h₂ := (small_v78 V).column
  have h₃ := (small_v182 V).column
  have h₄ := (small_v328 V).column
  have h₅ := (small_v524 V).column
  rw [← ref_v50] at h₁
  rw [← ref_v127] at h₂
  rw [← ref_v245] at h₃
  rw [← ref_v405] at h₄
  rw [← ref_v619] at h₅
  have h₂ := h₁.concat h₂ concatenates_S2048x1_S2048x1_S2048x2_d1
  rw [← ref_v128] at h₂
  have h₃ := h₂.concat h₃ concatenates_S2048x2_S2048x1_S2048x3_d1
  rw [← ref_v246] at h₃
  have h₄ := h₃.concat h₄ concatenates_S2048x3_S2048x1_S2048x4_d1
  rw [← ref_v406] at h₄
  have h₅ := h₄.concat h₅ concatenates_S2048x4_S2048x1_S2048x5_d1
  rw [← ref_v620] at h₅
  exact h₅

end Cert.Vq

end
-- ==== Proof.Meeting.lean ====
/-
  The two programs' arrays where they meet: dictionary, patches, indices, coefficients and reconstruction of the kernel
  program are the reference's.
-/
module

public import proofs.«01_k».proof.Proof.Meet
public import proofs.«01_k».proof.Proof.Gram
public import proofs.«01_k».proof.Proof.GramEq
public import proofs.«01_k».proof.Proof.OneHot
public import proofs.«01_k».proof.Proof.KerRead
public import proofs.«01_k».proof.Proof.Index

@[expose] public section

set_option maxRecDepth 20000

noncomputable section

namespace Cert.Vq

open Idealize.ShloMosaic Idealize.ShloMosaic.StableHlo Idealize.ShloMosaic.TcCoe
open Cert.KernelIdeal Cert.KernelIdeal.Gen

theorem ref_v766 (V : RVal) : ref V (.of Cert.ReferenceIdeal.main_call0_v766) = ref V (.of Cert.ReferenceIdeal.main_call0_v776) := by
  have e := ref_ordered.val_reshape 969 (T := ⟨Cert.ReferenceIdeal.S2048x5, .f32⟩) (Ta := ⟨Cert.ReferenceIdeal.S2048x5x1, .f32⟩)
    (x := .of Cert.ReferenceIdeal.main_call0_v765) (y := .of Cert.ReferenceIdeal.main_call0_v766) (he := rfl)
    (hn := Cert.ReferenceIdeal.Gen.shapeCasts_S2048x5x1_S2048x5) rfl rfl (by decide) V
  exact e.trans (ref_v776 V).symm

/-- What a buffer read at its own type holds. -/
theorem val_of {T : BufTy} (r : Ref sig .tc) (e : r.ty = T) (h₁ h₂) (X : KVal) :
    val (T := T) (.of r e h₁ h₂) X = (e ▸ X (Proc.devRef .tc r) : T.Contents (Elt Ideal)) := by
  subst e; rfl

/-- The reference's reconstruction. -/
theorem ref_combine (V : RVal) : ref V (.of Cert.ReferenceIdeal.main_call0_v785)
    = combine (ref V (.of Cert.ReferenceIdeal.main_call0_v8)) (ref V (.of Cert.ReferenceIdeal.main_call0_v620))
        (ref V (.of Cert.ReferenceIdeal.main_call0_v766)) := by
  rw [ref_v785, ref_v784, ref_v777, ref_v783, ref_v782, ref_v781, ref_v780, ref_c_75, ref_v779, ref_v778, ref_c_74, ← ref_v766]
  exact recon_ref _ _ _ _ (small_v620 V) _ _

variable (m : (ℓ : Loc nD τ sig) → Buf (Elt Ideal) ℓ) (ρ : Dev nD → PrngReg) (c : Dev nD) (V : RVal)
  (h : ∀ p ∈ args, Agree (W0 m ρ c) V p)

include h

theorem dict_lead : V1 m ρ c main_call0_v7 = ref V (.of Cert.ReferenceIdeal.main_call0_v8) :=
  (lead_meet _ V h (main_call0_v7, Cert.ReferenceIdeal.main_call0_v8) (by decide +kernel)).val_eq
    (T := ⟨S256x1024, .f32⟩) (x := .of main_call0_v7) (y := .of Cert.ReferenceIdeal.main_call0_v8)

theorem patch_lead : V1 m ρ c main_call0_v2 = ref V (.of Cert.ReferenceIdeal.main_call0_v2) :=
  (lead_meet _ V h (main_call0_v2, Cert.ReferenceIdeal.main_call0_v2) (by decide +kernel)).val_eq
    (T := ⟨S2048x256, .f32⟩) (x := .of main_call0_v2) (y := .of Cert.ReferenceIdeal.main_call0_v2)

omit h in
theorem low_in : ∀ w : Fin cfg0.W, num (Pipeline.arrRef spec0 w) < 16 → (cfg0.win w).isOut = false := by decide +kernel

omit h in
/-- The first launch writes nothing below its results. -/
theorem first_low (r : Ref sig .tc) (hr : num r < 16) : W2 m ρ c (Proc.devRef .tc r) = W1 m ρ c (Proc.devRef .tc r) :=
  W2_of m ρ c r fun w e => low_in w (e ▸ hr)

theorem gram_agree : Agree (W2 m ρ c) (after refOps V) (main_call0_v8_0, Cert.ReferenceIdeal.main_call0_v10) := by
  refine Agree.of_val_eq (x := .of main_call0_v8_0) (y := .of Cert.ReferenceIdeal.main_call0_v10) ?_
  refine ((W2_arr m ρ c 2).trans (gram_array _ c)).trans ?_
  rw [dict_lead m ρ c V h]
  refine (gram_eq _ Cert.ReferenceIdeal.Gen.transposes_S256x1024_S1024x256_1_0).trans ?_
  exact ((ref_v10 V).trans (by rw [ref_v9])).symm

theorem corr_agree : Agree (W2 m ρ c) (after refOps V) (main_call0_v8_1, Cert.ReferenceIdeal.main_call0_v12) := by
  refine Agree.of_val_eq (x := .of main_call0_v8_1) (y := .of Cert.ReferenceIdeal.main_call0_v12) ?_
  refine ((W2_arr m ρ c 3).trans (corr_array _ c)).trans ?_
  rw [dict_lead m ρ c V h, patch_lead m ρ c V h]
  refine (corr_eq _ _ Cert.ReferenceIdeal.Gen.transposes_S256x1024_S1024x256_1_0 Cert.ReferenceIdeal.Gen.transposes_S2048x256_S256x2048_1_0
    Cert.ReferenceIdeal.Gen.transposes_S1024x2048_S2048x1024_1_0).trans ?_
  exact ((ref_v12 V).trans (by rw [ref_v11, ref_v9, ref_v3])).symm

/-- The indices of the pursuit. -/
theorem index_same : mid (W2 m ρ c) (.of main_call0_v616) = ref V (.of Cert.ReferenceIdeal.main_call0_v620) :=
  (body_meet _ V h _ (first_low m ρ c) (gram_agree m ρ c V h) (corr_agree m ρ c V h)
    (main_call0_v616, Cert.ReferenceIdeal.main_call0_v620) (by decide +kernel)).val_eq
    (T := ⟨S2048x5, .i32⟩) (x := .of main_call0_v616) (y := .of Cert.ReferenceIdeal.main_call0_v620)

/-- The coefficients of the pursuit. -/
theorem coeff_mid : mid (W2 m ρ c) (.of main_call0_v762) = ref V (.of Cert.ReferenceIdeal.main_call0_v766) :=
  (body_meet _ V h _ (first_low m ρ c) (gram_agree m ρ c V h) (corr_agree m ρ c V h)
    (main_call0_v762, Cert.ReferenceIdeal.main_call0_v766) (by decide +kernel)).val_eq
    (T := ⟨S2048x5, .f32⟩) (x := .of main_call0_v762) (y := .of Cert.ReferenceIdeal.main_call0_v766)

theorem coeff_same : V3 m ρ c main_call0_v762 = ref V (.of Cert.ReferenceIdeal.main_call0_v766) :=
  (val_of main_call0_v762 rfl (by decide) rfl (after hostOps1 (W2 m ρ c))).symm.trans (coeff_mid m ρ c V h)

theorem dict_same : V3 m ρ c main_call0_v7 = ref V (.of Cert.ReferenceIdeal.main_call0_v8) :=
  ((mid_low (W2 m ρ c) main_call0_v7 (by decide)).trans (first_low m ρ c main_call0_v7 (by decide))).trans (dict_lead m ρ c V h)

theorem patch_same : V3 m ρ c main_call0_v2 = ref V (.of Cert.ReferenceIdeal.main_call0_v2) :=
  ((mid_low (W2 m ρ c) main_call0_v2 (by decide)).trans (first_low m ρ c main_call0_v2 (by decide))).trans (patch_lead m ρ c V h)

omit h in
/-- The one-hot rows are those of the indices. -/
theorem hot_rows : V3 m ρ c main_call0_v764 = oneHot (mid (W2 m ρ c) (.of main_call0_v616)) transposes_S2048x5_S5x2048_1_0
    bcast_S5x2048_S5x2048x1_0_1 bcast_S5x2048x1_S5x2048x1024_0_1_2 bcast_S1x1x1024_S5x2048x1024_0_1_2 := by
  refine (mid_v764 (W2 m ρ c)).trans ?_
  rw [mid_call11_v4, mid_call11_v3, mid_call11_v2, mid_call11_v1, mid_call11_v0, mid_v763]
  rfl

/-- The reconstruction is the reference's. -/
theorem whole_same : whole (V3 m ρ) c = ref V (.of Cert.ReferenceIdeal.main_call0_v785) := by
  rw [ref_combine]
  unfold whole
  rw [dict_same m ρ c V h, coeff_same m ρ c V h, hot_rows, index_same m ρ c V h]
  exact recon_oneHot _ _ (small_v620 V) _ _ _ _ _

end Cert.Vq

end
-- ==== Proof.Loss.lean ====
/-
  The arithmetic at the end: the two ways of weighting the error, and the straight-through sum of finite entries.
-/
module

public import Idealize.ShloMosaic.Lib.IdealHost
public import Idealize.ShloMosaic.Lib.Pointwise

@[expose] public section

noncomputable section

namespace Cert.Vq

open Idealize.ShloMosaic

theorem five_quarters : Ideal.ofBits .f32 0x3FA00000#32 = ((5 / 4 : ℝ) : EReal) := by
  simp [Ideal.ofBits, Ideal.ieee]; norm_num [← EReal.coe_mul, zpow_neg]

theorem one_quarter : Ideal.ofBits .f32 0x3E800000#32 = ((1 / 4 : ℝ) : EReal) := by
  simp [Ideal.ofBits, Ideal.ieee]; norm_num [← EReal.coe_mul, zpow_neg]

theorem entries : Ideal.ofBits .f32 0x49000000#32 = ((524288 : ℝ) : EReal) := by
  simp [Ideal.ofBits, Ideal.ieee]; norm_num [← EReal.coe_mul, zpow_neg]

/-- Dividing by the number of entries. -/
theorem div_entries (x : EReal) : Ideal.div x ((524288 : ℝ) : EReal) = x * ((1 / 524288 : ℝ) : EReal) := by
  unfold Ideal.div
  rw [if_neg (by norm_cast), ← EReal.coe_inv, one_div]

/-- Five quarters of the mean error are the mean error and a quarter of it. -/
theorem weigh (S : EReal) (h : 0 ≤ S) :
    Ideal.div (Ideal.ofBits .f32 0x3FA00000#32 * S) (Ideal.ofBits .f32 0x49000000#32)
      = Ideal.div S (Ideal.ofBits .f32 0x49000000#32)
        + Ideal.ofBits .f32 0x3E800000#32 * Ideal.div S (Ideal.ofBits .f32 0x49000000#32) := by
  rw [five_quarters, one_quarter, entries, div_entries, div_entries]
  induction S with
  | bot => exact absurd h (by simp)
  | coe x => norm_cast; ring
  | top =>
    rw [EReal.coe_mul_top_of_pos (by norm_num), EReal.top_mul_coe_of_pos (by norm_num), EReal.coe_mul_top_of_pos (by norm_num)]
    rfl

/-- A square is not negative. -/
theorem square_nonneg (x : EReal) : 0 ≤ x * x := by
  induction x with
  | bot => simp
  | coe x => norm_cast; exact mul_self_nonneg x
  | top => simp

/-- A finite number and the difference from it give back what it was taken from. -/
theorem through (p r : EReal) (h₁ : p ≠ ⊤) (h₂ : p ≠ ⊥) : p + (r - p) = r := by
  lift p to ℝ using ⟨h₁, h₂⟩
  rw [add_comm]; exact EReal.sub_add_cancel

/-- No entry is infinite. -/
def Finite {s : Shape} (x : FVec Ideal s .f32) : Prop := ∀ i, x i ≠ (⊤ : EReal) ∧ x i ≠ (⊥ : EReal)

theorem Finite.shapeCast {s t : Shape} {x : FVec Ideal s .f32} (hx : Finite x) (h : s.ShapeCasts t) : Finite (shapeCast t x h) := fun _ => hx _

theorem Finite.transpose {s t : Shape} {p : List (Fin s.rank)} {x : FVec Ideal s .f32} (hx : Finite x) (h) : Finite (transpose t p x h) :=
  fun _ => hx _

/-- What the comparison of the precondition says of an entry. -/
theorem finite_of_cmp (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  constructor
  · rintro rfl; simp [Ideal.cmp] at h
  · rintro rfl; simp [Ideal.cmp] at h

end Cert.Vq

end
-- ==== Proof.Finish.lean ====
/-
  The two results: the kernel program's loss is the reference's, and so is its quantised array where the argument's entries
  are finite.
-/
module

public import proofs.«01_k».proof.Proof.Meeting
public import proofs.«01_k».proof.Proof.Loss

@[expose] public section

set_option maxRecDepth 20000

noncomputable section

namespace Cert.Vq

open Idealize.ShloMosaic Idealize.ShloMosaic.StableHlo Idealize.ShloMosaic.TcCoe
open Cert.KernelIdeal Cert.KernelIdeal.Gen

section Reference

variable (V : RVal)

theorem ref_v0 : ref V (.of Cert.ReferenceIdeal.main_call0_v0)
    = shapeCast Cert.ReferenceIdeal.S8x64x16x2x16x2 (s := Cert.ReferenceIdeal.S8x64x32x32) (ref V (.of Cert.ReferenceIdeal.main_arg0))
        Cert.ReferenceIdeal.Gen.shapeCasts_S8x64x32x32_S8x64x16x2x16x2 :=
  ref_ordered.val_reshape 0 (T := ⟨Cert.ReferenceIdeal.S8x64x16x2x16x2, .f32⟩) (Ta := ⟨Cert.ReferenceIdeal.S8x64x32x32, .f32⟩)
    (x := .of Cert.ReferenceIdeal.main_arg0) (y := .of Cert.ReferenceIdeal.main_call0_v0) (he := rfl)
    (hn := Cert.ReferenceIdeal.Gen.shapeCasts_S8x64x32x32_S8x64x16x2x16x2) rfl rfl (by decide) V

theorem ref_v1 : ref V (.of Cert.ReferenceIdeal.main_call0_v1)
    = transpose Cert.ReferenceIdeal.S8x16x16x64x2x2 [0, 2, 4, 1, 3, 5] (ref V (.of Cert.ReferenceIdeal.main_call0_v0))
        Cert.ReferenceIdeal.Gen.transposes_S8x64x16x2x16x2_S8x16x16x64x2x2_0_2_4_1_3_5 :=
  ref_ordered.val_unary 1 rfl rfl (by decide) V

theorem ref_v2 : ref V (.of Cert.ReferenceIdeal.main_call0_v2)
    = shapeCast Cert.ReferenceIdeal.S2048x256 (s := Cert.ReferenceIdeal.S8x16x16x64x2x2) (ref V (.of Cert.ReferenceIdeal.main_call0_v1))
        Cert.ReferenceIdeal.Gen.shapeCasts_S8x16x16x64x2x2_S2048x256 :=
  ref_ordered.val_reshape 2 (T := ⟨Cert.ReferenceIdeal.S2048x256, .f32⟩) (Ta := ⟨Cert.ReferenceIdeal.S8x16x16x64x2x2, .f32⟩)
    (x := .of Cert.ReferenceIdeal.main_call0_v1) (y := .of Cert.ReferenceIdeal.main_call0_v2) (he := rfl)
    (hn := Cert.ReferenceIdeal.Gen.shapeCasts_S8x16x16x64x2x2_S2048x256) rfl rfl (by decide) V

/-- The patches of a finite array are finite. -/
theorem patches_finite (hz : Finite (s := S8x64x32x32) (ref V (.of Cert.ReferenceIdeal.main_arg0))) :
    Finite (s := S2048x256) (ref V (.of Cert.ReferenceIdeal.main_call0_v2)) := by
  rw [ref_v2, ref_v1, ref_v0]
  exact ((hz.shapeCast _).transpose _).shapeCast _

/-- The straight-through array is the reconstruction. -/
theorem straight (hz : Finite (s := S8x64x32x32) (ref V (.of Cert.ReferenceIdeal.main_arg0))) :
    ref V (.of Cert.ReferenceIdeal.main_call0_v797) = ref V (.of Cert.ReferenceIdeal.main_call0_v785) := by
  rw [ref_v797, ref_v796]
  funext i
  exact through _ _ (patches_finite V hz i).1 (patches_finite V hz i).2

/-- The sum of the squared differences. -/
def total : EReal := ∑ b : Fin 2048, ∑ m : Fin 256,
  sqDiff (ref V (.of Cert.ReferenceIdeal.main_call0_v785)) (ref V (.of Cert.ReferenceIdeal.main_call0_v2)) b m

theorem total_nonneg : 0 ≤ total V := Finset.sum_nonneg fun _ _ => Finset.sum_nonneg fun _ _ => square_nonneg _

/-- A host sum of all the squares is `total`. -/
theorem sum_squares (R X : FVec Ideal Cert.ReferenceIdeal.S2048x256 .f32) (j : Cert.ReferenceIdeal.S_.Idx) :
    Host.reduceAdd (F := Ideal) (φ := .f32) (mulf (subf R X) (subf R X)) (constant (F := Ideal) Cert.ReferenceIdeal.S_ .f32 0x00000000#32)
      Cert.ReferenceIdeal.Gen.reducesTo_S2048x256_S_d0_1 Cert.ReferenceIdeal.Gen.h_S_ j = ∑ b : Fin 2048, ∑ m : Fin 256, sqDiff R X b m := by
  simp only [pointwise]
  unfold sqDiff
  simp

/-- The reference's loss. -/
theorem ref_loss (j : S_.Idx) : ref V (.of Cert.ReferenceIdeal.main_v0_1) j
    = Ideal.div (total V) (Ideal.ofBits .f32 0x49000000#32)
      + Ideal.ofBits .f32 0x3E800000#32 * Ideal.div (total V) (Ideal.ofBits .f32 0x49000000#32) := by
  rw [ref_v0_1, ref_v794, ref_cst_80, ref_v793, ref_cst_79, ref_v792, ref_v791, ref_v790, ref_cst_78, ref_v789, ref_cst_77, ref_v788,
    ref_cst_76, ref_v787, ref_v786]
  have e := sum_squares (ref V (.of Cert.ReferenceIdeal.main_call0_v785)) (ref V (.of Cert.ReferenceIdeal.main_call0_v2)) j
  exact congrArg (fun S => Ideal.div S (Ideal.ofBits .f32 0x49000000#32)
      + Ideal.ofBits .f32 0x3E800000#32 * Ideal.div S (Ideal.ofBits .f32 0x49000000#32)) e

end Reference

variable (m : (ℓ : Loc nD τ sig) → Buf (Elt Ideal) ℓ) (ρ : Dev nD → PrngReg) (c : Dev nD) (V : RVal)
  (h : ∀ p ∈ args, Agree (W0 m ρ c) V p)

include h

/-- The second launch's reconstruction. -/
theorem left_whole : fin (W4 m ρ c) (.of main_call0_v765_0) = ref V (.of Cert.ReferenceIdeal.main_call0_v785) :=
  (((fin_low (W4 m ρ c) main_call0_v765_0 (by decide)).trans (W4_arr m ρ c 4)).trans (recon_array _ c)).trans (whole_same m ρ c V h)

/-- And its error. -/
theorem left_error : fin (W4 m ρ c) (.of main_call0_v765_1) = (fun _ => total V : Vec Ideal S1x1 .f32) := by
  refine (((fin_low (W4 m ρ c) main_call0_v765_1 (by decide)).trans (W4_arr m ρ c 5)).trans (err_array _ c)).trans ?_
  rw [upTo_total, whole_same m ρ c V h, patch_same m ρ c V h]
  rfl

/-- The losses are the same. -/
theorem loss_same : fin (W4 m ρ c) (.of main_v0_1) = ref V (.of Cert.ReferenceIdeal.main_v0_1) := by
  rw [fin_v0_1, fin_v767, fin_cst_72, fin_cst_73, fin_v766, left_error m ρ c V h]
  funext j
  rw [ref_loss, ← weigh _ (total_nonneg V)]
  rfl

/-- The quantised arrays are the same. -/
theorem quant_same (hz : Finite (s := S8x64x32x32) (ref V (.of Cert.ReferenceIdeal.main_arg0))) :
    fin (W4 m ρ c) (.of main_v0_0) = ref V (.of Cert.ReferenceIdeal.main_v0_0) := by
  rw [fin_v0_0, fin_v770, fin_v769, left_whole m ρ c V h, ref_v0_0, ref_v799, ref_v798, straight V hz]

end Cert.Vq

end
-- ==== Proof.Runs.lean ====
/-
  The two programs' runs from memories that agree on the arguments.
-/
module

public import proofs.«01_k».proof.Defs
public import proofs.«01_k».proof.Proof.KernelRun
public import proofs.«01_k».proof.Proof.Finish

@[expose] public section

set_option maxRecDepth 20000

noncomputable section

namespace Cert.Vq

open Idealize.ShloMosaic Idealize.ShloMosaic.StableHlo Idealize.ShloMosaic.TcCoe Idealize.SL.Sem
open Cert.KernelIdeal Cert.KernelIdeal.Gen

/-- The reference ends with its arguments as launched and every counter at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0 :=
  θ_run_mono (ref_run m g) fun r h =>
    ⟨fun c => ⟨(h.1 c _).trans (ref_low _ Cert.ReferenceIdeal.main_arg0 (by decide)),
      (h.1 c _).trans (ref_low _ Cert.ReferenceIdeal.main_arg1 (by decide)),
      (h.1 c _).trans (ref_low _ Cert.ReferenceIdeal.main_arg2 (by decide))⟩, h.2⟩

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/-- The memories hold the same arguments on the device. -/
def SameArgs (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)

theorem args_agree (c : Dev nD) (h : SameArgs m m' c) : ∀ p ∈ args, Agree (W0 m ρ c) (launchContents m' c) p := by
  intro p hp
  rcases List.mem_cons.mp hp with rfl | hp
  · exact heq_of_eq h.1.symm
  rcases List.mem_cons.mp hp with rfl | hp
  · exact heq_of_eq h.2.1.symm
  rcases List.mem_cons.mp hp with rfl | hp
  · exact heq_of_eq h.2.2.symm
  · exact absurd hp List.not_mem_nil

/-- The precondition says that the first argument's entries are finite. -/
theorem finite_arg [Cert.Pre_finite_z.Facts] (hp : Pre_KernelIdeal_finite_z m) (c : Dev nD) :
    Finite (s := S8x64x32x32) (m ((c.tc : Thread nD τ).loc main_arg0)) := fun i =>
  finite_of_cmp _ (congrFun (hp c) i)

theorem finite_ref (c : Dev nD) (h : SameArgs m m' c) (hz : Finite (s := S8x64x32x32) (m ((c.tc : Thread nD τ).loc main_arg0))) :
    Finite (s := S8x64x32x32) (ref (launchContents m' c) (.of Cert.ReferenceIdeal.main_arg0)) := by
  have e : ref (launchContents m' c) (.of Cert.ReferenceIdeal.main_arg0) = m ((c.tc : Thread nD τ).loc main_arg0) :=
    (ref_low (launchContents m' c) Cert.ReferenceIdeal.main_arg0 (by decide)).trans h.1
  intro i
  rw [e]
  exact hz i

/-- What the two results are. -/
def quant (c : Dev nD) : Buf (Elt Ideal) ((c.tc : Thread nD τ).loc main_v0_0) := W5 m ρ c (Proc.devRef .tc main_v0_0)
def loss (c : Dev nD) : Buf (Elt Ideal) ((c.tc : Thread nD τ).loc main_v0_1) := W5 m ρ c (Proc.devRef .tc main_v0_1)

theorem quant_ref (c : Dev nD) (h : SameArgs m m' c) (hz : Finite (s := S8x64x32x32) (m ((c.tc : Thread nD τ).loc main_arg0))) :
    after refOps (launchContents m' c) (Proc.devRef .tc Cert.ReferenceIdeal.main_v0_0) = quant m ρ c :=
  (quant_same m ρ c (launchContents m' c) (args_agree m ρ m' c h) (finite_ref m m' c h hz)).symm

theorem loss_ref (c : Dev nD) (h : SameArgs m m' c) :
    after refOps (launchContents m' c) (Proc.devRef .tc Cert.ReferenceIdeal.main_v0_1) = loss m ρ c :=
  (loss_same m ρ c (launchContents m' c) (args_agree m ρ m' c h)).symm

/-- The two programs end with the same results. -/
theorem same_results [hP : Cert.Pre_finite_z.Facts] : algebraic_KernelIdeal_ReferenceIdeal_pre_finite_z := by
  intro m g m' g' hp h
  refine ⟨quant m g, loss m g, θ_run_mono (kernel_run m g) fun r hr c => ?_, θ_run_mono (ref_run m' g') fun r hr c => ?_⟩
  · exact ⟨hr.1 c _ (mem_uc main_v0_0 (by decide)), hr.1 c _ (mem_uc main_v0_1 (by decide)),
      (hr.1 c _ (mem_uc main_arg0 (by decide))).trans (W5_main_arg0 m g c),
      (hr.1 c _ (mem_uc main_arg1 (by decide))).trans (W5_main_arg1 m g c),
      (hr.1 c _ (mem_uc main_arg2 (by decide))).trans (W5_main_arg2 m g c)⟩
  · exact ⟨(hr.1 c _).trans (quant_ref m g m' c (h c) (finite_arg m hp c)), (hr.1 c _).trans (loss_ref m g m' c (h c)),
      (hr.1 c _).trans (ref_low _ Cert.ReferenceIdeal.main_arg0 (by decide)),
      (hr.1 c _).trans (ref_low _ Cert.ReferenceIdeal.main_arg1 (by decide)),
      (hr.1 c _).trans (ref_low _ Cert.ReferenceIdeal.main_arg2 (by decide))⟩

end Cert.Vq

end
-- ==== Proof.lean ====
/-
  The certificate: the frames of the two kernel programs, the frame of the reference from its run, and the two results from
  `Cert.Vq.same_results`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Runs

@[expose] public section

noncomputable section

namespace Cert.Proof

open Idealize.ShloMosaic Idealize.SL.Sem

/-- The side condition of the precondition's broadcast. -/
theorem pre_facts : Cert.Pre_finite_z.Facts := ⟨by decide⟩

theorem claim : Cert.Claim :=
  ⟨Cert.Kernel.Gen.facts, Cert.KernelIdeal.Gen.facts, Cert.ReferenceIdeal.Gen.facts, pre_facts,
    fun m ρ _ => Cert.Kernel.Gen.frame m ρ,
    fun m ρ _ => Cert.KernelIdeal.Gen.frame m ρ,
    fun m ρ _ => Cert.KernelIdeal.Gen.frame m ρ,
    fun m ρ _ => Cert.Vq.ref_frame m ρ,
    fun m ρ _ => Cert.Vq.ref_frame m ρ,
    trivial,
    Cert.Vq.same_results (hP := pre_facts)⟩

end Cert.Proof

end
